-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelD (m : (ℓ : Loc Cert.KernelD.nD Cert.KernelD.τ Cert.KernelD.sig) → Buf (Elt Bits) ℓ) : Prop :=
  True

def Pre_KernelDIdeal (m : (ℓ : Loc Cert.KernelDIdeal.nD Cert.KernelDIdeal.τ Cert.KernelDIdeal.sig) → Buf (Elt Ideal) ℓ) : Prop :=
  True

def Pre_KernelDIdeal_finite_d [hPre_finite_d : Cert.Pre_finite_d.Facts] (m : (ℓ : Loc Cert.KernelDIdeal.nD Cert.KernelDIdeal.τ Cert.KernelDIdeal.sig) → Buf (Elt Ideal) ℓ) : Prop :=
  ∀ c : Dev Cert.KernelDIdeal.nD,
    (Cert.Pre_finite_d.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4))) = (fun _ => 1#1)

def Pre_ReferenceDIdeal (m : (ℓ : Loc Cert.ReferenceDIdeal.nD Cert.ReferenceDIdeal.τ Cert.ReferenceDIdeal.sig) → Buf (Elt Ideal) ℓ) : Prop :=
  True

def Pre_ReferenceDIdeal_finite_d [hPre_finite_d : Cert.Pre_finite_d.Facts] (m : (ℓ : Loc Cert.ReferenceDIdeal.nD Cert.ReferenceDIdeal.τ Cert.ReferenceDIdeal.sig) → Buf (Elt Ideal) ℓ) : Prop :=
  ∀ c : Dev Cert.ReferenceDIdeal.nD,
    (Cert.Pre_finite_d.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_KernelPoolIdeal_still_padding [hPre_still_padding : Cert.Pre_still_padding.Facts] (m : (ℓ : Loc Cert.KernelPoolIdeal.nD Cert.KernelPoolIdeal.τ Cert.KernelPoolIdeal.sig) → Buf (Elt Ideal) ℓ) : Prop :=
  ∀ c : Dev Cert.KernelPoolIdeal.nD,
    (Cert.Pre_still_padding.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2))) = (fun _ => 1#1)

def Pre_ReferencePoolIdeal (m : (ℓ : Loc Cert.ReferencePoolIdeal.nD Cert.ReferencePoolIdeal.τ Cert.ReferencePoolIdeal.sig) → Buf (Elt Ideal) ℓ) : Prop :=
  True

def Pre_ReferencePoolIdeal_still_padding [hPre_still_padding : Cert.Pre_still_padding.Facts] (m : (ℓ : Loc Cert.ReferencePoolIdeal.nD Cert.ReferencePoolIdeal.τ Cert.ReferencePoolIdeal.sig) → Buf (Elt Ideal) ℓ) : Prop :=
  ∀ c : Dev Cert.ReferencePoolIdeal.nD,
    (Cert.Pre_still_padding.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelD [hKernelD : Cert.KernelD.Facts] : Prop :=
  ∀ (m : (ℓ : Loc Cert.KernelD.nD Cert.KernelD.τ Cert.KernelD.sig) → Buf (Elt Bits) ℓ) (g : Dev Cert.KernelD.nD → PrngReg), Pre_KernelD m →
    θ_run (Cert.KernelD.defs (F := Bits)) (onTc (τ := Cert.KernelD.τ) (Cert.KernelD.main (F := Bits))) ⟨m, fun _ => 0, g⟩ (fun r => (∀ c : Dev Cert.KernelD.nD,
      r.2.mem ((c.tc : Thread Cert.KernelD.nD Cert.KernelD.τ).loc Cert.KernelD.main_arg0) = m ((c.tc : Thread Cert.KernelD.nD Cert.KernelD.τ).loc Cert.KernelD.main_arg0)
      ∧ r.2.mem ((c.tc : Thread Cert.KernelD.nD Cert.KernelD.τ).loc Cert.KernelD.main_arg1) = m ((c.tc : Thread Cert.KernelD.nD Cert.KernelD.τ).loc Cert.KernelD.main_arg1)
      ∧ r.2.mem ((c.tc : Thread Cert.KernelD.nD Cert.KernelD.τ).loc Cert.KernelD.main_arg2) = m ((c.tc : Thread Cert.KernelD.nD Cert.KernelD.τ).loc Cert.KernelD.main_arg2)
      ∧ r.2.mem ((c.tc : Thread Cert.KernelD.nD Cert.KernelD.τ).loc Cert.KernelD.main_arg3) = m ((c.tc : Thread Cert.KernelD.nD Cert.KernelD.τ).loc Cert.KernelD.main_arg3)
      ∧ r.2.mem ((c.tc : Thread Cert.KernelD.nD Cert.KernelD.τ).loc Cert.KernelD.main_arg4) = m ((c.tc : Thread Cert.KernelD.nD Cert.KernelD.τ).loc Cert.KernelD.main_arg4))
      ∧ r.2.sem = fun _ => 0)

def quiescent_KernelDIdeal [hKernelDIdeal : Cert.KernelDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
      ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
      ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
      ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4))
      ∧ r.2.sem = fun _ => 0)

def quiescent_KernelDIdeal_pre_finite_d [hKernelDIdeal : Cert.KernelDIdeal.Facts] [hPre_finite_d : Cert.Pre_finite_d.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal_finite_d m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
      ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
      ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
      ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4))
      ∧ r.2.sem = fun _ => 0)

def quiescent_ReferenceDIdeal [hReferenceDIdeal : Cert.ReferenceDIdeal.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1)
      ∧ r.2.mem ((c.tc : Thread Cert.ReferenceDIdeal.nD Cert.ReferenceDIdeal.τ).loc Cert.ReferenceDIdeal.main_arg2) = m ((c.tc : Thread Cert.ReferenceDIdeal.nD Cert.ReferenceDIdeal.τ).loc Cert.ReferenceDIdeal.main_arg2)
      ∧ r.2.mem ((c.tc : Thread Cert.ReferenceDIdeal.nD Cert.ReferenceDIdeal.τ).loc Cert.ReferenceDIdeal.main_arg3) = m ((c.tc : Thread Cert.ReferenceDIdeal.nD Cert.ReferenceDIdeal.τ).loc Cert.ReferenceDIdeal.main_arg3)
      ∧ r.2.mem ((c.tc : Thread Cert.ReferenceDIdeal.nD Cert.ReferenceDIdeal.τ).loc Cert.ReferenceDIdeal.main_arg4) = m ((c.tc : Thread Cert.ReferenceDIdeal.nD Cert.ReferenceDIdeal.τ).loc Cert.ReferenceDIdeal.main_arg4))
      ∧ r.2.sem = fun _ => 0)

def quiescent_ReferenceDIdeal_pre_finite_d [hReferenceDIdeal : Cert.ReferenceDIdeal.Facts] [hPre_finite_d : Cert.Pre_finite_d.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal_finite_d m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1)
      ∧ r.2.mem ((c.tc : Thread Cert.ReferenceDIdeal.nD Cert.ReferenceDIdeal.τ).loc Cert.ReferenceDIdeal.main_arg2) = m ((c.tc : Thread Cert.ReferenceDIdeal.nD Cert.ReferenceDIdeal.τ).loc Cert.ReferenceDIdeal.main_arg2)
      ∧ r.2.mem ((c.tc : Thread Cert.ReferenceDIdeal.nD Cert.ReferenceDIdeal.τ).loc Cert.ReferenceDIdeal.main_arg3) = m ((c.tc : Thread Cert.ReferenceDIdeal.nD Cert.ReferenceDIdeal.τ).loc Cert.ReferenceDIdeal.main_arg3)
      ∧ r.2.mem ((c.tc : Thread Cert.ReferenceDIdeal.nD Cert.ReferenceDIdeal.τ).loc Cert.ReferenceDIdeal.main_arg4) = m ((c.tc : Thread Cert.ReferenceDIdeal.nD Cert.ReferenceDIdeal.τ).loc Cert.ReferenceDIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2))
      ∧ r.2.sem = fun _ => 0)

def quiescent_KernelPoolIdeal_pre_still_padding [hKernelPoolIdeal : Cert.KernelPoolIdeal.Facts] [hPre_still_padding : Cert.Pre_still_padding.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal_still_padding m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2))
      ∧ r.2.sem = fun _ => 0)

def quiescent_ReferencePoolIdeal_pre_still_padding [hReferencePoolIdeal : Cert.ReferencePoolIdeal.Facts] [hPre_still_padding : Cert.Pre_still_padding.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal_still_padding m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2))
      ∧ r.2.sem = fun _ => 0)

def preserves_Kernel_KernelIdeal : Prop :=
  IdealRules.named_const.Statement Cert.KernelIdeal.κ "masked" .f32 0xF149F2CA#32 ⊥

def algebraic_KernelIdeal_ReferenceIdeal_on_real_rows_pre_finite_gains [hKernelIdeal : Cert.KernelIdeal.Facts] [hReferenceIdeal : Cert.ReferenceIdeal.Facts] [hPre_finite_gains : Cert.Pre_finite_gains.Facts] [hOn_real_rows : Cert.On_real_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8704, 1024]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v73) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8704, 1024]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v165) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelD_KernelDIdeal : Prop :=
  IdealRules.named_const.Statement Cert.KernelDIdeal.κ "masked" .f32 0xF149F2CA#32 ⊥

def algebraic_KernelDIdeal_ReferenceDIdeal_on_real_rows_d_pre_finite_d [hKernelDIdeal : Cert.KernelDIdeal.Facts] [hReferenceDIdeal : Cert.ReferenceDIdeal.Facts] [hPre_finite_d : Cert.Pre_finite_d.Facts] [hOn_real_rows_d : Cert.On_real_rows_d.Facts] : Prop :=
  ∀ (m : (ℓ : Loc Cert.KernelDIdeal.nD Cert.KernelDIdeal.τ Cert.KernelDIdeal.sig) → Buf (Elt Ideal) ℓ) (g : Dev Cert.KernelDIdeal.nD → PrngReg)
    (m' : (ℓ : Loc Cert.ReferenceDIdeal.nD Cert.ReferenceDIdeal.τ Cert.ReferenceDIdeal.sig) → Buf (Elt Ideal) ℓ) (g' : Dev Cert.ReferenceDIdeal.nD → PrngReg), Pre_KernelDIdeal_finite_d m →
    (∀ c : Dev Cert.KernelDIdeal.nD,
      m' ((c.tc : Thread Cert.ReferenceDIdeal.nD Cert.ReferenceDIdeal.τ).loc Cert.ReferenceDIdeal.main_arg0) = m ((c.tc : Thread Cert.KernelDIdeal.nD Cert.KernelDIdeal.τ).loc Cert.KernelDIdeal.main_arg0)
      ∧ m' ((c.tc : Thread Cert.ReferenceDIdeal.nD Cert.ReferenceDIdeal.τ).loc Cert.ReferenceDIdeal.main_arg1) = m ((c.tc : Thread Cert.KernelDIdeal.nD Cert.KernelDIdeal.τ).loc Cert.KernelDIdeal.main_arg1)
      ∧ m' ((c.tc : Thread Cert.ReferenceDIdeal.nD Cert.ReferenceDIdeal.τ).loc Cert.ReferenceDIdeal.main_arg2) = m ((c.tc : Thread Cert.KernelDIdeal.nD Cert.KernelDIdeal.τ).loc Cert.KernelDIdeal.main_arg2)
      ∧ m' ((c.tc : Thread Cert.ReferenceDIdeal.nD Cert.ReferenceDIdeal.τ).loc Cert.ReferenceDIdeal.main_arg3) = m ((c.tc : Thread Cert.KernelDIdeal.nD Cert.KernelDIdeal.τ).loc Cert.KernelDIdeal.main_arg3)
      ∧ m' ((c.tc : Thread Cert.ReferenceDIdeal.nD Cert.ReferenceDIdeal.τ).loc Cert.ReferenceDIdeal.main_arg4) = m ((c.tc : Thread Cert.KernelDIdeal.nD Cert.KernelDIdeal.τ).loc Cert.KernelDIdeal.main_arg4)) →
    ∃ (v0 : (c : Dev Cert.KernelDIdeal.nD) → Buf (Elt Ideal) ((c.tc : Thread Cert.KernelDIdeal.nD Cert.KernelDIdeal.τ).loc Cert.KernelDIdeal.main_v74)),
      θ_run (Cert.KernelDIdeal.defs (F := Ideal)) (onTc (τ := Cert.KernelDIdeal.τ) (Cert.KernelDIdeal.main (F := Ideal))) ⟨m, fun _ => 0, g⟩ (fun r => ∀ c : Dev Cert.KernelDIdeal.nD,
          (∀ i : (⟨2, ![8704, 1024]⟩ : Shape).Idx, (Cert.On_real_rows_d.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4))) i = 1#1 → r.2.mem ((c.tc : Thread Cert.KernelDIdeal.nD Cert.KernelDIdeal.τ).loc Cert.KernelDIdeal.main_v74) i = v0 c i)
          ∧ r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
          ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
          ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
          ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
          ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4))
      ∧ θ_run (Cert.ReferenceDIdeal.defs (F := Ideal)) (onTc (τ := Cert.ReferenceDIdeal.τ) (Cert.ReferenceDIdeal.main (F := Ideal))) ⟨m', fun _ => 0, g'⟩ (fun r => ∀ c : Dev Cert.ReferenceDIdeal.nD,
          (∀ i : (⟨2, ![8704, 1024]⟩ : Shape).Idx, (Cert.On_real_rows_d.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4))) i = 1#1 → r.2.mem ((c.tc : Thread Cert.ReferenceDIdeal.nD Cert.ReferenceDIdeal.τ).loc Cert.ReferenceDIdeal.main_v170) i = v0 c i)
          ∧ r.2.mem ((c.tc : Thread Cert.ReferenceDIdeal.nD Cert.ReferenceDIdeal.τ).loc Cert.ReferenceDIdeal.main_arg0) = m' ((c.tc : Thread Cert.ReferenceDIdeal.nD Cert.ReferenceDIdeal.τ).loc Cert.ReferenceDIdeal.main_arg0)
          ∧ r.2.mem ((c.tc : Thread Cert.ReferenceDIdeal.nD Cert.ReferenceDIdeal.τ).loc Cert.ReferenceDIdeal.main_arg1) = m' ((c.tc : Thread Cert.ReferenceDIdeal.nD Cert.ReferenceDIdeal.τ).loc Cert.ReferenceDIdeal.main_arg1)
          ∧ r.2.mem ((c.tc : Thread Cert.ReferenceDIdeal.nD Cert.ReferenceDIdeal.τ).loc Cert.ReferenceDIdeal.main_arg2) = m' ((c.tc : Thread Cert.ReferenceDIdeal.nD Cert.ReferenceDIdeal.τ).loc Cert.ReferenceDIdeal.main_arg2)
          ∧ r.2.mem ((c.tc : Thread Cert.ReferenceDIdeal.nD Cert.ReferenceDIdeal.τ).loc Cert.ReferenceDIdeal.main_arg3) = m' ((c.tc : Thread Cert.ReferenceDIdeal.nD Cert.ReferenceDIdeal.τ).loc Cert.ReferenceDIdeal.main_arg3)
          ∧ r.2.mem ((c.tc : Thread Cert.ReferenceDIdeal.nD Cert.ReferenceDIdeal.τ).loc Cert.ReferenceDIdeal.main_arg4) = m' ((c.tc : Thread Cert.ReferenceDIdeal.nD Cert.ReferenceDIdeal.τ).loc Cert.ReferenceDIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v5) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v0)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v5) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v13) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)) →
    ∃ (v0 : (c : Dev Cert.KernelMixIdeal.nD) → Buf (Elt Ideal) ((c.tc : Thread Cert.KernelMixIdeal.nD Cert.KernelMixIdeal.τ).loc Cert.KernelMixIdeal.main_v2)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v2) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v45) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6))

def preserves_KernelPool_KernelPoolIdeal : Prop :=
  True

def algebraic_KernelPoolIdeal_ReferencePoolIdeal_on_real_rows_pool_pre_still_padding [hKernelPoolIdeal : Cert.KernelPoolIdeal.Facts] [hReferencePoolIdeal : Cert.ReferencePoolIdeal.Facts] [hPre_still_padding : Cert.Pre_still_padding.Facts] [hOn_real_rows_pool : Cert.On_real_rows_pool.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal_still_padding m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)
      ∧ m' ((c.tc : Thread Cert.ReferencePoolIdeal.nD Cert.ReferencePoolIdeal.τ).loc Cert.ReferencePoolIdeal.main_arg2) = m ((c.tc : Thread Cert.KernelPoolIdeal.nD Cert.KernelPoolIdeal.τ).loc Cert.KernelPoolIdeal.main_arg2)) →
    ∃ (v0 : (c : Dev Cert.KernelPoolIdeal.nD) → Buf (Elt Ideal) ((c.tc : Thread Cert.KernelPoolIdeal.nD Cert.KernelPoolIdeal.τ).loc Cert.KernelPoolIdeal.main_v1)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          (∀ i : (⟨2, ![8704, 1024]⟩ : Shape).Idx, (Cert.On_real_rows_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2))) i = 1#1 → r.2.mem ((c.tc : Thread Cert.KernelPoolIdeal.nD Cert.KernelPoolIdeal.τ).loc Cert.KernelPoolIdeal.main_v1) i = v0 c i)
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
          ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          (∀ i : (⟨2, ![8704, 1024]⟩ : Shape).Idx, (Cert.On_real_rows_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2))) i = 1#1 → r.2.mem ((c.tc : Thread Cert.ReferencePoolIdeal.nD Cert.ReferencePoolIdeal.τ).loc Cert.ReferencePoolIdeal.main_v144) i = v0 c i)
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1)
          ∧ r.2.mem ((c.tc : Thread Cert.ReferencePoolIdeal.nD Cert.ReferencePoolIdeal.τ).loc Cert.ReferencePoolIdeal.main_arg2) = m' ((c.tc : Thread Cert.ReferencePoolIdeal.nD Cert.ReferencePoolIdeal.τ).loc Cert.ReferencePoolIdeal.main_arg2))

def Claim : Prop :=
  ∃ (hKernel : Cert.Kernel.Facts) (hKernelIdeal : Cert.KernelIdeal.Facts) (hReferenceIdeal : Cert.ReferenceIdeal.Facts) (hKernelD : Cert.KernelD.Facts) (hKernelDIdeal : Cert.KernelDIdeal.Facts) (hReferenceDIdeal : Cert.ReferenceDIdeal.Facts) (hKernelIn : Cert.KernelIn.Facts) (hKernelInIdeal : Cert.KernelInIdeal.Facts) (hReferenceInIdeal : Cert.ReferenceInIdeal.Facts) (hKernelGate : Cert.KernelGate.Facts) (hKernelGateIdeal : Cert.KernelGateIdeal.Facts) (hReferenceGateIdeal : Cert.ReferenceGateIdeal.Facts) (hKernelOut : Cert.KernelOut.Facts) (hKernelOutIdeal : Cert.KernelOutIdeal.Facts) (hReferenceOutIdeal : Cert.ReferenceOutIdeal.Facts) (hKernelNorm : Cert.KernelNorm.Facts) (hKernelNormIdeal : Cert.KernelNormIdeal.Facts) (hReferenceNormIdeal : Cert.ReferenceNormIdeal.Facts) (hKernelMix : Cert.KernelMix.Facts) (hKernelMixIdeal : Cert.KernelMixIdeal.Facts) (hReferenceMixIdeal : Cert.ReferenceMixIdeal.Facts) (hKernelPool : Cert.KernelPool.Facts) (hKernelPoolIdeal : Cert.KernelPoolIdeal.Facts) (hReferencePoolIdeal : Cert.ReferencePoolIdeal.Facts) (hPre_finite_gains : Cert.Pre_finite_gains.Facts) (hPre_finite_d : Cert.Pre_finite_d.Facts) (hPre_still_padding : Cert.Pre_still_padding.Facts) (hOn_real_rows : Cert.On_real_rows.Facts) (hOn_real_rows_d : Cert.On_real_rows_d.Facts) (hOn_real_rows_pool : Cert.On_real_rows_pool.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_KernelD (hKernelD := hKernelD)
    ∧ quiescent_KernelDIdeal (hKernelDIdeal := hKernelDIdeal)
    ∧ quiescent_KernelDIdeal_pre_finite_d (hKernelDIdeal := hKernelDIdeal) (hPre_finite_d := hPre_finite_d)
    ∧ quiescent_ReferenceDIdeal (hReferenceDIdeal := hReferenceDIdeal)
    ∧ quiescent_ReferenceDIdeal_pre_finite_d (hReferenceDIdeal := hReferenceDIdeal) (hPre_finite_d := hPre_finite_d)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelPool (hKernelPool := hKernelPool)
    ∧ quiescent_KernelPoolIdeal (hKernelPoolIdeal := hKernelPoolIdeal)
    ∧ quiescent_KernelPoolIdeal_pre_still_padding (hKernelPoolIdeal := hKernelPoolIdeal) (hPre_still_padding := hPre_still_padding)
    ∧ quiescent_ReferencePoolIdeal (hReferencePoolIdeal := hReferencePoolIdeal)
    ∧ quiescent_ReferencePoolIdeal_pre_still_padding (hReferencePoolIdeal := hReferencePoolIdeal) (hPre_still_padding := hPre_still_padding)
    ∧ preserves_Kernel_KernelIdeal
    ∧ algebraic_KernelIdeal_ReferenceIdeal_on_real_rows_pre_finite_gains (hKernelIdeal := hKernelIdeal) (hReferenceIdeal := hReferenceIdeal) (hPre_finite_gains := hPre_finite_gains) (hOn_real_rows := hOn_real_rows)
    ∧ preserves_KernelD_KernelDIdeal
    ∧ algebraic_KernelDIdeal_ReferenceDIdeal_on_real_rows_d_pre_finite_d (hKernelDIdeal := hKernelDIdeal) (hReferenceDIdeal := hReferenceDIdeal) (hPre_finite_d := hPre_finite_d) (hOn_real_rows_d := hOn_real_rows_d)
    ∧ preserves_KernelIn_KernelInIdeal
    ∧ algebraic_KernelInIdeal_ReferenceInIdeal (hKernelInIdeal := hKernelInIdeal) (hReferenceInIdeal := hReferenceInIdeal)
    ∧ preserves_KernelGate_KernelGateIdeal
    ∧ algebraic_KernelGateIdeal_ReferenceGateIdeal (hKernelGateIdeal := hKernelGateIdeal) (hReferenceGateIdeal := hReferenceGateIdeal)
    ∧ preserves_KernelOut_KernelOutIdeal
    ∧ algebraic_KernelOutIdeal_ReferenceOutIdeal (hKernelOutIdeal := hKernelOutIdeal) (hReferenceOutIdeal := hReferenceOutIdeal)
    ∧ preserves_KernelNorm_KernelNormIdeal
    ∧ algebraic_KernelNormIdeal_ReferenceNormIdeal (hKernelNormIdeal := hKernelNormIdeal) (hReferenceNormIdeal := hReferenceNormIdeal)
    ∧ preserves_KernelMix_KernelMixIdeal
    ∧ algebraic_KernelMixIdeal_ReferenceMixIdeal (hKernelMixIdeal := hKernelMixIdeal) (hReferenceMixIdeal := hReferenceMixIdeal)
    ∧ preserves_KernelPool_KernelPoolIdeal
    ∧ algebraic_KernelPoolIdeal_ReferencePoolIdeal_on_real_rows_pool_pre_still_padding (hKernelPoolIdeal := hKernelPoolIdeal) (hReferencePoolIdeal := hReferencePoolIdeal) (hPre_still_padding := hPre_still_padding) (hOn_real_rows_pool := hOn_real_rows_pool)
-- ==== On_real_rows.lean ====
abbrev S8704x8704 : Shape := ⟨2, ![8704, 8704]⟩
abbrev S128 : Shape := ⟨1, ![128]⟩
abbrev S2176 : Shape := ⟨1, ![2176]⟩
abbrev S_ : Shape := ⟨0, ![]⟩
abbrev S1x2176x1 : Shape := ⟨3, ![1, 2176, 1]⟩
abbrev S4x2176x1024 : Shape := ⟨3, ![4, 2176, 1024]⟩
abbrev S8704x1024 : Shape := ⟨2, ![8704, 1024]⟩

class Facts : Prop where
  bcast_S_S2176 : S_.BroadcastsInDim S2176 (![] : Fin 0 → Fin S2176.rank)
  bcast_S2176_S1x2176x1_1 : S2176.BroadcastsInDim S1x2176x1 (![1] : Fin 1 → Fin S1x2176x1.rank)
  bcast_S1x2176x1_S4x2176x1024_0_1_2 : S1x2176x1.BroadcastsInDim S4x2176x1024 (![0, 1, 2] : Fin 3 → Fin S4x2176x1024.rank)
  shapeCasts_S4x2176x1024_S8704x1024 : S4x2176x1024.ShapeCasts S8704x1024

variable [Facts]

def fn {F : FTy → Type} [FloatOps F] (main_arg0 : FVec F S8704x8704 .bf16) (main_arg1 : FVec F S128 .f32) (main_arg2 : FVec F S128 .f32) : IVec S8704x1024 1 :=
  let main_v0 : IVec S2176 32 := iotaInDim S2176 32 0
  let main_c : IVec S_ 32 := constantI S_ 32 2064#32
  let main_v1 : IVec S2176 32 := broadcastInDim S2176 ![] bcast_S_S2176 main_c
  let main_v2 : IVec S2176 1 := cmpi .slt main_v0 main_v1
  let main_v3 : IVec S1x2176x1 1 := broadcastInDim S1x2176x1 ![1] bcast_S2176_S1x2176x1_1 main_v2
  let main_v4 : IVec S4x2176x1024 1 := broadcastInDim S4x2176x1024 ![0, 1, 2] bcast_S1x2176x1_S4x2176x1024_0_1_2 main_v3
  let main_v5 : IVec S8704x1024 1 := shapeCast S8704x1024 main_v4 shapeCasts_S4x2176x1024_S8704x1024
  main_v5
-- ==== On_real_rows_d.lean ====
abbrev S8704x8704 : Shape := ⟨2, ![8704, 8704]⟩
abbrev S128 : Shape := ⟨1, ![128]⟩
abbrev S4x128 : Shape := ⟨2, ![4, 128]⟩
abbrev S256 : Shape := ⟨1, ![256]⟩
abbrev S2176 : Shape := ⟨1, ![2176]⟩
abbrev S_ : Shape := ⟨0, ![]⟩
abbrev S1x2176x1 : Shape := ⟨3, ![1, 2176, 1]⟩
abbrev S4x2176x1024 : Shape := ⟨3, ![4, 2176, 1024]⟩
abbrev S8704x1024 : Shape := ⟨2, ![8704, 1024]⟩

class Facts : Prop where
  bcast_S_S2176 : S_.BroadcastsInDim S2176 (![] : Fin 0 → Fin S2176.rank)
  bcast_S2176_S1x2176x1_1 : S2176.BroadcastsInDim S1x2176x1 (![1] : Fin 1 → Fin S1x2176x1.rank)
  bcast_S1x2176x1_S4x2176x1024_0_1_2 : S1x2176x1.BroadcastsInDim S4x2176x1024 (![0, 1, 2] : Fin 3 → Fin S4x2176x1024.rank)
  shapeCasts_S4x2176x1024_S8704x1024 : S4x2176x1024.ShapeCasts S8704x1024

variable [Facts]

def fn {F : FTy → Type} [FloatOps F] (main_arg0 : FVec F S8704x8704 .bf16) (main_arg1 : FVec F S128 .f32) (main_arg2 : FVec F S128 .f32) (main_arg3 : FVec F S4x128 .f32) (main_arg4 : FVec F S256 .f32) : IVec S8704x1024 1 :=
  let main_v0 : IVec S2176 32 := iotaInDim S2176 32 0
  let main_c : IVec S_ 32 := constantI S_ 32 2064#32
  let main_v1 : IVec S2176 32 := broadcastInDim S2176 ![] bcast_S_S2176 main_c
  let main_v2 : IVec S2176 1 := cmpi .slt main_v0 main_v1
  let main_v3 : IVec S1x2176x1 1 := broadcastInDim S1x2176x1 ![1] bcast_S2176_S1x2176x1_1 main_v2
  let main_v4 : IVec S4x2176x1024 1 := broadcastInDim S4x2176x1024 ![0, 1, 2] bcast_S1x2176x1_S4x2176x1024_0_1_2 main_v3
  let main_v5 : IVec S8704x1024 1 := shapeCast S8704x1024 main_v4 shapeCasts_S4x2176x1024_S8704x1024
  main_v5
-- ==== On_real_rows_pool.lean ====
abbrev S8704x8704 : Shape := ⟨2, ![8704, 8704]⟩
abbrev S4x256x256 : Shape := ⟨3, ![4, 256, 256]⟩
abbrev S1024 : Shape := ⟨1, ![1024]⟩
abbrev S2176 : Shape := ⟨1, ![2176]⟩
abbrev S_ : Shape := ⟨0, ![]⟩
abbrev S1x2176x1 : Shape := ⟨3, ![1, 2176, 1]⟩
abbrev S4x2176x1024 : Shape := ⟨3, ![4, 2176, 1024]⟩
abbrev S8704x1024 : Shape := ⟨2, ![8704, 1024]⟩

class Facts : Prop where
  bcast_S_S2176 : S_.BroadcastsInDim S2176 (![] : Fin 0 → Fin S2176.rank)
  bcast_S2176_S1x2176x1_1 : S2176.BroadcastsInDim S1x2176x1 (![1] : Fin 1 → Fin S1x2176x1.rank)
  bcast_S1x2176x1_S4x2176x1024_0_1_2 : S1x2176x1.BroadcastsInDim S4x2176x1024 (![0, 1, 2] : Fin 3 → Fin S4x2176x1024.rank)
  shapeCasts_S4x2176x1024_S8704x1024 : S4x2176x1024.ShapeCasts S8704x1024

variable [Facts]

def fn {F : FTy → Type} [FloatOps F] (main_arg0 : FVec F S8704x8704 .bf16) (main_arg1 : FVec F S4x256x256 .f32) (main_arg2 : FVec F S1024 .f32) : IVec S8704x1024 1 :=
  let main_v0 : IVec S2176 32 := iotaInDim S2176 32 0
  let main_c : IVec S_ 32 := constantI S_ 32 2064#32
  let main_v1 : IVec S2176 32 := broadcastInDim S2176 ![] bcast_S_S2176 main_c
  let main_v2 : IVec S2176 1 := cmpi .slt main_v0 main_v1
  let main_v3 : IVec S1x2176x1 1 := broadcastInDim S1x2176x1 ![1] bcast_S2176_S1x2176x1_1 main_v2
  let main_v4 : IVec S4x2176x1024 1 := broadcastInDim S4x2176x1024 ![0, 1, 2] bcast_S1x2176x1_S4x2176x1024_0_1_2 main_v3
  let main_v5 : IVec S8704x1024 1 := shapeCast S8704x1024 main_v4 shapeCasts_S4x2176x1024_S8704x1024
  main_v5
-- ==== Pre_finite_d.lean ====
abbrev S8704x8704 : Shape := ⟨2, ![8704, 8704]⟩
abbrev S128 : Shape := ⟨1, ![128]⟩
abbrev S4x128 : Shape := ⟨2, ![4, 128]⟩
abbrev S256 : Shape := ⟨1, ![256]⟩
abbrev S_ : Shape := ⟨0, ![]⟩
abbrev S4x2176x8704 : Shape := ⟨3, ![4, 2176, 8704]⟩
abbrev S4x2064x1024 : Shape := ⟨3, ![4, 2064, 1024]⟩

class Facts : Prop where
  bcast_S_S128 : S_.BroadcastsInDim S128 (![] : Fin 0 → Fin S128.rank)
  reducesTo_S128_S_d0 : S128.ReducesTo [0] S_
  h_S_ : 0 < S_.numel
  bcast_S_S4x128 : S_.BroadcastsInDim S4x128 (![] : Fin 0 → Fin S4x128.rank)
  reducesTo_S4x128_S_d0_1 : S4x128.ReducesTo [0, 1] S_
  shapeCasts_S8704x8704_S4x2176x8704 : S8704x8704.ShapeCasts S4x2176x8704
  slices_S4x2176x8704_S4x2064x1024_0_0_7680 : S4x2176x8704.Slices ![0, 0, 7680] S4x2064x1024
  bitsLt_bf16_f32 : FTy.bits .bf16 < FTy.bits .f32
  bcast_S_S4x2064x1024 : S_.BroadcastsInDim S4x2064x1024 (![] : Fin 0 → Fin S4x2064x1024.rank)
  reducesTo_S4x2064x1024_S_d0_1_2 : S4x2064x1024.ReducesTo [0, 1, 2] S_

variable [Facts]

def fn_part1 {F : FTy → Type} [FloatOps F] (main_v13 : IVec S_ 1) (main_v17 : FVec F S4x2064x1024 .f32) : IVec S_ 1 :=
  let main_cst_4 : FVec F S_ .f32 := constant S_ .f32 0x7F800000#32
  let main_v18 : FVec F S4x2064x1024 .f32 := broadcastInDim S4x2064x1024 ![] bcast_S_S4x2064x1024 main_cst_4
  let main_v19 : IVec S4x2064x1024 1 := cmpf .olt main_v17 main_v18
  let main_c_5 : IVec S_ 1 := constantI S_ 1 1#1
  let main_v20 : IVec S_ 1 := (fun x v => Host.reduce IntOp.andi x v reducesTo_S4x2064x1024_S_d0_1_2 h_S_) main_v19 main_c_5
  let main_v21 : IVec S_ 1 := andi main_v13 main_v20
  main_v21

def fn {F : FTy → Type} [FloatOps F] (main_arg0 : FVec F S8704x8704 .bf16) (main_arg1 : FVec F S128 .f32) (main_arg2 : FVec F S128 .f32) (main_arg3 : FVec F S4x128 .f32) (main_arg4 : FVec F S256 .f32) : IVec S_ 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x2176x8704 .bf16 := shapeCast S4x2176x8704 main_arg0 shapeCasts_S8704x8704_S4x2176x8704
  let main_v15 : FVec F S4x2064x1024 .bf16 := (extractStridedSlice S4x2064x1024 ![0, 0, 7680] · slices_S4x2176x8704_S4x2064x1024_0_0_7680) main_v14
  let main_v16 : FVec F S4x2064x1024 .f32 := (extf .f32 · bitsLt_bf16_f32) main_v15
  let main_v17 : FVec F S4x2064x1024 .f32 := Host.absf main_v16
  fn_part1 (F := F) main_v13 main_v17
-- ==== Pre_finite_gains.lean ====
abbrev S8704x8704 : Shape := ⟨2, ![8704, 8704]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S8704x8704 .bf16) (main_arg1 : FVec F S128 .f32) (main_arg2 : FVec F S128 .f32) : IVec S_ 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Pre_still_padding.lean ====
abbrev S8704x8704 : Shape := ⟨2, ![8704, 8704]⟩
abbrev S4x256x256 : Shape := ⟨3, ![4, 256, 256]⟩
abbrev S1024 : Shape := ⟨1, ![1024]⟩
abbrev S4x2176x8704 : Shape := ⟨3, ![4, 2176, 8704]⟩
abbrev S4x112x1024 : Shape := ⟨3, ![4, 112, 1024]⟩
abbrev S4x2064x1024 : Shape := ⟨3, ![4, 2064, 1024]⟩
abbrev S_ : Shape := ⟨0, ![]⟩

class Facts : Prop where
  shapeCasts_S8704x8704_S4x2176x8704 : S8704x8704.ShapeCasts S4x2176x8704
  slices_S4x2176x8704_S4x112x1024_0_2064_4608 : S4x2176x8704.Slices ![0, 2064, 4608] S4x112x1024
  bitsLt_bf16_f32 : FTy.bits .bf16 < FTy.bits .f32
  slices_S4x2176x8704_S4x2064x1024_0_0_4608 : S4x2176x8704.Slices ![0, 0, 4608] S4x2064x1024
  bcast_S_S4x2064x1024 : S_.BroadcastsInDim S4x2064x1024 (![] : Fin 0 → Fin S4x2064x1024.rank)
  reducesTo_S4x2064x1024_S_d0_1_2 : S4x2064x1024.ReducesTo [0, 1, 2] S_
  h_S_ : 0 < S_.numel
  bcast_S_S4x112x1024 : S_.BroadcastsInDim S4x112x1024 (![] : Fin 0 → Fin S4x112x1024.rank)
  reducesTo_S4x112x1024_S_d0_1_2 : S4x112x1024.ReducesTo [0, 1, 2] S_

variable [Facts]

def fn {F : FTy → Type} [FloatOps F] (main_arg0 : FVec F S8704x8704 .bf16) (main_arg1 : FVec F S4x256x256 .f32) (main_arg2 : FVec F S1024 .f32) : IVec S_ 1 :=
  let main_v0 : FVec F S4x2176x8704 .bf16 := shapeCast S4x2176x8704 main_arg0 shapeCasts_S8704x8704_S4x2176x8704
  let main_v1 : FVec F S4x112x1024 .bf16 := (extractStridedSlice S4x112x1024 ![0, 2064, 4608] · slices_S4x2176x8704_S4x112x1024_0_2064_4608) main_v0
  let main_v2 : FVec F S4x112x1024 .f32 := (extf .f32 · bitsLt_bf16_f32) main_v1
  let main_v3 : FVec F S4x2176x8704 .bf16 := shapeCast S4x2176x8704 main_arg0 shapeCasts_S8704x8704_S4x2176x8704
  let main_v4 : FVec F S4x2064x1024 .bf16 := (extractStridedSlice S4x2064x1024 ![0, 0, 4608] · slices_S4x2176x8704_S4x2064x1024_0_0_4608) main_v3
  let main_v5 : FVec F S4x2064x1024 .f32 := (extf .f32 · bitsLt_bf16_f32) main_v4
  let main_v6 : FVec F S4x2064x1024 .f32 := Host.absf main_v5
  let main_cst : FVec F S_ .f32 := constant S_ .f32 0x7F800000#32
  let main_v7 : FVec F S4x2064x1024 .f32 := broadcastInDim S4x2064x1024 ![] bcast_S_S4x2064x1024 main_cst
  let main_v8 : IVec S4x2064x1024 1 := cmpf .olt main_v6 main_v7
  let main_c : IVec S_ 1 := constantI S_ 1 1#1
  let main_v9 : IVec S_ 1 := (fun x v => Host.reduce IntOp.andi x v reducesTo_S4x2064x1024_S_d0_1_2 h_S_) main_v8 main_c
  let main_cst_0 : FVec F S_ .f32 := constant S_ .f32 0x00000000#32
  let main_v10 : FVec F S4x112x1024 .f32 := broadcastInDim S4x112x1024 ![] bcast_S_S4x112x1024 main_cst_0
  let main_v11 : IVec S4x112x1024 1 := cmpf .oeq main_v2 main_v10
  let main_c_1 : IVec S_ 1 := constantI S_ 1 1#1
  let main_v12 : IVec S_ 1 := (fun x v => Host.reduce IntOp.andi x v reducesTo_S4x112x1024_S_d0_1_2 h_S_) main_v11 main_c_1
  let main_v13 : IVec S_ 1 := andi main_v9 main_v12
  main_v13
-- ==== Kernel.lean ====
abbrev S8704x8704 : Shape := ⟨2, ![8704, 8704]⟩
abbrev S128 : Shape := ⟨1, ![128]⟩
abbrev S_ : Shape := ⟨0, ![]⟩
abbrev S16 : Shape := ⟨1, ![16]⟩
abbrev S32 : Shape := ⟨1, ![32]⟩
abbrev S32x64 : Shape := ⟨2, ![32, 64]⟩
abbrev S2048 : Shape := ⟨1, ![2048]⟩
abbrev S2064 : Shape := ⟨1, ![2064]⟩
abbrev S64 : Shape := ⟨1, ![64]⟩
abbrev S1x64 : Shape := ⟨2, ![1, 64]⟩
abbrev S2064x1 : Shape := ⟨2, ![2064, 1]⟩
abbrev S1x32 : Shape := ⟨2, ![1, 32]⟩
abbrev S2064x32 : Shape := ⟨2, ![2064, 32]⟩
abbrev S2064x128 : Shape := ⟨2, ![2064, 128]⟩
abbrev S1x16 : Shape := ⟨2, ![1, 16]⟩
abbrev S2064x16 : Shape := ⟨2, ![2064, 16]⟩
abbrev S2064x96 : Shape := ⟨2, ![2064, 96]⟩
abbrev S2176x128 : Shape := ⟨2, ![2176, 128]⟩
abbrev S1x128 : Shape := ⟨2, ![1, 128]⟩
abbrev S8704x1024 : Shape := ⟨2, ![8704, 1024]⟩
abbrev S544x128 : Shape := ⟨2, ![544, 128]⟩
abbrev S2176 : Shape := ⟨1, ![2176]⟩
abbrev S2176x1 : Shape := ⟨2, ![2176, 1]⟩
abbrev S544 : Shape := ⟨1, ![544]⟩
abbrev S544x1 : Shape := ⟨2, ![544, 1]⟩
abbrev S1x2176 : Shape := ⟨2, ![1, 2176]⟩
abbrev S544x2176 : Shape := ⟨2, ![544, 2176]⟩

abbrev nBuf : Space → Nat
  | .hbm => 96
  | .vmem => 17
  | .smem => 0
  | _ => 0

abbrev bufTy : (tb : Table) → Fin (tcTables nBuf tb) → BufTy
  | .hbm, ⟨0, _⟩ => ⟨S8704x8704, .bf16⟩
  | .hbm, ⟨1, _⟩ => ⟨S128, .f32⟩
  | .hbm, ⟨2, _⟩ => ⟨S128, .f32⟩
  | .hbm, ⟨3, _⟩ => ⟨S_, .f32⟩
  | .hbm, ⟨4, _⟩ => ⟨S16, .f32⟩
  | .hbm, ⟨5, _⟩ => ⟨S32, .f32⟩
  | .hbm, ⟨6, _⟩ => ⟨S32x64, .f32⟩
  | .hbm, ⟨7, _⟩ => ⟨S2048, .f32⟩
  | .hbm, ⟨8, _⟩ => ⟨S2064, .f32⟩
  | .hbm, ⟨9, _⟩ => ⟨S64, .f32⟩
  | .hbm, ⟨10, _⟩ => ⟨S1x64, .f32⟩
  | .hbm, ⟨11, _⟩ => ⟨S32x64, .f32⟩
  | .hbm, ⟨12, _⟩ => ⟨S2048, .f32⟩
  | .hbm, ⟨13, _⟩ => ⟨S2064, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S2064x1, .f32⟩
  | .hbm, ⟨29, _⟩ => ⟨S1x32, .f32⟩
  | .hbm, ⟨30, _⟩ => ⟨S2064x32, .f32⟩
  | .hbm, ⟨31, _⟩ => ⟨S2064x32, .f32⟩
  | .hbm, ⟨32, _⟩ => ⟨S2064x32, .f32⟩
  | .hbm, ⟨33, _⟩ => ⟨S2064x1, .f32⟩
  | .hbm, ⟨34, _⟩ => ⟨S1x32, .f32⟩
  | .hbm, ⟨35, _⟩ => ⟨S2064x32, .f32⟩
  | .hbm, ⟨36, _⟩ => ⟨S2064x32, .f32⟩
  | .hbm, ⟨37, _⟩ => ⟨S2064x32, .f32⟩
  | .hbm, ⟨38, _⟩ => ⟨S2064x32, .f32⟩
  | .hbm, ⟨39, _⟩ => ⟨S2064x32, .f32⟩
  | .hbm, ⟨40, _⟩ => ⟨S2064x32, .f32⟩
  | .hbm, ⟨41, _⟩ => ⟨S2064x32, .f32⟩
  | .hbm, ⟨42, _⟩ => ⟨S2064x128, .f32⟩
  | .hbm, ⟨43, _⟩ => ⟨S2064x32, .f32⟩
  | .hbm, ⟨44, _⟩ => ⟨S2064x32, .f32⟩
  | .hbm, ⟨45, _⟩ => ⟨S2064x32, .f32⟩
  | .hbm, ⟨46, _⟩ => ⟨S2064x32, .f32⟩
  | .hbm, ⟨47, _⟩ => ⟨S2064x32, .f32⟩
  | .hbm, ⟨48, _⟩ => ⟨S2064x32, .f32⟩
  | .hbm, ⟨49, _⟩ => ⟨S2064x128, .f32⟩
  | .hbm, ⟨50, _⟩ => ⟨S2064, .f32⟩
  | .hbm, ⟨51, _⟩ => ⟨S2064x1, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S1x16, .f32⟩
  | .hbm, ⟨67, _⟩ => ⟨S2064x16, .f32⟩
  | .hbm, ⟨68, _⟩ => ⟨S2064x16, .f32⟩
  | .hbm, ⟨69, _⟩ => ⟨S2064x16, .f32⟩
  | .hbm, ⟨70, _⟩ => ⟨S2064x16, .f32⟩
  | .hbm, ⟨71, _⟩ => ⟨S2064x16, .f32⟩
  | .hbm, ⟨72, _⟩ => ⟨S_, .f32⟩
  | .hbm, ⟨73, _⟩ => ⟨S2064x96, .f32⟩
  | .hbm, ⟨74, _⟩ => ⟨S2064x128, .f32⟩
  | .hbm, ⟨75, _⟩ => ⟨S2064x16, .f32⟩
  | .hbm, ⟨76, _⟩ => ⟨S2064x16, .f32⟩
  | .hbm, ⟨77, _⟩ => ⟨S2064x16, .f32⟩
  | .hbm, ⟨78, _⟩ => ⟨S_, .f32⟩
  | .hbm, ⟨79, _⟩ => ⟨S2064x96, .f32⟩
  | .hbm, ⟨80, _⟩ => ⟨S2064x128, .f32⟩
  | .hbm, ⟨81, _⟩ => ⟨S_, .i32⟩
  | .hbm, ⟨82, _⟩ => ⟨S_, .f32⟩
  | .hbm, ⟨83, _⟩ => ⟨S2176x128, .f32⟩
  | .hbm, ⟨84, _⟩ => ⟨S_, .i32⟩
  | .hbm, ⟨85, _⟩ => ⟨S_, .f32⟩
  | .hbm, ⟨86, _⟩ => ⟨S2176x128, .f32⟩
  | .hbm, ⟨87, _⟩ => ⟨S_, .i32⟩
  | .hbm, ⟨88, _⟩ => ⟨S_, .f32⟩
  | .hbm, ⟨89, _⟩ => ⟨S2176x128, .f32⟩
  | .hbm, ⟨90, _⟩ => ⟨S_, .i32⟩
  | .hbm, ⟨91, _⟩ => ⟨S_, .f32⟩
  | .hbm, ⟨92, _⟩ => ⟨S2176x128, .f32⟩
  | .hbm, ⟨93, _⟩ => ⟨S1x128, .f32⟩
  | .hbm, ⟨94, _⟩ => ⟨S1x128, .f32⟩
  | .hbm, ⟨95, _⟩ => ⟨S8704x1024, .bf16⟩
  | .local _ .vmem, ⟨0, _⟩ => ⟨S544x128, .bf16⟩
  | .local _ .vmem, ⟨1, _⟩ => ⟨S544x128, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S544x128, .f32⟩
  | .local _ .vmem, ⟨7, _⟩ => ⟨S544x128, .f32⟩
  | .local _ .vmem, ⟨8, _⟩ => ⟨S544x128, .f32⟩
  | .local _ .vmem, ⟨9, _⟩ => ⟨S544x128, .f32⟩
  | .local _ .vmem, ⟨10, _⟩ => ⟨S2176x128, .f32⟩
  | .local _ .vmem, ⟨11, _⟩ => ⟨S2176x128, .f32⟩
  | .local _ .vmem, ⟨12, _⟩ => ⟨S1x128, .f32⟩
  | .local _ .vmem, ⟨13, _⟩ => ⟨S1x128, .f32⟩
  | .local _ .vmem, ⟨14, _⟩ => ⟨S544x128, .bf16⟩
  | .local _ .vmem, ⟨15, _⟩ => ⟨S544x128, .bf16⟩
  | .local _ .vmem, ⟨16, _⟩ => ⟨S2176x128, .bf16⟩
  | _, _ => ⟨S8704x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_8 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_9 : Ref sig .tc := ⟨.hbm, 78, rfl⟩
abbrev main_v65 : Ref sig .tc := ⟨.hbm, 79, rfl⟩
abbrev main_v66 : Ref sig .tc := ⟨.hbm, 80, rfl⟩
abbrev main_c : Ref sig .tc := ⟨.hbm, 81, rfl⟩
abbrev main_call0_v0 : Ref sig .tc := ⟨.hbm, 82, rfl⟩
abbrev main_v67 : Ref sig .tc := ⟨.hbm, 83, rfl⟩
abbrev main_c_10 : Ref sig .tc := ⟨.hbm, 84, rfl⟩
abbrev main_call1_v0 : Ref sig .tc := ⟨.hbm, 85, rfl⟩
abbrev main_v68 : Ref sig .tc := ⟨.hbm, 86, rfl⟩
abbrev main_c_11 : Ref sig .tc := ⟨.hbm, 87, rfl⟩
abbrev main_call2_v0 : Ref sig .tc := ⟨.hbm, 88, rfl⟩
abbrev main_v69 : Ref sig .tc := ⟨.hbm, 89, rfl⟩
abbrev main_c_12 : Ref sig .tc := ⟨.hbm, 90, rfl⟩
abbrev main_call3_v0 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨4, ![4, 2, 4, 4], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg3
  let c4_i32_0 : BitVec 32 := 4#32
  let v2 : BitVec 32 := Scalar.muli arg1 c4_i32_0
  let c0_i32 : BitVec 32 := 0#32
  let v3 : BitVec 32 := Scalar.addi c0_i32 v2
  let v4 : BitVec 32 := Scalar.addi v3 arg2
  let c0_i32_1 : BitVec 32 := 0#32
  ![v1.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c10_i32 : BitVec 32 := 10#32
  let v0 : BitVec 32 := Scalar.addi c10_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg3
  let c4_i32_0 : BitVec 32 := 4#32
  let v2 : BitVec 32 := Scalar.muli arg1 c4_i32_0
  let v3 : BitVec 32 := Scalar.addi v2 arg2
  let c0_i32 : BitVec 32 := 0#32
  ![v1.toNat, v3.toNat]

abbrev stage0_0 : Fin 2 → Memref sig .tc .vmem S544x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, false, true]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, false, true]

abbrev stage0_5 : Fin 1 → Memref sig .tc .vmem S2176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 1 → Memref sig .tc .vmem S2176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false, false]

abbrev stage0_9 : Fin 2 → Memref sig .tc .vmem S544x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true, true]
-- ==== KernelIdeal.lean ====
variable {F : FTy → Type} [FloatOps F] [Named F]
def κ : String → Option EReal := fun
  | "masked" => some ⊥
  | _ => none
-- ==== ReferenceIdeal.lean ====
abbrev S8704x8704 : Shape := ⟨2, ![8704, 8704]⟩
abbrev S128 : Shape := ⟨1, ![128]⟩
abbrev S4x2176x8704 : Shape := ⟨3, ![4, 2176, 8704]⟩
abbrev S4x2064x1024 : Shape := ⟨3, ![4, 2064, 1024]⟩
abbrev S4x2064x256 : Shape := ⟨3, ![4, 2064, 256]⟩
abbrev S_ : Shape := ⟨0, ![]⟩
abbrev S16 : Shape := ⟨1, ![16]⟩
abbrev S32 : Shape := ⟨1, ![32]⟩
abbrev S32x64 : Shape := ⟨2, ![32, 64]⟩
abbrev S2048 : Shape := ⟨1, ![2048]⟩
abbrev S2064 : Shape := ⟨1, ![2064]⟩
abbrev S64 : Shape := ⟨1, ![64]⟩
abbrev S1x64 : Shape := ⟨2, ![1, 64]⟩
abbrev S2064x1 : Shape := ⟨2, ![2064, 1]⟩
abbrev S1x32 : Shape := ⟨2, ![1, 32]⟩
abbrev S2064x32 : Shape := ⟨2, ![2064, 32]⟩
abbrev S4x2064x8x128 : Shape := ⟨4, ![4, 2064, 8, 128]⟩
abbrev S4x2064x8 : Shape := ⟨3, ![4, 2064, 8]⟩
abbrev S4x2064x8x1 : Shape := ⟨4, ![4, 2064, 8, 1]⟩
abbrev S1x1x1x128 : Shape := ⟨4, ![1, 1, 1, 128]⟩
abbrev S4x2064x2x128 : Shape := ⟨4, ![4, 2064, 2, 128]⟩
abbrev S4x2064x2 : Shape := ⟨3, ![4, 2064, 2]⟩
abbrev S4x2064x2x1 : Shape := ⟨4, ![4, 2064, 2, 1]⟩
abbrev S4x2064x8x64 : Shape := ⟨4, ![4, 2064, 8, 64]⟩
abbrev S1x2064x1x32 : Shape := ⟨4, ![1, 2064, 1, 32]⟩
abbrev S4x2064x8x32 : Shape := ⟨4, ![4, 2064, 8, 32]⟩
abbrev S4x2064x2x64 : Shape := ⟨4, ![4, 2064, 2, 64]⟩
abbrev S4x2064x2x32 : Shape := ⟨4, ![4, 2064, 2, 32]⟩
abbrev S4x2064x2x4x128 : Shape := ⟨5, ![4, 2064, 2, 4, 128]⟩
abbrev S4x2x4x2064x128 : Shape := ⟨5, ![4, 2, 4, 2064, 128]⟩
abbrev S4x2x2064x128 : Shape := ⟨4, ![4, 2, 2064, 128]⟩
abbrev S4x2x4x2064x2064 : Shape := ⟨5, ![4, 2, 4, 2064, 2064]⟩
abbrev S4x2x4x2064 : Shape := ⟨4, ![4, 2, 4, 2064]⟩
abbrev S4x2x4x2064x1 : Shape := ⟨5, ![4, 2, 4, 2064, 1]⟩
abbrev S4x2176x1024 : Shape := ⟨3, ![4, 2176, 1024]⟩
abbrev S8704x1024 : Shape := ⟨2, ![8704, 1024]⟩

abbrev nBuf : Space → Nat
  | .hbm => 186
  | .vmem => 0
  | .smem => 0
  | _ => 0

abbrev hbmTy0_0 (i : Nat) : BufTy := match i % 128 with
  | 0 => ⟨S8704x8704, .bf16⟩
  | 1 => ⟨S128, .f32⟩
  | 2 => ⟨S128, .f32⟩
  | 3 => ⟨S4x2176x8704, .bf16⟩
  | 4 => ⟨S4x2064x1024, .bf16⟩
  | 5 => ⟨S4x2064x1024, .f32⟩
  | 6 => ⟨S4x2176x8704, .bf16⟩
  | 7 => ⟨S4x2064x256, .bf16⟩
  | 8 => ⟨S4x2064x256, .f32⟩
  | 9 => ⟨S4x2176x8704, .bf16⟩
  | 10 => ⟨S4x2064x256, .bf16⟩
  | 11 => ⟨S4x2064x256, .f32⟩
  | 12 => ⟨S_, .f32⟩
  | 13 => ⟨S16, .f32⟩
  | 14 => ⟨S32, .f32⟩
  | 15 => ⟨S32x64, .f32⟩
  | 16 => ⟨S2048, .f32⟩
  | 17 => ⟨S2064, .f32⟩
  | 18 => ⟨S64, .f32⟩
  | 19 => ⟨S1x64, .f32⟩
  | 20 => ⟨S32x64, .f32⟩
  | 21 => ⟨S2048, .f32⟩
  | 22 => ⟨S2064, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S2064x1, .f32⟩
  | 38 => ⟨S1x32, .f32⟩
  | 39 => ⟨S2064x32, .f32⟩
  | 40 => ⟨S2064x32, .f32⟩
  | 41 => ⟨S2064x32, .f32⟩
  | 42 => ⟨S2064x1, .f32⟩
  | 43 => ⟨S1x32, .f32⟩
  | 44 => ⟨S2064x32, .f32⟩
  | 45 => ⟨S2064x32, .f32⟩
  | 46 => ⟨S2064x32, .f32⟩
  | 47 => ⟨S4x2064x8x128, .f32⟩
  | 48 => ⟨S4x2064x8x128, .f32⟩
  | 49 => ⟨S_, .f32⟩
  | 50 => ⟨S4x2064x8, .f32⟩
  | 51 => ⟨S4x2064x8x1, .f32⟩
  | 52 => ⟨S_, .f32⟩
  | 53 => ⟨S4x2064x8x1, .f32⟩
  | 54 => ⟨S4x2064x8x1, .f32⟩
  | 55 => ⟨S_, .f32⟩
  | 56 => ⟨S4x2064x8x1, .f32⟩
  | 57 => ⟨S4x2064x8x1, .f32⟩
  | 58 => ⟨S4x2064x8x1, .f32⟩
  | 59 => ⟨S4x2064x8x128, .f32⟩
  | 60 => ⟨S4x2064x8x128, .f32⟩
  | 61 => ⟨S1x1x1x128, .f32⟩
  | 62 => ⟨S4x2064x8x128, .f32⟩
  | 63 => ⟨S4x2064x8x128, .f32⟩
  | 64 => ⟨S4x2064x2x128, .f32⟩
  | 65 => ⟨S4x2064x2x128, .f32⟩
  | 66 => ⟨S_, .f32⟩
  | 67 => ⟨S4x2064x2, .f32⟩
  | 68 => ⟨S4x2064x2x1, .f32⟩
  | 69 => ⟨S_, .f32⟩
  | 70 => ⟨S4x2064x2x1, .f32⟩
  | 71 => ⟨S4x2064x2x1, .f32⟩
  | 72 => ⟨S_, .f32⟩
  | 73 => ⟨S4x2064x2x1, .f32⟩
  | 74 => ⟨S4x2064x2x1, .f32⟩
  | 75 => ⟨S4x2064x2x1, .f32⟩
  | 76 => ⟨S4x2064x2x128, .f32⟩
  | 77 => ⟨S4x2064x2x128, .f32⟩
  | 78 => ⟨S1x1x1x128, .f32⟩
  | 79 => ⟨S4x2064x2x128, .f32⟩
  | 80 => ⟨S4x2064x2x128, .f32⟩
  | 81 => ⟨S4x2064x2x128, .f32⟩
  | 82 => ⟨S4x2064x8x64, .f32⟩
  | 83 => ⟨S2064x32, .f32⟩
  | 84 => ⟨S1x2064x1x32, .f32⟩
  | 85 => ⟨S2064x32, .f32⟩
  | 86 => ⟨S1x2064x1x32, .f32⟩
  | 87 => ⟨S4x2064x8x32, .f32⟩
  | 88 => ⟨S4x2064x8x32, .f32⟩
  | 89 => ⟨S4x2064x8x32, .f32⟩
  | 90 => ⟨S4x2064x8x32, .f32⟩
  | 91 => ⟨S4x2064x8x32, .f32⟩
  | 92 => ⟨S4x2064x8x32, .f32⟩
  | 93 => ⟨S4x2064x8x32, .f32⟩
  | 94 => ⟨S4x2064x8x32, .f32⟩
  | 95 => ⟨S4x2064x8x32, .f32⟩
  | 96 => ⟨S4x2064x8x32, .f32⟩
  | 97 => ⟨S4x2064x8x32, .f32⟩
  | 98 => ⟨S4x2064x8x32, .f32⟩
  | 99 => ⟨S4x2064x8x64, .f32⟩
  | 100 => ⟨S4x2064x8x64, .f32⟩
  | 101 => ⟨S2064x32, .f32⟩
  | 102 => ⟨S1x2064x1x32, .f32⟩
  | 103 => ⟨S2064x32, .f32⟩
  | 104 => ⟨S1x2064x1x32, .f32⟩
  | 105 => ⟨S4x2064x8x32, .f32⟩
  | 106 => ⟨S4x2064x8x32, .f32⟩
  | 107 => ⟨S4x2064x8x32, .f32⟩
  | 108 => ⟨S4x2064x8x32, .f32⟩
  | 109 => ⟨S4x2064x8x32, .f32⟩
  | 110 => ⟨S4x2064x8x32, .f32⟩
  | 111 => ⟨S4x2064x8x32, .f32⟩
  | 112 => ⟨S4x2064x8x32, .f32⟩
  | 113 => ⟨S4x2064x8x32, .f32⟩
  | 114 => ⟨S4x2064x8x32, .f32⟩
  | 115 => ⟨S4x2064x8x32, .f32⟩
  | 116 => ⟨S4x2064x8x32, .f32⟩
  | 117 => ⟨S4x2064x8x64, .f32⟩
  | 118 => ⟨S4x2064x8x128, .f32⟩
  | 119 => ⟨S4x2064x2x64, .f32⟩
  | 120 => ⟨S2064x32, .f32⟩
  | 121 => ⟨S1x2064x1x32, .f32⟩
  | 122 => ⟨S2064x32, .f32⟩
  | 123 => ⟨S1x2064x1x32, .f32⟩
  | 124 => ⟨S4x2064x2x32, .f32⟩
  | 125 => ⟨S4x2064x2x32, .f32⟩
  | 126 => ⟨S4x2064x2x32, .f32⟩
  | 127 => ⟨S4x2064x2x32, .f32⟩
  | _ => ⟨S8704x8704, .bf16⟩

abbrev hbmTy0_1 (i : Nat) : BufTy := match i % 128 with
  | 0 => ⟨S4x2064x2x32, .f32⟩
  | 1 => ⟨S4x2064x2x32, .f32⟩
  | 2 => ⟨S4x2064x2x32, .f32⟩
  | 3 => ⟨S4x2064x2x32, .f32⟩
  | 4 => ⟨S4x2064x2x32, .f32⟩
  | 5 => ⟨S4x2064x2x32, .f32⟩
  | 6 => ⟨S4x2064x2x32, .f32⟩
  | 7 => ⟨S4x2064x2x32, .f32⟩
  | 8 => ⟨S4x2064x2x64, .f32⟩
  | 9 => ⟨S4x2064x2x64, .f32⟩
  | 10 => ⟨S2064x32, .f32⟩
  | 11 => ⟨S1x2064x1x32, .f32⟩
  | 12 => ⟨S2064x32, .f32⟩
  | 13 => ⟨S1x2064x1x32, .f32⟩
  | 14 => ⟨S4x2064x2x32, .f32⟩
  | 15 => ⟨S4x2064x2x32, .f32⟩
  | 16 => ⟨S4x2064x2x32, .f32⟩
  | 17 => ⟨S4x2064x2x32, .f32⟩
  | 18 => ⟨S4x2064x2x32, .f32⟩
  | 19 => ⟨S4x2064x2x32, .f32⟩
  | 20 => ⟨S4x2064x2x32, .f32⟩
  | 21 => ⟨S4x2064x2x32, .f32⟩
  | 22 => ⟨S4x2064x2x32, .f32⟩
  | 23 => ⟨S4x2064x2x32, .f32⟩
  | 24 => ⟨S4x2064x2x32, .f32⟩
  | 25 => ⟨S4x2064x2x32, .f32⟩
  | 26 => ⟨S4x2064x2x64, .f32⟩
  | 27 => ⟨S4x2064x2x128, .f32⟩
  | 28 => ⟨S4x2064x2x4x128, .f32⟩
  | 29 => ⟨S4x2x4x2064x128, .f32⟩
  | 30 => ⟨S4x2x2064x128, .f32⟩
  | 31 => ⟨S4x2x2064x128, .f32⟩
  | 32 => ⟨S4x2x4x2064x2064, .f32⟩
  | 33 => ⟨S_, .f32⟩
  | 34 => ⟨S4x2x4x2064x2064, .f32⟩
  | 35 => ⟨S4x2x4x2064x2064, .f32⟩
  | 36 => ⟨S_, .f32⟩
  | 37 => ⟨S4x2x4x2064, .f32⟩
  | 38 => ⟨S_, .f32⟩
  | 39 => ⟨S4x2x4x2064, .f32⟩
  | 40 => ⟨S4x2x4x2064, .f32⟩
  | 41 => ⟨S4x2x4x2064x1, .f32⟩
  | 42 => ⟨S4x2x4x2064x2064, .f32⟩
  | 43 => ⟨S4x2x4x2064x2064, .f32⟩
  | 44 => ⟨S4x2x4x2064x2064, .f32⟩
  | 45 => ⟨S_, .f32⟩
  | 46 => ⟨S4x2x4x2064, .f32⟩
  | 47 => ⟨S4x2x4x2064x1, .f32⟩
  | 48 => ⟨S4x2x4x2064x2064, .f32⟩
  | 49 => ⟨S4x2x4x2064x2064, .f32⟩
  | 50 => ⟨S4x2x4x2064x128, .f32⟩
  | 51 => ⟨S4x2064x2x4x128, .f32⟩
  | 52 => ⟨S4x2064x1024, .f32⟩
  | 53 => ⟨S_, .i32⟩
  | 54 => ⟨S_, .f32⟩
  | 55 => ⟨S4x2176x1024, .f32⟩
  | 56 => ⟨S8704x1024, .f32⟩
  | 57 => ⟨S8704x1024, .bf16⟩
  | _ => ⟨S8704x8704, .bf16⟩

abbrev hbmTy (i : Nat) : BufTy := match i / 128 with
  | 0 => hbmTy0_0 i
  | 1 => hbmTy0_1 i
  | _ => ⟨S8704x8704, .bf16⟩

abbrev bufTy : (tb : Table) → Fin (tcTables nBuf tb) → BufTy
  | .hbm, ⟨i, _⟩ => hbmTy i
  | _, _ => ⟨S8704x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_cst_10 : Ref sig .tc := ⟨.hbm, 161, rfl⟩
abbrev main_v147 : Ref sig .tc := ⟨.hbm, 162, rfl⟩
abbrev main_v148 : Ref sig .tc := ⟨.hbm, 163, rfl⟩
abbrev main_cst_11 : Ref sig .tc := ⟨.hbm, 164, rfl⟩
abbrev main_v149 : Ref sig .tc := ⟨.hbm, 165, rfl⟩
abbrev main_cst_12 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_cst_13 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_c : Ref sig .tc := ⟨.hbm, 181, rfl⟩
abbrev main_call0_v0 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩

abbrev nD : Nat := 1
abbrev τ : Topo := Topo.v7x

variable {F : FTy → Type} [FloatOps F]
-- ==== KernelD.lean ====
abbrev S8704x8704 : Shape := ⟨2, ![8704, 8704]⟩
abbrev S128 : Shape := ⟨1, ![128]⟩
abbrev S4x128 : Shape := ⟨2, ![4, 128]⟩
abbrev S256 : Shape := ⟨1, ![256]⟩
abbrev S_ : Shape := ⟨0, ![]⟩
abbrev S16 : Shape := ⟨1, ![16]⟩
abbrev S32 : Shape := ⟨1, ![32]⟩
abbrev S32x64 : Shape := ⟨2, ![32, 64]⟩
abbrev S2048 : Shape := ⟨1, ![2048]⟩
abbrev S2064 : Shape := ⟨1, ![2064]⟩
abbrev S64 : Shape := ⟨1, ![64]⟩
abbrev S1x64 : Shape := ⟨2, ![1, 64]⟩
abbrev S2064x1 : Shape := ⟨2, ![2064, 1]⟩
abbrev S1x32 : Shape := ⟨2, ![1, 32]⟩
abbrev S2064x32 : Shape := ⟨2, ![2064, 32]⟩
abbrev S2064x128 : Shape := ⟨2, ![2064, 128]⟩
abbrev S1x16 : Shape := ⟨2, ![1, 16]⟩
abbrev S2064x16 : Shape := ⟨2, ![2064, 16]⟩
abbrev S2064x96 : Shape := ⟨2, ![2064, 96]⟩
abbrev S2176x128 : Shape := ⟨2, ![2176, 128]⟩
abbrev S1x128 : Shape := ⟨2, ![1, 128]⟩
abbrev S1x256 : Shape := ⟨2, ![1, 256]⟩
abbrev S8704x1024 : Shape := ⟨2, ![8704, 1024]⟩
abbrev S544x256 : Shape := ⟨2, ![544, 256]⟩
abbrev S2176x256 : Shape := ⟨2, ![2176, 256]⟩
abbrev S544x128 : Shape := ⟨2, ![544, 128]⟩
abbrev S2176 : Shape := ⟨1, ![2176]⟩
abbrev S2176x1 : Shape := ⟨2, ![2176, 1]⟩
abbrev S1 : Shape := ⟨1, ![1]⟩
abbrev S1x1 : Shape := ⟨2, ![1, 1]⟩
abbrev S1x2176 : Shape := ⟨2, ![1, 2176]⟩
abbrev S544 : Shape := ⟨1, ![544]⟩
abbrev S544x1 : Shape := ⟨2, ![544, 1]⟩
abbrev S544x2176 : Shape := ⟨2, ![544, 2176]⟩

abbrev nBuf : Space → Nat
  | .hbm => 99
  | .vmem => 19
  | .smem => 0
  | _ => 0

abbrev bufTy : (tb : Table) → Fin (tcTables nBuf tb) → BufTy
  | .hbm, ⟨0, _⟩ => ⟨S8704x8704, .bf16⟩
  | .hbm, ⟨1, _⟩ => ⟨S128, .f32⟩
  | .hbm, ⟨2, _⟩ => ⟨S128, .f32⟩
  | .hbm, ⟨3, _⟩ => ⟨S4x128, .f32⟩
  | .hbm, ⟨4, _⟩ => ⟨S256, .f32⟩
  | .hbm, ⟨5, _⟩ => ⟨S_, .f32⟩
  | .hbm, ⟨6, _⟩ => ⟨S16, .f32⟩
  | .hbm, ⟨7, _⟩ => ⟨S32, .f32⟩
  | .hbm, ⟨8, _⟩ => ⟨S32x64, .f32⟩
  | .hbm, ⟨9, _⟩ => ⟨S2048, .f32⟩
  | .hbm, ⟨10, _⟩ => ⟨S2064, .f32⟩
  | .hbm, ⟨11, _⟩ => ⟨S64, .f32⟩
  | .hbm, ⟨12, _⟩ => ⟨S1x64, .f32⟩
  | .hbm, ⟨13, _⟩ => ⟨S32x64, .f32⟩
  | .hbm, ⟨14, _⟩ => ⟨S2048, .f32⟩
  | .hbm, ⟨15, _⟩ => ⟨S2064, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S2064x1, .f32⟩
  | .hbm, ⟨31, _⟩ => ⟨S1x32, .f32⟩
  | .hbm, ⟨32, _⟩ => ⟨S2064x32, .f32⟩
  | .hbm, ⟨33, _⟩ => ⟨S2064x32, .f32⟩
  | .hbm, ⟨34, _⟩ => ⟨S2064x32, .f32⟩
  | .hbm, ⟨35, _⟩ => ⟨S2064x1, .f32⟩
  | .hbm, ⟨36, _⟩ => ⟨S1x32, .f32⟩
  | .hbm, ⟨37, _⟩ => ⟨S2064x32, .f32⟩
  | .hbm, ⟨38, _⟩ => ⟨S2064x32, .f32⟩
  | .hbm, ⟨39, _⟩ => ⟨S2064x32, .f32⟩
  | .hbm, ⟨40, _⟩ => ⟨S2064x32, .f32⟩
  | .hbm, ⟨41, _⟩ => ⟨S2064x32, .f32⟩
  | .hbm, ⟨42, _⟩ => ⟨S2064x32, .f32⟩
  | .hbm, ⟨43, _⟩ => ⟨S2064x32, .f32⟩
  | .hbm, ⟨44, _⟩ => ⟨S2064x128, .f32⟩
  | .hbm, ⟨45, _⟩ => ⟨S2064x32, .f32⟩
  | .hbm, ⟨46, _⟩ => ⟨S2064x32, .f32⟩
  | .hbm, ⟨47, _⟩ => ⟨S2064x32, .f32⟩
  | .hbm, ⟨48, _⟩ => ⟨S2064x32, .f32⟩
  | .hbm, ⟨49, _⟩ => ⟨S2064x32, .f32⟩
  | .hbm, ⟨50, _⟩ => ⟨S2064x32, .f32⟩
  | .hbm, ⟨51, _⟩ => ⟨S2064x128, .f32⟩
  | .hbm, ⟨52, _⟩ => ⟨S2064, .f32⟩
  | .hbm, ⟨53, _⟩ => ⟨S2064x1, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S1x16, .f32⟩
  | .hbm, ⟨69, _⟩ => ⟨S2064x16, .f32⟩
  | .hbm, ⟨70, _⟩ => ⟨S2064x16, .f32⟩
  | .hbm, ⟨71, _⟩ => ⟨S2064x16, .f32⟩
  | .hbm, ⟨72, _⟩ => ⟨S2064x16, .f32⟩
  | .hbm, ⟨73, _⟩ => ⟨S2064x16, .f32⟩
  | .hbm, ⟨74, _⟩ => ⟨S_, .f32⟩
  | .hbm, ⟨75, _⟩ => ⟨S2064x96, .f32⟩
  | .hbm, ⟨76, _⟩ => ⟨S2064x128, .f32⟩
  | .hbm, ⟨77, _⟩ => ⟨S2064x16, .f32⟩
  | .hbm, ⟨78, _⟩ => ⟨S2064x16, .f32⟩
  | .hbm, ⟨79, _⟩ => ⟨S2064x16, .f32⟩
  | .hbm, ⟨80, _⟩ => ⟨S_, .f32⟩
  | .hbm, ⟨81, _⟩ => ⟨S2064x96, .f32⟩
  | .hbm, ⟨82, _⟩ => ⟨S2064x128, .f32⟩
  | .hbm, ⟨83, _⟩ => ⟨S_, .i32⟩
  | .hbm, ⟨84, _⟩ => ⟨S_, .f32⟩
  | .hbm, ⟨85, _⟩ => ⟨S2176x128, .f32⟩
  | .hbm, ⟨86, _⟩ => ⟨S_, .i32⟩
  | .hbm, ⟨87, _⟩ => ⟨S_, .f32⟩
  | .hbm, ⟨88, _⟩ => ⟨S2176x128, .f32⟩
  | .hbm, ⟨89, _⟩ => ⟨S_, .i32⟩
  | .hbm, ⟨90, _⟩ => ⟨S_, .f32⟩
  | .hbm, ⟨91, _⟩ => ⟨S2176x128, .f32⟩
  | .hbm, ⟨92, _⟩ => ⟨S_, .i32⟩
  | .hbm, ⟨93, _⟩ => ⟨S_, .f32⟩
  | .hbm, ⟨94, _⟩ => ⟨S2176x128, .f32⟩
  | .hbm, ⟨95, _⟩ => ⟨S1x128, .f32⟩
  | .hbm, ⟨96, _⟩ => ⟨S1x128, .f32⟩
  | .hbm, ⟨97, _⟩ => ⟨S1x256, .f32⟩
  | .hbm, ⟨98, _⟩ => ⟨S8704x1024, .bf16⟩
  | .local _ .vmem, ⟨0, _⟩ => ⟨S544x256, .bf16⟩
  | .local _ .vmem, ⟨1, _⟩ => ⟨S544x256, .bf16⟩
  | .local _ .vmem, ⟨2, _⟩ => ⟨S2176x256, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .bf16⟩
  | .local _ .vmem, ⟨6, _⟩ => ⟨S544x128, .f32⟩
  | .local _ .vmem, ⟨7, _⟩ => ⟨S544x128, .f32⟩
  | .local _ .vmem, ⟨8, _⟩ => ⟨S544x128, .f32⟩
  | .local _ .vmem, ⟨9, _⟩ => ⟨S544x128, .f32⟩
  | .local _ .vmem, ⟨10, _⟩ => ⟨S2176x128, .f32⟩
  | .local _ .vmem, ⟨11, _⟩ => ⟨S2176x128, .f32⟩
  | .local _ .vmem, ⟨12, _⟩ => ⟨S1x128, .f32⟩
  | .local _ .vmem, ⟨13, _⟩ => ⟨S1x128, .f32⟩
  | .local _ .vmem, ⟨14, _⟩ => ⟨S4x128, .f32⟩
  | .local _ .vmem, ⟨15, _⟩ => ⟨S1x256, .f32⟩
  | .local _ .vmem, ⟨16, _⟩ => ⟨S544x256, .bf16⟩
  | .local _ .vmem, ⟨17, _⟩ => ⟨S544x256, .bf16⟩
  | .local _ .vmem, ⟨18, _⟩ => ⟨S2176x256, .bf16⟩
  | _, _ => ⟨S8704x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_9 : Ref sig .tc := ⟨.hbm, 80, rfl⟩
abbrev main_v65 : Ref sig .tc := ⟨.hbm, 81, rfl⟩
abbrev main_v66 : Ref sig .tc := ⟨.hbm, 82, rfl⟩
abbrev main_c : Ref sig .tc := ⟨.hbm, 83, rfl⟩
abbrev main_call0_v0 : Ref sig .tc := ⟨.hbm, 84, rfl⟩
abbrev main_v67 : Ref sig .tc := ⟨.hbm, 85, rfl⟩
abbrev main_c_10 : Ref sig .tc := ⟨.hbm, 86, rfl⟩
abbrev main_call1_v0 : Ref sig .tc := ⟨.hbm, 87, rfl⟩
abbrev main_v68 : Ref sig .tc := ⟨.hbm, 88, rfl⟩
abbrev main_c_11 : Ref sig .tc := ⟨.hbm, 89, rfl⟩
abbrev main_call2_v0 : Ref sig .tc := ⟨.hbm, 90, rfl⟩
abbrev main_v69 : Ref sig .tc := ⟨.hbm, 91, rfl⟩
abbrev main_c_12 : Ref sig .tc := ⟨.hbm, 92, rfl⟩
abbrev main_call3_v0 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c22_i32 : BitVec 32 := 22#32
  let v2 : BitVec 32 := Scalar.addi c22_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.addi c26_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c30_i32 : BitVec 32 := 30#32
  let v0 : BitVec 32 := Scalar.addi c30_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S544x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S2176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S2176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S544x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelDIdeal.lean ====
variable {F : FTy → Type} [FloatOps F] [Named F]
def κ : String → Option EReal := fun
  | "masked" => some ⊥
  | _ => none
-- ==== ReferenceDIdeal.lean ====
abbrev S8704x8704 : Shape := ⟨2, ![8704, 8704]⟩
abbrev S128 : Shape := ⟨1, ![128]⟩
abbrev S4x128 : Shape := ⟨2, ![4, 128]⟩
abbrev S256 : Shape := ⟨1, ![256]⟩
abbrev S4x2176x8704 : Shape := ⟨3, ![4, 2176, 8704]⟩
abbrev S4x2064x1024 : Shape := ⟨3, ![4, 2064, 1024]⟩
abbrev S2064 : Shape := ⟨1, ![2064]⟩
abbrev S2064x1 : Shape := ⟨2, ![2064, 1]⟩
abbrev S16 : Shape := ⟨1, ![16]⟩
abbrev S_ : Shape := ⟨0, ![]⟩
abbrev S1x16 : Shape := ⟨2, ![1, 16]⟩
abbrev S2064x16 : Shape := ⟨2, ![2064, 16]⟩
abbrev S4x2064x4x2x128 : Shape := ⟨5, ![4, 2064, 4, 2, 128]⟩
abbrev S4x2064x4x2 : Shape := ⟨4, ![4, 2064, 4, 2]⟩
abbrev S4x2064x4x2x1 : Shape := ⟨5, ![4, 2064, 4, 2, 1]⟩
abbrev S1x1x1x1x128 : Shape := ⟨5, ![1, 1, 1, 1, 128]⟩
abbrev S4x2064x4x2x32 : Shape := ⟨5, ![4, 2064, 4, 2, 32]⟩
abbrev S1x2064x1x1x16 : Shape := ⟨5, ![1, 2064, 1, 1, 16]⟩
abbrev S4x2064x4x2x16 : Shape := ⟨5, ![4, 2064, 4, 2, 16]⟩
abbrev S4x2064x4x2x96 : Shape := ⟨5, ![4, 2064, 4, 2, 96]⟩
abbrev S4x2064x4x256 : Shape := ⟨4, ![4, 2064, 4, 256]⟩
abbrev S4x4x2064x256 : Shape := ⟨4, ![4, 4, 2064, 256]⟩
abbrev S1x128 : Shape := ⟨2, ![1, 128]⟩
abbrev S4x4x2064x128 : Shape := ⟨4, ![4, 4, 2064, 128]⟩
abbrev S4x4x2064x2064 : Shape := ⟨4, ![4, 4, 2064, 2064]⟩
abbrev S4x4x2064 : Shape := ⟨3, ![4, 4, 2064]⟩
abbrev S4x4x2064x1 : Shape := ⟨4, ![4, 4, 2064, 1]⟩
abbrev S1x1x1x256 : Shape := ⟨4, ![1, 1, 1, 256]⟩
abbrev S4x2176x1024 : Shape := ⟨3, ![4, 2176, 1024]⟩
abbrev S8704x1024 : Shape := ⟨2, ![8704, 1024]⟩

abbrev nBuf : Space → Nat
  | .hbm => 203
  | .vmem => 0
  | .smem => 0
  | _ => 0

abbrev hbmTy0_0 (i : Nat) : BufTy := match i % 128 with
  | 0 => ⟨S8704x8704, .bf16⟩
  | 1 => ⟨S128, .f32⟩
  | 2 => ⟨S128, .f32⟩
  | 3 => ⟨S4x128, .f32⟩
  | 4 => ⟨S256, .f32⟩
  | 5 => ⟨S4x2176x8704, .bf16⟩
  | 6 => ⟨S4x2064x1024, .bf16⟩
  | 7 => ⟨S4x2064x1024, .f32⟩
  | 8 => ⟨S4x2176x8704, .bf16⟩
  | 9 => ⟨S4x2064x1024, .bf16⟩
  | 10 => ⟨S4x2064x1024, .f32⟩
  | 11 => ⟨S4x2176x8704, .bf16⟩
  | 12 => ⟨S4x2064x1024, .bf16⟩
  | 13 => ⟨S4x2064x1024, .f32⟩
  | 14 => ⟨S2064, .f32⟩
  | 15 => ⟨S2064x1, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S1x16, .f32⟩
  | 31 => ⟨S2064x16, .f32⟩
  | 32 => ⟨S2064x16, .f32⟩
  | 33 => ⟨S2064x16, .f32⟩
  | 34 => ⟨S4x2064x4x2x128, .f32⟩
  | 35 => ⟨S4x2064x4x2x128, .f32⟩
  | 36 => ⟨S_, .f32⟩
  | 37 => ⟨S4x2064x4x2, .f32⟩
  | 38 => ⟨S4x2064x4x2x1, .f32⟩
  | 39 => ⟨S_, .f32⟩
  | 40 => ⟨S4x2064x4x2x1, .f32⟩
  | 41 => ⟨S4x2064x4x2x1, .f32⟩
  | 42 => ⟨S_, .f32⟩
  | 43 => ⟨S4x2064x4x2x1, .f32⟩
  | 44 => ⟨S4x2064x4x2x1, .f32⟩
  | 45 => ⟨S4x2064x4x2x1, .f32⟩
  | 46 => ⟨S4x2064x4x2x128, .f32⟩
  | 47 => ⟨S4x2064x4x2x128, .f32⟩
  | 48 => ⟨S1x1x1x1x128, .f32⟩
  | 49 => ⟨S4x2064x4x2x128, .f32⟩
  | 50 => ⟨S4x2064x4x2x128, .f32⟩
  | 51 => ⟨S4x2064x4x2x32, .f32⟩
  | 52 => ⟨S2064x16, .f32⟩
  | 53 => ⟨S1x2064x1x1x16, .f32⟩
  | 54 => ⟨S2064x16, .f32⟩
  | 55 => ⟨S1x2064x1x1x16, .f32⟩
  | 56 => ⟨S4x2064x4x2x16, .f32⟩
  | 57 => ⟨S4x2064x4x2x16, .f32⟩
  | 58 => ⟨S4x2064x4x2x16, .f32⟩
  | 59 => ⟨S4x2064x4x2x16, .f32⟩
  | 60 => ⟨S4x2064x4x2x16, .f32⟩
  | 61 => ⟨S4x2064x4x2x16, .f32⟩
  | 62 => ⟨S4x2064x4x2x16, .f32⟩
  | 63 => ⟨S4x2064x4x2x16, .f32⟩
  | 64 => ⟨S4x2064x4x2x16, .f32⟩
  | 65 => ⟨S4x2064x4x2x16, .f32⟩
  | 66 => ⟨S4x2064x4x2x16, .f32⟩
  | 67 => ⟨S4x2064x4x2x16, .f32⟩
  | 68 => ⟨S4x2064x4x2x32, .f32⟩
  | 69 => ⟨S4x2064x4x2x96, .f32⟩
  | 70 => ⟨S4x2064x4x2x128, .f32⟩
  | 71 => ⟨S4x2064x4x256, .f32⟩
  | 72 => ⟨S4x4x2064x256, .f32⟩
  | 73 => ⟨S4x2064x4x2x128, .f32⟩
  | 74 => ⟨S4x2064x4x2x128, .f32⟩
  | 75 => ⟨S_, .f32⟩
  | 76 => ⟨S4x2064x4x2, .f32⟩
  | 77 => ⟨S4x2064x4x2x1, .f32⟩
  | 78 => ⟨S_, .f32⟩
  | 79 => ⟨S4x2064x4x2x1, .f32⟩
  | 80 => ⟨S4x2064x4x2x1, .f32⟩
  | 81 => ⟨S_, .f32⟩
  | 82 => ⟨S4x2064x4x2x1, .f32⟩
  | 83 => ⟨S4x2064x4x2x1, .f32⟩
  | 84 => ⟨S4x2064x4x2x1, .f32⟩
  | 85 => ⟨S4x2064x4x2x128, .f32⟩
  | 86 => ⟨S4x2064x4x2x128, .f32⟩
  | 87 => ⟨S1x1x1x1x128, .f32⟩
  | 88 => ⟨S4x2064x4x2x128, .f32⟩
  | 89 => ⟨S4x2064x4x2x128, .f32⟩
  | 90 => ⟨S4x2064x4x2x32, .f32⟩
  | 91 => ⟨S2064x16, .f32⟩
  | 92 => ⟨S1x2064x1x1x16, .f32⟩
  | 93 => ⟨S2064x16, .f32⟩
  | 94 => ⟨S1x2064x1x1x16, .f32⟩
  | 95 => ⟨S4x2064x4x2x16, .f32⟩
  | 96 => ⟨S4x2064x4x2x16, .f32⟩
  | 97 => ⟨S4x2064x4x2x16, .f32⟩
  | 98 => ⟨S4x2064x4x2x16, .f32⟩
  | 99 => ⟨S4x2064x4x2x16, .f32⟩
  | 100 => ⟨S4x2064x4x2x16, .f32⟩
  | 101 => ⟨S4x2064x4x2x16, .f32⟩
  | 102 => ⟨S4x2064x4x2x16, .f32⟩
  | 103 => ⟨S4x2064x4x2x16, .f32⟩
  | 104 => ⟨S4x2064x4x2x16, .f32⟩
  | 105 => ⟨S4x2064x4x2x16, .f32⟩
  | 106 => ⟨S4x2064x4x2x16, .f32⟩
  | 107 => ⟨S4x2064x4x2x32, .f32⟩
  | 108 => ⟨S4x2064x4x2x96, .f32⟩
  | 109 => ⟨S4x2064x4x2x128, .f32⟩
  | 110 => ⟨S4x2064x4x256, .f32⟩
  | 111 => ⟨S4x4x2064x256, .f32⟩
  | 112 => ⟨S4x2064x4x256, .f32⟩
  | 113 => ⟨S4x4x2064x256, .f32⟩
  | 114 => ⟨S1x128, .f32⟩
  | 115 => ⟨S128, .f32⟩
  | 116 => ⟨S1x128, .f32⟩
  | 117 => ⟨S128, .f32⟩
  | 118 => ⟨S128, .f32⟩
  | 119 => ⟨S_, .f32⟩
  | 120 => ⟨S_, .f32⟩
  | 121 => ⟨S_, .f32⟩
  | 122 => ⟨S1x128, .f32⟩
  | 123 => ⟨S128, .f32⟩
  | 124 => ⟨S1x128, .f32⟩
  | 125 => ⟨S128, .f32⟩
  | 126 => ⟨S128, .f32⟩
  | 127 => ⟨S_, .f32⟩
  | _ => ⟨S8704x8704, .bf16⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S4x4x2064x128, .f32⟩
  | 6 => ⟨S4x4x2064x128, .f32⟩
  | 7 => ⟨S4x4x2064x128, .f32⟩
  | 8 => ⟨S4x4x2064x2064, .f32⟩
  | 9 => ⟨S_, .f32⟩
  | 10 => ⟨S4x4x2064x2064, .f32⟩
  | 11 => ⟨S4x4x2064x2064, .f32⟩
  | 12 => ⟨S4x4x2064x128, .f32⟩
  | 13 => ⟨S4x4x2064x2064, .f32⟩
  | 14 => ⟨S_, .f32⟩
  | 15 => ⟨S4x4x2064x2064, .f32⟩
  | 16 => ⟨S4x4x2064x2064, .f32⟩
  | 17 => ⟨S_, .f32⟩
  | 18 => ⟨S4x4x2064, .f32⟩
  | 19 => ⟨S_, .f32⟩
  | 20 => ⟨S4x4x2064, .f32⟩
  | 21 => ⟨S4x4x2064, .f32⟩
  | 22 => ⟨S4x4x2064x1, .f32⟩
  | 23 => ⟨S4x4x2064x2064, .f32⟩
  | 24 => ⟨S4x4x2064x2064, .f32⟩
  | 25 => ⟨S4x4x2064x2064, .f32⟩
  | 26 => ⟨S_, .f32⟩
  | 27 => ⟨S4x4x2064, .f32⟩
  | 28 => ⟨S4x4x2064x1, .f32⟩
  | 29 => ⟨S4x4x2064x2064, .f32⟩
  | 30 => ⟨S4x4x2064x2064, .f32⟩
  | 31 => ⟨S_, .f32⟩
  | 32 => ⟨S4x4x2064, .f32⟩
  | 33 => ⟨S_, .f32⟩
  | 34 => ⟨S4x4x2064, .f32⟩
  | 35 => ⟨S4x4x2064, .f32⟩
  | 36 => ⟨S4x4x2064x1, .f32⟩
  | 37 => ⟨S4x4x2064x2064, .f32⟩
  | 38 => ⟨S4x4x2064x2064, .f32⟩
  | 39 => ⟨S4x4x2064x2064, .f32⟩
  | 40 => ⟨S_, .f32⟩
  | 41 => ⟨S4x4x2064, .f32⟩
  | 42 => ⟨S4x4x2064x1, .f32⟩
  | 43 => ⟨S4x4x2064x2064, .f32⟩
  | 44 => ⟨S4x4x2064x2064, .f32⟩
  | 45 => ⟨S4x4x2064x2064, .f32⟩
  | 46 => ⟨S4x4x2064x2064, .f32⟩
  | 47 => ⟨S4x4x2064x2064, .f32⟩
  | 48 => ⟨S4x4x2064x256, .f32⟩
  | 49 => ⟨S4x4x2064x256, .f32⟩
  | 50 => ⟨S_, .f32⟩
  | 51 => ⟨S4x4x2064, .f32⟩
  | 52 => ⟨S4x4x2064x1, .f32⟩
  | 53 => ⟨S_, .f32⟩
  | 54 => ⟨S4x4x2064x1, .f32⟩
  | 55 => ⟨S4x4x2064x1, .f32⟩
  | 56 => ⟨S_, .f32⟩
  | 57 => ⟨S4x4x2064x1, .f32⟩
  | 58 => ⟨S4x4x2064x1, .f32⟩
  | 59 => ⟨S4x4x2064x1, .f32⟩
  | 60 => ⟨S4x4x2064x256, .f32⟩
  | 61 => ⟨S4x4x2064x256, .f32⟩
  | 62 => ⟨S1x1x1x256, .f32⟩
  | 63 => ⟨S4x4x2064x256, .f32⟩
  | 64 => ⟨S4x4x2064x256, .f32⟩
  | 65 => ⟨S_, .f32⟩
  | 66 => ⟨S4x4x2064x256, .f32⟩
  | 67 => ⟨S4x4x2064x256, .f32⟩
  | 68 => ⟨S4x2064x4x256, .f32⟩
  | 69 => ⟨S4x2064x1024, .f32⟩
  | 70 => ⟨S_, .i32⟩
  | 71 => ⟨S_, .f32⟩
  | 72 => ⟨S4x2176x1024, .f32⟩
  | 73 => ⟨S8704x1024, .f32⟩
  | 74 => ⟨S8704x1024, .bf16⟩
  | _ => ⟨S8704x8704, .bf16⟩

abbrev hbmTy (i : Nat) : BufTy := match i / 128 with
  | 0 => hbmTy0_0 i
  | 1 => hbmTy0_1 i
  | _ => ⟨S8704x8704, .bf16⟩

abbrev bufTy : (tb : Table) → Fin (tcTables nBuf tb) → BufTy
  | .hbm, ⟨i, _⟩ => hbmTy i
  | _, _ => ⟨S8704x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_6 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_v66 : Ref sig .tc := ⟨.hbm, 80, rfl⟩
abbrev main_cst_8 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_cst_9 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_cst_10 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_cst_11 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_cst_12 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_13 : Ref sig .tc := ⟨.hbm, 142, rfl⟩
abbrev main_v123 : Ref sig .tc := ⟨.hbm, 143, rfl⟩
abbrev main_v124 : Ref sig .tc := ⟨.hbm, 144, rfl⟩
abbrev main_cst_14 : Ref sig .tc := ⟨.hbm, 145, rfl⟩
abbrev main_v125 : Ref sig .tc := ⟨.hbm, 146, rfl⟩
abbrev main_cst_15 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_16 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_cst_17 : Ref sig .tc := ⟨.hbm, 159, rfl⟩
abbrev main_v136 : Ref sig .tc := ⟨.hbm, 160, rfl⟩
abbrev main_cst_18 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_cst_19 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_cst_20 : Ref sig .tc := ⟨.hbm, 178, rfl⟩
abbrev main_v152 : Ref sig .tc := ⟨.hbm, 179, rfl⟩
abbrev main_v153 : Ref sig .tc := ⟨.hbm, 180, rfl⟩
abbrev main_cst_21 : Ref sig .tc := ⟨.hbm, 181, rfl⟩
abbrev main_v154 : Ref sig .tc := ⟨.hbm, 182, rfl⟩
abbrev main_v155 : Ref sig .tc := ⟨.hbm, 183, rfl⟩
abbrev main_cst_22 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_cst_23 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_c : Ref sig .tc := ⟨.hbm, 198, rfl⟩
abbrev main_call0_v0 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩

abbrev nD : Nat := 1
abbrev τ : Topo := Topo.v7x

variable {F : FTy → Type} [FloatOps F]
-- ==== KernelIn.lean ====
abbrev S8704x4096 : Shape := ⟨2, ![8704, 4096]⟩
abbrev S2x4096x12800 : Shape := ⟨3, ![2, 4096, 12800]⟩
abbrev S8704x8704 : Shape := ⟨2, ![8704, 8704]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S2x4096x12800, .f32⟩
  | .hbm, ⟨2, _⟩ => ⟨S8704x8704, .bf16⟩
  | .local _ .vmem, ⟨0, _⟩ => ⟨S1088x4096, .bf16⟩
  | .local _ .vmem, ⟨1, _⟩ => ⟨S1088x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1088x512, .bf16⟩
  | .local _ .vmem, ⟨5, _⟩ => ⟨S1088x512, .bf16⟩
  | .local _ .vmem, ⟨6, _⟩ => ⟨S4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S8704x4096 : Shape := ⟨2, ![8704, 4096]⟩
abbrev S2x4096x12800 : Shape := ⟨3, ![2, 4096, 12800]⟩
abbrev S1x4096x12800 : Shape := ⟨3, ![1, 4096, 12800]⟩
abbrev S4096x12800 : Shape := ⟨2, ![4096, 12800]⟩
abbrev S8704x12800 : Shape := ⟨2, ![8704, 12800]⟩
abbrev S8704x8704 : Shape := ⟨2, ![8704, 8704]⟩

abbrev nBuf : Space → Nat
  | .hbm => 8
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x12800, .f32⟩
  | .hbm, ⟨2, _⟩ => ⟨S8704x4096, .f32⟩
  | .hbm, ⟨3, _⟩ => ⟨S1x4096x12800, .f32⟩
  | .hbm, ⟨4, _⟩ => ⟨S4096x12800, .f32⟩
  | .hbm, ⟨5, _⟩ => ⟨S8704x12800, .f32⟩
  | .hbm, ⟨6, _⟩ => ⟨S8704x8704, .f32⟩
  | .hbm, ⟨7, _⟩ => ⟨S8704x8704, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelGate.lean ====
abbrev S8704x4096 : Shape := ⟨2, ![8704, 4096]⟩
abbrev S2x4096x12800 : Shape := ⟨3, ![2, 4096, 12800]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S2x4096x12800, .f32⟩
  | .hbm, ⟨2, _⟩ => ⟨S8704x4096, .bf16⟩
  | .local _ .vmem, ⟨0, _⟩ => ⟨S1088x4096, .bf16⟩
  | .local _ .vmem, ⟨1, _⟩ => ⟨S1088x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1088x512, .bf16⟩
  | .local _ .vmem, ⟨5, _⟩ => ⟨S1088x512, .bf16⟩
  | .local _ .vmem, ⟨6, _⟩ => ⟨S4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGateIdeal.lean ====
abbrev S8704x4096 : Shape := ⟨2, ![8704, 4096]⟩
abbrev S2x4096x12800 : Shape := ⟨3, ![2, 4096, 12800]⟩
abbrev S1x4096x12800 : Shape := ⟨3, ![1, 4096, 12800]⟩
abbrev S4096x12800 : Shape := ⟨2, ![4096, 12800]⟩
abbrev S8704x12800 : Shape := ⟨2, ![8704, 12800]⟩

abbrev nBuf : Space → Nat
  | .hbm => 8
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x12800, .f32⟩
  | .hbm, ⟨2, _⟩ => ⟨S8704x4096, .f32⟩
  | .hbm, ⟨3, _⟩ => ⟨S1x4096x12800, .f32⟩
  | .hbm, ⟨4, _⟩ => ⟨S4096x12800, .f32⟩
  | .hbm, ⟨5, _⟩ => ⟨S8704x12800, .f32⟩
  | .hbm, ⟨6, _⟩ => ⟨S8704x4096, .f32⟩
  | .hbm, ⟨7, _⟩ => ⟨S8704x4096, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelOut.lean ====
abbrev S8704x4096 : Shape := ⟨2, ![8704, 4096]⟩
abbrev S2x4096x4096 : Shape := ⟨3, ![2, 4096, 4096]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩

abbrev nBuf : Space → Nat
  | .hbm => 4
  | .vmem => 9
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8704x4096, .f32⟩
  | .hbm, ⟨3, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | .local _ .vmem, ⟨8, _⟩ => ⟨S4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S8704x4096 : Shape := ⟨2, ![8704, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8704x4096, .f32⟩
  | .hbm, ⟨3, _⟩ => ⟨S8704x4096, .f32⟩
  | .hbm, ⟨4, _⟩ => ⟨S1x4096x4096, .f32⟩
  | .hbm, ⟨5, _⟩ => ⟨S4096x4096, .f32⟩
  | .hbm, ⟨6, _⟩ => ⟨S8704x4096, .f32⟩
  | .hbm, ⟨7, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelNorm.lean ====
abbrev S8704x4096 : Shape := ⟨2, ![8704, 4096]⟩
abbrev S4096 : Shape := ⟨1, ![4096]⟩
abbrev S1x4096 : Shape := ⟨2, ![1, 4096]⟩
abbrev S272x4096 : Shape := ⟨2, ![272, 4096]⟩
abbrev S272 : Shape := ⟨1, ![272]⟩
abbrev S272x1 : Shape := ⟨2, ![272, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S8704x4096, .bf16⟩
  | .local _ .vmem, ⟨0, _⟩ => ⟨S272x4096, .f32⟩
  | .local _ .vmem, ⟨1, _⟩ => ⟨S272x4096, .f32⟩
  | .local _ .vmem, ⟨2, _⟩ => ⟨S1x4096, .f32⟩
  | .local _ .vmem, ⟨3, _⟩ => ⟨S272x4096, .bf16⟩
  | .local _ .vmem, ⟨4, _⟩ => ⟨S272x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S272x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S8704x4096 : Shape := ⟨2, ![8704, 4096]⟩
abbrev S4096 : Shape := ⟨1, ![4096]⟩
abbrev S_ : Shape := ⟨0, ![]⟩
abbrev S8704 : Shape := ⟨1, ![8704]⟩
abbrev S8704x1 : Shape := ⟨2, ![8704, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8704x4096, .f32⟩
  | .hbm, ⟨3, _⟩ => ⟨S_, .f32⟩
  | .hbm, ⟨4, _⟩ => ⟨S8704, .f32⟩
  | .hbm, ⟨5, _⟩ => ⟨S8704x1, .f32⟩
  | .hbm, ⟨6, _⟩ => ⟨S_, .f32⟩
  | .hbm, ⟨7, _⟩ => ⟨S8704x1, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x1, .f32⟩
  | .hbm, ⟨13, _⟩ => ⟨S8704x4096, .f32⟩
  | .hbm, ⟨14, _⟩ => ⟨S8704x4096, .f32⟩
  | .hbm, ⟨15, _⟩ => ⟨S1x4096, .f32⟩
  | .hbm, ⟨16, _⟩ => ⟨S8704x4096, .f32⟩
  | .hbm, ⟨17, _⟩ => ⟨S8704x4096, .f32⟩
  | .hbm, ⟨18, _⟩ => ⟨S8704x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelMix.lean ====
abbrev S8704x1024 : Shape := ⟨2, ![8704, 1024]⟩
abbrev S8704x4096 : Shape := ⟨2, ![8704, 4096]⟩
abbrev S1024 : Shape := ⟨1, ![1024]⟩
abbrev S1x1024 : Shape := ⟨2, ![1, 1024]⟩
abbrev S272x1024 : Shape := ⟨2, ![272, 1024]⟩
abbrev S272x4096 : Shape := ⟨2, ![272, 4096]⟩
abbrev S272x1 : Shape := ⟨2, ![272, 1]⟩
abbrev S272 : Shape := ⟨1, ![272]⟩

abbrev nBuf : Space → Nat
  | .hbm => 10
  | .vmem => 14
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .f32⟩
  | .hbm, ⟨2, _⟩ => ⟨S8704x1024, .bf16⟩
  | .hbm, ⟨3, _⟩ => ⟨S8704x1024, .bf16⟩
  | .hbm, ⟨4, _⟩ => ⟨S8704x4096, .bf16⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S8704x4096, .bf16⟩
  | .local _ .vmem, ⟨0, _⟩ => ⟨S272x1024, .bf16⟩
  | .local _ .vmem, ⟨1, _⟩ => ⟨S272x1024, .bf16⟩
  | .local _ .vmem, ⟨2, _⟩ => ⟨S272x1024, .f32⟩
  | .local _ .vmem, ⟨3, _⟩ => ⟨S272x1024, .f32⟩
  | .local _ .vmem, ⟨4, _⟩ => ⟨S272x1024, .bf16⟩
  | .local _ .vmem, ⟨5, _⟩ => ⟨S272x1024, .bf16⟩
  | .local _ .vmem, ⟨6, _⟩ => ⟨S272x1024, .bf16⟩
  | .local _ .vmem, ⟨7, _⟩ => ⟨S272x1024, .bf16⟩
  | .local _ .vmem, ⟨8, _⟩ => ⟨S272x4096, .bf16⟩
  | .local _ .vmem, ⟨9, _⟩ => ⟨S272x4096, .bf16⟩
  | .local _ .vmem, ⟨10, _⟩ => ⟨S1x1024, .f32⟩
  | .local _ .vmem, ⟨11, _⟩ => ⟨S1x1024, .f32⟩
  | .local _ .vmem, ⟨12, _⟩ => ⟨S272x4096, .bf16⟩
  | .local _ .vmem, ⟨13, _⟩ => ⟨S272x4096, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S272x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S272x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S272x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S272x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceMixIdeal.lean ====
abbrev S8704x1024 : Shape := ⟨2, ![8704, 1024]⟩
abbrev S8704x4096 : Shape := ⟨2, ![8704, 4096]⟩
abbrev S1024 : Shape := ⟨1, ![1024]⟩
abbrev S4x2176x1024 : Shape := ⟨3, ![4, 2176, 1024]⟩
abbrev S4x2064x1024 : Shape := ⟨3, ![4, 2064, 1024]⟩
abbrev S_ : Shape := ⟨0, ![]⟩
abbrev S4x2064 : Shape := ⟨2, ![4, 2064]⟩
abbrev S4x2064x1 : Shape := ⟨3, ![4, 2064, 1]⟩
abbrev S1x1x1024 : Shape := ⟨3, ![1, 1, 1024]⟩
abbrev S4x2064x4096 : Shape := ⟨3, ![4, 2064, 4096]⟩
abbrev S4x2176x4096 : Shape := ⟨3, ![4, 2176, 4096]⟩

abbrev nBuf : Space → Nat
  | .hbm => 69
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .f32⟩
  | .hbm, ⟨2, _⟩ => ⟨S8704x1024, .bf16⟩
  | .hbm, ⟨3, _⟩ => ⟨S8704x1024, .bf16⟩
  | .hbm, ⟨4, _⟩ => ⟨S8704x4096, .bf16⟩
  | .hbm, ⟨5, _⟩ => ⟨S1024, .f32⟩
  | .hbm, ⟨6, _⟩ => ⟨S1024, .f32⟩
  | .hbm, ⟨7, _⟩ => ⟨S4x2176x1024, .bf16⟩
  | .hbm, ⟨8, _⟩ => ⟨S4x2064x1024, .bf16⟩
  | .hbm, ⟨9, _⟩ => ⟨S4x2064x1024, .f32⟩
  | .hbm, ⟨10, _⟩ => ⟨S4x2064x1024, .f32⟩
  | .hbm, ⟨11, _⟩ => ⟨S_, .f32⟩
  | .hbm, ⟨12, _⟩ => ⟨S4x2064, .f32⟩
  | .hbm, ⟨13, _⟩ => ⟨S4x2064x1, .f32⟩
  | .hbm, ⟨14, _⟩ => ⟨S_, .f32⟩
  | .hbm, ⟨15, _⟩ => ⟨S4x2064x1, .f32⟩
  | .hbm, ⟨16, _⟩ => ⟨S4x2064x1, .f32⟩
  | .hbm, ⟨17, _⟩ => ⟨S_, .f32⟩
  | .hbm, ⟨18, _⟩ => ⟨S4x2064x1, .f32⟩
  | .hbm, ⟨19, _⟩ => ⟨S4x2064x1, .f32⟩
  | .hbm, ⟨20, _⟩ => ⟨S4x2064x1, .f32⟩
  | .hbm, ⟨21, _⟩ => ⟨S4x2064x1024, .f32⟩
  | .hbm, ⟨22, _⟩ => ⟨S4x2064x1024, .f32⟩
  | .hbm, ⟨23, _⟩ => ⟨S1x1x1024, .f32⟩
  | .hbm, ⟨24, _⟩ => ⟨S4x2064x1024, .f32⟩
  | .hbm, ⟨25, _⟩ => ⟨S4x2064x1024, .f32⟩
  | .hbm, ⟨26, _⟩ => ⟨S4x2176x1024, .f32⟩
  | .hbm, ⟨27, _⟩ => ⟨S4x2064x1024, .f32⟩
  | .hbm, ⟨28, _⟩ => ⟨S4x2064x1024, .f32⟩
  | .hbm, ⟨29, _⟩ => ⟨S_, .f32⟩
  | .hbm, ⟨30, _⟩ => ⟨S4x2064, .f32⟩
  | .hbm, ⟨31, _⟩ => ⟨S4x2064x1, .f32⟩
  | .hbm, ⟨32, _⟩ => ⟨S_, .f32⟩
  | .hbm, ⟨33, _⟩ => ⟨S4x2064x1, .f32⟩
  | .hbm, ⟨34, _⟩ => ⟨S4x2064x1, .f32⟩
  | .hbm, ⟨35, _⟩ => ⟨S_, .f32⟩
  | .hbm, ⟨36, _⟩ => ⟨S4x2064x1, .f32⟩
  | .hbm, ⟨37, _⟩ => ⟨S4x2064x1, .f32⟩
  | .hbm, ⟨38, _⟩ => ⟨S4x2064x1, .f32⟩
  | .hbm, ⟨39, _⟩ => ⟨S4x2064x1024, .f32⟩
  | .hbm, ⟨40, _⟩ => ⟨S4x2064x1024, .f32⟩
  | .hbm, ⟨41, _⟩ => ⟨S1x1x1024, .f32⟩
  | .hbm, ⟨42, _⟩ => ⟨S4x2064x1024, .f32⟩
  | .hbm, ⟨43, _⟩ => ⟨S4x2064x1024, .f32⟩
  | .hbm, ⟨44, _⟩ => ⟨S4x2176x1024, .bf16⟩
  | .hbm, ⟨45, _⟩ => ⟨S4x2064x1024, .bf16⟩
  | .hbm, ⟨46, _⟩ => ⟨S4x2064x1024, .f32⟩
  | .hbm, ⟨47, _⟩ => ⟨S4x2176x1024, .bf16⟩
  | .hbm, ⟨48, _⟩ => ⟨S4x2064x1024, .bf16⟩
  | .hbm, ⟨49, _⟩ => ⟨S4x2064x1024, .f32⟩
  | .hbm, ⟨50, _⟩ => ⟨S4x2064x4096, .f32⟩
  | .hbm, ⟨51, _⟩ => ⟨S4x2176x4096, .bf16⟩
  | .hbm, ⟨52, _⟩ => ⟨S4x2064x4096, .bf16⟩
  | .hbm, ⟨53, _⟩ => ⟨S4x2064x4096, .f32⟩
  | .hbm, ⟨54, _⟩ => ⟨S4x2064x4096, .f32⟩
  | .hbm, ⟨55, _⟩ => ⟨S4x2064x4096, .f32⟩
  | .hbm, ⟨56, _⟩ => ⟨S_, .f32⟩
  | .hbm, ⟨57, _⟩ => ⟨S4x2064x4096, .f32⟩
  | .hbm, ⟨58, _⟩ => ⟨S4x2064x4096, .f32⟩
  | .hbm, ⟨59, _⟩ => ⟨S_, .f32⟩
  | .hbm, ⟨60, _⟩ => ⟨S4x2064x4096, .f32⟩
  | .hbm, ⟨61, _⟩ => ⟨S4x2064x4096, .f32⟩
  | .hbm, ⟨62, _⟩ => ⟨S4x2064x4096, .f32⟩
  | .hbm, ⟨63, _⟩ => ⟨S4x2064x4096, .f32⟩
  | .hbm, ⟨64, _⟩ => ⟨S_, .i32⟩
  | .hbm, ⟨65, _⟩ => ⟨S_, .f32⟩
  | .hbm, ⟨66, _⟩ => ⟨S4x2176x4096, .f32⟩
  | .hbm, ⟨67, _⟩ => ⟨S8704x4096, .f32⟩
  | .hbm, ⟨68, _⟩ => ⟨S8704x4096, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v41 : Ref sig .tc := ⟨.hbm, 62, rfl⟩
abbrev main_v42 : Ref sig .tc := ⟨.hbm, 63, rfl⟩
abbrev main_c : Ref sig .tc := ⟨.hbm, 64, rfl⟩
abbrev main_call1_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]
-- ==== KernelPool.lean ====
abbrev S8704x8704 : Shape := ⟨2, ![8704, 8704]⟩
abbrev S4x256x256 : Shape := ⟨3, ![4, 256, 256]⟩
abbrev S1024 : Shape := ⟨1, ![1024]⟩
abbrev S1x1024 : Shape := ⟨2, ![1, 1024]⟩
abbrev S8704x1024 : Shape := ⟨2, ![8704, 1024]⟩
abbrev S2176x256 : Shape := ⟨2, ![2176, 256]⟩
abbrev S2176x1024 : Shape := ⟨2, ![2176, 1024]⟩
abbrev S2176x1 : Shape := ⟨2, ![2176, 1]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 5
  | .vmem => 12
  | .smem => 0
  | _ => 0

abbrev bufTy : (tb : Table) → Fin (tcTables nBuf tb) → BufTy
  | .hbm, ⟨0, _⟩ => ⟨S8704x8704, .bf16⟩
  | .hbm, ⟨1, _⟩ => ⟨S4x256x256, .f32⟩
  | .hbm, ⟨2, _⟩ => ⟨S1024, .f32⟩
  | .hbm, ⟨3, _⟩ => ⟨S1x1024, .f32⟩
  | .hbm, ⟨4, _⟩ => ⟨S8704x1024, .bf16⟩
  | .local _ .vmem, ⟨0, _⟩ => ⟨S2176x256, .bf16⟩
  | .local _ .vmem, ⟨1, _⟩ => ⟨S2176x256, .bf16⟩
  | .local _ .vmem, ⟨2, _⟩ => ⟨S2176x256, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .bf16⟩
  | .local _ .vmem, ⟨6, _⟩ => ⟨S2176x256, .bf16⟩
  | .local _ .vmem, ⟨7, _⟩ => ⟨S2176x256, .bf16⟩
  | .local _ .vmem, ⟨8, _⟩ => ⟨S4x256x256, .f32⟩
  | .local _ .vmem, ⟨9, _⟩ => ⟨S1x1024, .f32⟩
  | .local _ .vmem, ⟨10, _⟩ => ⟨S2176x1024, .bf16⟩
  | .local _ .vmem, ⟨11, _⟩ => ⟨S2176x1024, .bf16⟩
  | _, _ => ⟨S8704x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_2 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2176x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferencePoolIdeal.lean ====
abbrev S8704x8704 : Shape := ⟨2, ![8704, 8704]⟩
abbrev S4x256x256 : Shape := ⟨3, ![4, 256, 256]⟩
abbrev S1024 : Shape := ⟨1, ![1024]⟩
abbrev S4x2176x8704 : Shape := ⟨3, ![4, 2176, 8704]⟩
abbrev S4x2064x1024 : Shape := ⟨3, ![4, 2064, 1024]⟩
abbrev S_ : Shape := ⟨0, ![]⟩
abbrev S4x1x1024 : Shape := ⟨3, ![4, 1, 1024]⟩
abbrev S4x2065x1024 : Shape := ⟨3, ![4, 2065, 1024]⟩
abbrev S2064 : Shape := ⟨1, ![2064]⟩
abbrev S4x2065x256 : Shape := ⟨3, ![4, 2065, 256]⟩
abbrev S1x2064x1 : Shape := ⟨3, ![1, 2064, 1]⟩
abbrev S2064x1 : Shape := ⟨2, ![2064, 1]⟩
abbrev S4x2064x256 : Shape := ⟨3, ![4, 2064, 256]⟩
abbrev S4x2064x1x256 : Shape := ⟨4, ![4, 2064, 1, 256]⟩
abbrev S4x2064x4x256 : Shape := ⟨4, ![4, 2064, 4, 256]⟩
abbrev S4x256x4x2064 : Shape := ⟨4, ![4, 256, 4, 2064]⟩
abbrev S1x1x1024 : Shape := ⟨3, ![1, 1, 1024]⟩
abbrev S4x2176x1024 : Shape := ⟨3, ![4, 2176, 1024]⟩
abbrev S8704x1024 : Shape := ⟨2, ![8704, 1024]⟩

abbrev nBuf : Space → Nat
  | .hbm => 237
  | .vmem => 0
  | .smem => 0
  | _ => 0

abbrev hbmTy0_0 (i : Nat) : BufTy := match i % 128 with
  | 0 => ⟨S8704x8704, .bf16⟩
  | 1 => ⟨S4x256x256, .f32⟩
  | 2 => ⟨S1024, .f32⟩
  | 3 => ⟨S4x2176x8704, .bf16⟩
  | 4 => ⟨S4x2064x1024, .bf16⟩
  | 5 => ⟨S4x2064x1024, .f32⟩
  | 6 => ⟨S_, .f32⟩
  | 7 => ⟨S4x1x1024, .f32⟩
  | 8 => ⟨S_, .f32⟩
  | 9 => ⟨S_, .f32⟩
  | 10 => ⟨S4x2064x1024, .f32⟩
  | 11 => ⟨S4x2065x1024, .f32⟩
  | 12 => ⟨S2064, .i32⟩
  | 13 => ⟨S_, .i32⟩
  | 14 => ⟨S2064, .i32⟩
  | 15 => ⟨S2064, .i32⟩
  | 16 => ⟨S_, .i32⟩
  | 17 => ⟨S_, .i32⟩
  | 18 => ⟨S_, .i32⟩
  | 19 => ⟨S2064, .i32⟩
  | 20 => ⟨S2064, .i32⟩
  | 21 => ⟨S_, .i32⟩
  | 22 => ⟨S2064, .i32⟩
  | 23 => ⟨S2064, .i32⟩
  | 24 => ⟨S_, .i32⟩
  | 25 => ⟨S2064, .i32⟩
  | 26 => ⟨S2064, .i32⟩
  | 27 => ⟨S_, .i32⟩
  | 28 => ⟨S2064, .i32⟩
  | 29 => ⟨S2064, .i32⟩
  | 30 => ⟨S_, .i32⟩
  | 31 => ⟨S_, .i32⟩
  | 32 => ⟨S_, .i32⟩
  | 33 => ⟨S2064, .i32⟩
  | 34 => ⟨S2064, .i32⟩
  | 35 => ⟨S_, .i32⟩
  | 36 => ⟨S2064, .i32⟩
  | 37 => ⟨S2064, .i32⟩
  | 38 => ⟨S4x2065x256, .f32⟩
  | 39 => ⟨S2064, .i32⟩
  | 40 => ⟨S2064, .f32⟩
  | 41 => ⟨S1x2064x1, .f32⟩
  | 42 => ⟨S_, .i32⟩
  | 43 => ⟨S2064, .i32⟩
  | 44 => ⟨S2064, .i1⟩
  | 45 => ⟨S_, .i32⟩
  | 46 => ⟨S2064, .i32⟩
  | 47 => ⟨S2064, .i32⟩
  | 48 => ⟨S2064, .i32⟩
  | 49 => ⟨S2064x1, .i32⟩
  | 50 => ⟨S4x2064x256, .f32⟩
  | 51 => ⟨S_, .i32⟩
  | 52 => ⟨S2064, .i32⟩
  | 53 => ⟨S2064, .i1⟩
  | 54 => ⟨S_, .i32⟩
  | 55 => ⟨S2064, .i32⟩
  | 56 => ⟨S2064, .i32⟩
  | 57 => ⟨S2064, .i32⟩
  | 58 => ⟨S2064x1, .i32⟩
  | 59 => ⟨S4x2064x256, .f32⟩
  | 60 => ⟨S4x2064x256, .f32⟩
  | 61 => ⟨S4x2064x256, .f32⟩
  | 62 => ⟨S4x2064x256, .f32⟩
  | 63 => ⟨S4x2064x256, .f32⟩
  | 64 => ⟨S4x2064x256, .f32⟩
  | 65 => ⟨S_, .i32⟩
  | 66 => ⟨S2064, .i32⟩
  | 67 => ⟨S2064, .i32⟩
  | 68 => ⟨S_, .i32⟩
  | 69 => ⟨S_, .i32⟩
  | 70 => ⟨S_, .i32⟩
  | 71 => ⟨S2064, .i32⟩
  | 72 => ⟨S2064, .i32⟩
  | 73 => ⟨S_, .i32⟩
  | 74 => ⟨S2064, .i32⟩
  | 75 => ⟨S2064, .i32⟩
  | 76 => ⟨S_, .i32⟩
  | 77 => ⟨S2064, .i32⟩
  | 78 => ⟨S2064, .i32⟩
  | 79 => ⟨S_, .i32⟩
  | 80 => ⟨S2064, .i32⟩
  | 81 => ⟨S2064, .i32⟩
  | 82 => ⟨S_, .i32⟩
  | 83 => ⟨S_, .i32⟩
  | 84 => ⟨S_, .i32⟩
  | 85 => ⟨S2064, .i32⟩
  | 86 => ⟨S2064, .i32⟩
  | 87 => ⟨S_, .i32⟩
  | 88 => ⟨S2064, .i32⟩
  | 89 => ⟨S2064, .i32⟩
  | 90 => ⟨S4x2065x256, .f32⟩
  | 91 => ⟨S2064, .i32⟩
  | 92 => ⟨S2064, .f32⟩
  | 93 => ⟨S1x2064x1, .f32⟩
  | 94 => ⟨S_, .i32⟩
  | 95 => ⟨S2064, .i32⟩
  | 96 => ⟨S2064, .i1⟩
  | 97 => ⟨S_, .i32⟩
  | 98 => ⟨S2064, .i32⟩
  | 99 => ⟨S2064, .i32⟩
  | 100 => ⟨S2064, .i32⟩
  | 101 => ⟨S2064x1, .i32⟩
  | 102 => ⟨S4x2064x256, .f32⟩
  | 103 => ⟨S_, .i32⟩
  | 104 => ⟨S2064, .i32⟩
  | 105 => ⟨S2064, .i1⟩
  | 106 => ⟨S_, .i32⟩
  | 107 => ⟨S2064, .i32⟩
  | 108 => ⟨S2064, .i32⟩
  | 109 => ⟨S2064, .i32⟩
  | 110 => ⟨S2064x1, .i32⟩
  | 111 => ⟨S4x2064x256, .f32⟩
  | 112 => ⟨S4x2064x256, .f32⟩
  | 113 => ⟨S4x2064x256, .f32⟩
  | 114 => ⟨S4x2064x256, .f32⟩
  | 115 => ⟨S4x2064x256, .f32⟩
  | 116 => ⟨S4x2064x256, .f32⟩
  | 117 => ⟨S_, .i32⟩
  | 118 => ⟨S2064, .i32⟩
  | 119 => ⟨S2064, .i32⟩
  | 120 => ⟨S_, .i32⟩
  | 121 => ⟨S_, .i32⟩
  | 122 => ⟨S_, .i32⟩
  | 123 => ⟨S2064, .i32⟩
  | 124 => ⟨S2064, .i32⟩
  | 125 => ⟨S_, .i32⟩
  | 126 => ⟨S2064, .i32⟩
  | 127 => ⟨S2064, .i32⟩
  | _ => ⟨S8704x8704, .bf16⟩

abbrev hbmTy0_1 (i : Nat) : BufTy := match i % 128 with
  | 0 => ⟨S_, .i32⟩
  | 1 => ⟨S2064, .i32⟩
  | 2 => ⟨S2064, .i32⟩
  | 3 => ⟨S_, .i32⟩
  | 4 => ⟨S2064, .i32⟩
  | 5 => ⟨S2064, .i32⟩
  | 6 => ⟨S_, .i32⟩
  | 7 => ⟨S_, .i32⟩
  | 8 => ⟨S_, .i32⟩
  | 9 => ⟨S2064, .i32⟩
  | 10 => ⟨S2064, .i32⟩
  | 11 => ⟨S_, .i32⟩
  | 12 => ⟨S2064, .i32⟩
  | 13 => ⟨S2064, .i32⟩
  | 14 => ⟨S4x2065x256, .f32⟩
  | 15 => ⟨S2064, .i32⟩
  | 16 => ⟨S2064, .f32⟩
  | 17 => ⟨S1x2064x1, .f32⟩
  | 18 => ⟨S_, .i32⟩
  | 19 => ⟨S2064, .i32⟩
  | 20 => ⟨S2064, .i1⟩
  | 21 => ⟨S_, .i32⟩
  | 22 => ⟨S2064, .i32⟩
  | 23 => ⟨S2064, .i32⟩
  | 24 => ⟨S2064, .i32⟩
  | 25 => ⟨S2064x1, .i32⟩
  | 26 => ⟨S4x2064x256, .f32⟩
  | 27 => ⟨S_, .i32⟩
  | 28 => ⟨S2064, .i32⟩
  | 29 => ⟨S2064, .i1⟩
  | 30 => ⟨S_, .i32⟩
  | 31 => ⟨S2064, .i32⟩
  | 32 => ⟨S2064, .i32⟩
  | 33 => ⟨S2064, .i32⟩
  | 34 => ⟨S2064x1, .i32⟩
  | 35 => ⟨S4x2064x256, .f32⟩
  | 36 => ⟨S4x2064x256, .f32⟩
  | 37 => ⟨S4x2064x256, .f32⟩
  | 38 => ⟨S4x2064x256, .f32⟩
  | 39 => ⟨S4x2064x256, .f32⟩
  | 40 => ⟨S4x2064x256, .f32⟩
  | 41 => ⟨S_, .i32⟩
  | 42 => ⟨S2064, .i32⟩
  | 43 => ⟨S2064, .i32⟩
  | 44 => ⟨S_, .i32⟩
  | 45 => ⟨S_, .i32⟩
  | 46 => ⟨S_, .i32⟩
  | 47 => ⟨S2064, .i32⟩
  | 48 => ⟨S2064, .i32⟩
  | 49 => ⟨S_, .i32⟩
  | 50 => ⟨S2064, .i32⟩
  | 51 => ⟨S2064, .i32⟩
  | 52 => ⟨S_, .i32⟩
  | 53 => ⟨S2064, .i32⟩
  | 54 => ⟨S2064, .i32⟩
  | 55 => ⟨S_, .i32⟩
  | 56 => ⟨S2064, .i32⟩
  | 57 => ⟨S2064, .i32⟩
  | 58 => ⟨S_, .i32⟩
  | 59 => ⟨S_, .i32⟩
  | 60 => ⟨S_, .i32⟩
  | 61 => ⟨S2064, .i32⟩
  | 62 => ⟨S2064, .i32⟩
  | 63 => ⟨S_, .i32⟩
  | 64 => ⟨S2064, .i32⟩
  | 65 => ⟨S2064, .i32⟩
  | 66 => ⟨S4x2065x256, .f32⟩
  | 67 => ⟨S2064, .i32⟩
  | 68 => ⟨S2064, .f32⟩
  | 69 => ⟨S1x2064x1, .f32⟩
  | 70 => ⟨S_, .i32⟩
  | 71 => ⟨S2064, .i32⟩
  | 72 => ⟨S2064, .i1⟩
  | 73 => ⟨S_, .i32⟩
  | 74 => ⟨S2064, .i32⟩
  | 75 => ⟨S2064, .i32⟩
  | 76 => ⟨S2064, .i32⟩
  | 77 => ⟨S2064x1, .i32⟩
  | 78 => ⟨S4x2064x256, .f32⟩
  | 79 => ⟨S_, .i32⟩
  | 80 => ⟨S2064, .i32⟩
  | 81 => ⟨S2064, .i1⟩
  | 82 => ⟨S_, .i32⟩
  | 83 => ⟨S2064, .i32⟩
  | 84 => ⟨S2064, .i32⟩
  | 85 => ⟨S2064, .i32⟩
  | 86 => ⟨S2064x1, .i32⟩
  | 87 => ⟨S4x2064x256, .f32⟩
  | 88 => ⟨S4x2064x256, .f32⟩
  | 89 => ⟨S4x2064x256, .f32⟩
  | 90 => ⟨S4x2064x256, .f32⟩
  | 91 => ⟨S4x2064x256, .f32⟩
  | 92 => ⟨S4x2064x256, .f32⟩
  | 93 => ⟨S4x2064x1x256, .f32⟩
  | 94 => ⟨S4x2064x1x256, .f32⟩
  | 95 => ⟨S4x2064x1x256, .f32⟩
  | 96 => ⟨S4x2064x1x256, .f32⟩
  | 97 => ⟨S4x2064x4x256, .f32⟩
  | 98 => ⟨S4x256x4x2064, .f32⟩
  | 99 => ⟨S4x2064x4x256, .f32⟩
  | 100 => ⟨S4x2064x1024, .f32⟩
  | 101 => ⟨S1x1x1024, .f32⟩
  | 102 => ⟨S4x2064x1024, .f32⟩
  | 103 => ⟨S4x2064x1024, .f32⟩
  | 104 => ⟨S_, .i32⟩
  | 105 => ⟨S_, .f32⟩
  | 106 => ⟨S4x2176x1024, .f32⟩
  | 107 => ⟨S8704x1024, .f32⟩
  | 108 => ⟨S8704x1024, .bf16⟩
  | _ => ⟨S8704x8704, .bf16⟩

abbrev hbmTy (i : Nat) : BufTy := match i / 128 with
  | 0 => hbmTy0_0 i
  | 1 => hbmTy0_1 i
  | _ => ⟨S8704x8704, .bf16⟩

abbrev bufTy : (tb : Table) → Fin (tcTables nBuf tb) → BufTy
  | .hbm, ⟨i, _⟩ => hbmTy i
  | _, _ => ⟨S8704x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_c_5 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_6 : Ref sig .tc := ⟨.hbm, 42, rfl⟩
abbrev main_v19 : Ref sig .tc := ⟨.hbm, 43, rfl⟩
abbrev main_v20 : Ref sig .tc := ⟨.hbm, 44, rfl⟩
abbrev main_c_7 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_8 : Ref sig .tc := ⟨.hbm, 51, rfl⟩
abbrev main_v26 : Ref sig .tc := ⟨.hbm, 52, rfl⟩
abbrev main_v27 : Ref sig .tc := ⟨.hbm, 53, rfl⟩
abbrev main_c_9 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_10 : Ref sig .tc := ⟨.hbm, 65, rfl⟩
abbrev main_v38 : Ref sig .tc := ⟨.hbm, 66, rfl⟩
abbrev main_v39 : Ref sig .tc := ⟨.hbm, 67, rfl⟩
abbrev main_c_11 : Ref sig .tc := ⟨.hbm, 68, rfl⟩
abbrev main_c_12 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v40 : Ref sig .tc := ⟨.hbm, 75, rfl⟩
abbrev main_c_13 : Ref sig .tc := ⟨.hbm, 76, rfl⟩
abbrev main_v41 : Ref sig .tc := ⟨.hbm, 77, rfl⟩
abbrev main_v42 : Ref sig .tc := ⟨.hbm, 78, rfl⟩
abbrev main_c_14 : Ref sig .tc := ⟨.hbm, 79, rfl⟩
abbrev main_v43 : Ref sig .tc := ⟨.hbm, 80, rfl⟩
abbrev main_v44 : Ref sig .tc := ⟨.hbm, 81, rfl⟩
abbrev main_c_15 : Ref sig .tc := ⟨.hbm, 82, rfl⟩
abbrev main_c_16 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_17 : Ref sig .tc := ⟨.hbm, 94, rfl⟩
abbrev main_v50 : Ref sig .tc := ⟨.hbm, 95, rfl⟩
abbrev main_v51 : Ref sig .tc := ⟨.hbm, 96, rfl⟩
abbrev main_c_18 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_c_19 : Ref sig .tc := ⟨.hbm, 103, rfl⟩
abbrev main_v57 : Ref sig .tc := ⟨.hbm, 104, rfl⟩
abbrev main_v58 : Ref sig .tc := ⟨.hbm, 105, rfl⟩
abbrev main_c_20 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c_21 : Ref sig .tc := ⟨.hbm, 117, rfl⟩
abbrev main_v69 : Ref sig .tc := ⟨.hbm, 118, rfl⟩
abbrev main_v70 : Ref sig .tc := ⟨.hbm, 119, rfl⟩
abbrev main_c_22 : Ref sig .tc := ⟨.hbm, 120, rfl⟩
abbrev main_c_23 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_v71 : Ref sig .tc := ⟨.hbm, 127, rfl⟩
abbrev main_c_24 : Ref sig .tc := ⟨.hbm, 128, rfl⟩
abbrev main_v72 : Ref sig .tc := ⟨.hbm, 129, rfl⟩
abbrev main_v73 : Ref sig .tc := ⟨.hbm, 130, rfl⟩
abbrev main_c_25 : Ref sig .tc := ⟨.hbm, 131, rfl⟩
abbrev main_v74 : Ref sig .tc := ⟨.hbm, 132, rfl⟩
abbrev main_v75 : Ref sig .tc := ⟨.hbm, 133, rfl⟩
abbrev main_c_26 : Ref sig .tc := ⟨.hbm, 134, rfl⟩
abbrev main_c_27 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_call6_v3 : Ref sig .tc := ⟨.hbm, 139, rfl⟩
abbrev main_call6_v4 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_c_28 : Ref sig .tc := ⟨.hbm, 146, rfl⟩
abbrev main_v81 : Ref sig .tc := ⟨.hbm, 147, rfl⟩
abbrev main_v82 : Ref sig .tc := ⟨.hbm, 148, rfl⟩
abbrev main_c_29 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_c_30 : Ref sig .tc := ⟨.hbm, 155, rfl⟩
abbrev main_v88 : Ref sig .tc := ⟨.hbm, 156, rfl⟩
abbrev main_v89 : Ref sig .tc := ⟨.hbm, 157, rfl⟩
abbrev main_c_31 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_c_32 : Ref sig .tc := ⟨.hbm, 169, rfl⟩
abbrev main_v100 : Ref sig .tc := ⟨.hbm, 170, rfl⟩
abbrev main_v101 : Ref sig .tc := ⟨.hbm, 171, rfl⟩
abbrev main_c_33 : Ref sig .tc := ⟨.hbm, 172, rfl⟩
abbrev main_c_34 : Ref sig .tc := ⟨.hbm, 173, rfl⟩
abbrev main_call7_v0 : Ref sig .tc := ⟨.hbm, 174, rfl⟩
abbrev main_call7_v1 : Ref sig .tc := ⟨.hbm, 175, rfl⟩
abbrev main_call7_v2 : Ref sig .tc := ⟨.hbm, 176, rfl⟩
abbrev main_call7_v3 : Ref sig .tc := ⟨.hbm, 177, rfl⟩
abbrev main_call7_v4 : Ref sig .tc := ⟨.hbm, 178, rfl⟩
abbrev main_v102 : Ref sig .tc := ⟨.hbm, 179, rfl⟩
abbrev main_c_35 : Ref sig .tc := ⟨.hbm, 180, rfl⟩
abbrev main_v103 : Ref sig .tc := ⟨.hbm, 181, rfl⟩
abbrev main_v104 : Ref sig .tc := ⟨.hbm, 182, rfl⟩
abbrev main_c_36 : Ref sig .tc := ⟨.hbm, 183, rfl⟩
abbrev main_v105 : Ref sig .tc := ⟨.hbm, 184, rfl⟩
abbrev main_v106 : Ref sig .tc := ⟨.hbm, 185, rfl⟩
abbrev main_c_37 : Ref sig .tc := ⟨.hbm, 186, rfl⟩
abbrev main_c_38 : Ref sig .tc := ⟨.hbm, 187, rfl⟩
abbrev main_call8_v0 : Ref sig .tc := ⟨.hbm, 188, rfl⟩
abbrev main_call8_v1 : Ref sig .tc := ⟨.hbm, 189, rfl⟩
abbrev main_call8_v2 : Ref sig .tc := ⟨.hbm, 190, rfl⟩
abbrev main_call8_v3 : Ref sig .tc := ⟨.hbm, 191, rfl⟩
abbrev main_call8_v4 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_c_39 : Ref sig .tc := ⟨.hbm, 198, rfl⟩
abbrev main_v112 : Ref sig .tc := ⟨.hbm, 199, rfl⟩
abbrev main_v113 : Ref sig .tc := ⟨.hbm, 200, rfl⟩
abbrev main_c_40 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_c_41 : Ref sig .tc := ⟨.hbm, 207, rfl⟩
abbrev main_v119 : Ref sig .tc := ⟨.hbm, 208, rfl⟩
abbrev main_v120 : Ref sig .tc := ⟨.hbm, 209, rfl⟩
abbrev main_c_42 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_c_43 : Ref sig .tc := ⟨.hbm, 232, rfl⟩
abbrev main_call9_v0 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩

abbrev nD : Nat := 1
abbrev τ : Topo := Topo.v7x

variable {F : FTy → Type} [FloatOps F]
-- ==== Proof.Side.lean ====
/- The shape relations of the precondition and of the rows the claim is about. -/
module

public import proofs.«01_k».proof.Pre_finite_gains
public import proofs.«01_k».proof.On_real_rows

@[expose] public section

/-- The shape relations of the precondition hold. -/
instance Cert.Pre_finite_gains.Gen.facts : Cert.Pre_finite_gains.Facts := by constructor <;> decide

/-- The shape relations of the rows' mask hold. -/
instance Cert.On_real_rows.Gen.facts : Cert.On_real_rows.Facts := by constructor <;> decide
-- ==== Proof.SideD.lean ====
/- The shape relations of the precondition and of the rows the claim is about. -/
module

public import proofs.«01_k».proof.Pre_finite_d
public import proofs.«01_k».proof.On_real_rows_d

@[expose] public section

/-- The shape relations of the precondition hold. -/
instance Cert.Pre_finite_d.Gen.facts : Cert.Pre_finite_d.Facts := by constructor <;> decide

/-- The shape relations of the rows' mask hold. -/
instance Cert.On_real_rows_d.Gen.facts : Cert.On_real_rows_d.Facts := by constructor <;> decide
-- ==== Proof.SidePool.lean ====
/- The shape relations of the pooling's precondition and of the rows the claim is about. -/
module

public import proofs.«01_k».proof.Pre_still_padding
public import proofs.«01_k».proof.On_real_rows_pool
public import proofs.«01_k».proof.Defs
public import proofs.«01_k».proof.Proof.Gen.KernelPoolIdeal.Value
public import proofs.«01_k».proof.Proof.Gen.ReferencePoolIdeal.Run
public import proofs.«01_k».proof.Proof.Gen.ReferencePoolIdeal.Read

@[expose] public section

/-- The shape relations of the precondition hold. -/
instance Cert.Pre_still_padding.Gen.facts : Cert.Pre_still_padding.Facts := by constructor <;> decide

/-- The shape relations of the rows' mask hold. -/
instance Cert.On_real_rows_pool.Gen.facts : Cert.On_real_rows_pool.Facts := by constructor <;> decide
-- ==== Proof.In.lean ====
/- The input projection's call (all columns but the gates'): its result array is the reference's term of the two arguments. -/
module

public import proofs.«01_k».proof.Defs
public import proofs.«01_k».proof.Proof.Gen.KernelInIdeal.Value
public import proofs.«01_k».proof.Proof.Gen.ReferenceInIdeal.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.KernelInIdeal.Proj

open Cert.KernelInIdeal Cert.KernelInIdeal.Gen

variable (m : (ℓ : Loc nD τ sig) → Buf (Elt Ideal) ℓ)

/-- The reference's term of the activations and the weights. -/
def REF (U : FVec Ideal Cert.ReferenceInIdeal.S8704x4096 .bf16) (W : FVec Ideal Cert.ReferenceInIdeal.S2x4096x12800 .f32) :
    FVec Ideal Cert.ReferenceInIdeal.S8704x8704 .bf16 :=
  truncf .bf16 (extractStridedSlice Cert.ReferenceInIdeal.S8704x8704 ![0, 0] (Host.dotGeneral Cert.ReferenceInIdeal.dot_S8704x4096_S4096x12800_S8704x12800_1_0_0_1_n_n none (extf .f32 U Cert.ReferenceInIdeal.Gen.bitsLt_bf16_f32) (shapeCast _ (extractStridedSlice Cert.ReferenceInIdeal.S1x4096x12800 ![0, 0, 0] W Cert.ReferenceInIdeal.Gen.slices_S2x4096x12800_S1x4096x12800_0_0_0) Cert.ReferenceInIdeal.Gen.shapeCasts_S1x4096x12800_S4096x12800)) Cert.ReferenceInIdeal.Gen.slices_S8704x12800_S8704x8704_0_0) Cert.ReferenceInIdeal.Gen.bitsLt_bf16_f32

/-- Which block of each array grid point `t` works on. -/
theorem idx_val : ∀ t : Fin cfg0.N, win0_0.index t = ![t.val % 8, 0] ∧ win0_1.index t = ![0, 0, t.val / 8]
    ∧ win0_2.index t = ![t.val % 8, t.val / 8] :=
  (by decide +kernel : ∀ t : Fin grid0.N, _)

/-- Two points of one run of eight see the same block of the weights. -/
theorem wblk_eq (c : Dev nD) (t t' : Fin cfg0.N) (h : t.val / 8 = t'.val / 8) : iblk m c 1 t = iblk m c 1 t' := by
  funext x
  blk_ext [iblk, V, idx_val t, idx_val t']

/-- After every point the scratch holds the cast block of the weights. -/
theorem scr (c : Dev nD) : ∀ (n : ℕ) (h : n < cfg0.N), (outsAt0 m c n h).2 = k0_pay1 (iblk m c 1 ⟨n, h⟩)
  | 0, h => by
    rw [outsAt0_A m c ⟨0, h⟩ rfl]; frame_out
  | n + 1, h => by
    by_cases h0 : (n + 1) % 8 = 0
    · rw [outsAt0_A m c ⟨n + 1, h⟩ h0]; frame_out
    · rw [outsAt0_B m c ⟨n + 1, h⟩ h0]
      show (outsAt0 m c n _).2 = _
      rw [scr c n (Nat.lt_of_succ_lt h)]
      rw [wblk_eq m c ⟨n, Nat.lt_of_succ_lt h⟩ ⟨n + 1, h⟩ (by show n / 8 = (n + 1) / 8; omega)]

/-- What point `t` leaves in the output's buffer: the product of its block of rows with the cast block of the weights. -/
theorem out_eq (c : Dev nD) (t : Fin cfg0.N) :
    (outsAt0 m c t.val t.isLt).1 = k0_pay2 (iblk m c 0 t) (k0_pay1 (iblk m c 1 t)) := by
  by_cases h0 : t.val % 8 = 0
  · rw [outsAt0_A m c t h0]; frame_out
  · rw [outsAt0_B m c t h0, scr]; frame_out
    rw [wblk_eq m c ⟨t.val - 1, Nat.lt_of_le_of_lt (Nat.sub_le _ _) t.isLt⟩ t (by show (t.val - 1) / 8 = t.val / 8; omega),
      read_unread_whole]

/-- The result array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2, out_eq]
  pointwise [k0_pay2, k0_pay1, REF]
  blk_point [iblk, V, idx_val t]

/-- The claim: the run of the kernel and the run of the reference leave the same array. -/
theorem alg : Cert.algebraic_KernelInIdeal_ReferenceInIdeal (hKernelInIdeal := Cert.KernelInIdeal.Gen.facts)
    (hReferenceInIdeal := Cert.ReferenceInIdeal.Gen.facts) := by
  intro m g m' g' _ h
  refine ⟨fun c => REF (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run Cert.ReferenceInIdeal.defs _ _).mono (fun r h' c => ⟨(h' c).1.trans ?_, (h' c).2⟩)
      (Cert.ReferenceInIdeal.Value.run m' g')
    rw [(h c).1, (h c).2]
    rfl

end Cert.KernelInIdeal.Proj

end
-- ==== Proof.Gate.lean ====
/- The input projection's call for the gates' columns: its result array is the reference's term of the two arguments. -/
module

public import proofs.«01_k».proof.Proof.In
public import proofs.«01_k».proof.Proof.Gen.KernelGateIdeal.Value
public import proofs.«01_k».proof.Proof.Gen.ReferenceGateIdeal.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.KernelGateIdeal.Proj

open Cert.KernelGateIdeal Cert.KernelGateIdeal.Gen

variable (m : (ℓ : Loc nD τ sig) → Buf (Elt Ideal) ℓ)

/-- The reference's term of the activations and the weights. -/
def REF (U : FVec Ideal Cert.ReferenceGateIdeal.S8704x4096 .bf16) (W : FVec Ideal Cert.ReferenceGateIdeal.S2x4096x12800 .f32) :
    FVec Ideal Cert.ReferenceGateIdeal.S8704x4096 .bf16 :=
  truncf .bf16 (extractStridedSlice Cert.ReferenceGateIdeal.S8704x4096 ![0, 8704] (Host.dotGeneral Cert.ReferenceGateIdeal.dot_S8704x4096_S4096x12800_S8704x12800_1_0_0_1_n_n none (extf .f32 U Cert.ReferenceGateIdeal.Gen.bitsLt_bf16_f32) (shapeCast _ (extractStridedSlice Cert.ReferenceGateIdeal.S1x4096x12800 ![0, 0, 0] W Cert.ReferenceGateIdeal.Gen.slices_S2x4096x12800_S1x4096x12800_0_0_0) Cert.ReferenceGateIdeal.Gen.shapeCasts_S1x4096x12800_S4096x12800)) Cert.ReferenceGateIdeal.Gen.slices_S8704x12800_S8704x4096_0_8704) Cert.ReferenceGateIdeal.Gen.bitsLt_bf16_f32

/-- Which block of each array grid point `t` works on. -/
theorem idx_val : ∀ t : Fin cfg0.N, win0_0.index t = ![t.val % 8, 0] ∧ win0_1.index t = ![0, 0, 17 + t.val / 8]
    ∧ win0_2.index t = ![t.val % 8, t.val / 8] :=
  (by decide +kernel : ∀ t : Fin grid0.N, _)

/-- Two points of one run of eight see the same block of the weights. -/
theorem wblk_eq (c : Dev nD) (t t' : Fin cfg0.N) (h : t.val / 8 = t'.val / 8) : iblk m c 1 t = iblk m c 1 t' := by
  funext x
  blk_ext [iblk, V, idx_val t, idx_val t']

/-- After every point the scratch holds the cast block of the weights. -/
theorem scr (c : Dev nD) : ∀ (n : ℕ) (h : n < cfg0.N), (outsAt0 m c n h).2 = k0_pay1 (iblk m c 1 ⟨n, h⟩)
  | 0, h => by
    rw [outsAt0_A m c ⟨0, h⟩ rfl]; frame_out
  | n + 1, h => by
    by_cases h0 : (n + 1) % 8 = 0
    · rw [outsAt0_A m c ⟨n + 1, h⟩ h0]; frame_out
    · rw [outsAt0_B m c ⟨n + 1, h⟩ h0]
      show (outsAt0 m c n _).2 = _
      rw [scr c n (Nat.lt_of_succ_lt h)]
      rw [wblk_eq m c ⟨n, Nat.lt_of_succ_lt h⟩ ⟨n + 1, h⟩ (by show n / 8 = (n + 1) / 8; omega)]

/-- What point `t` leaves in the output's buffer: the product of its block of rows with the cast block of the weights. -/
theorem out_eq (c : Dev nD) (t : Fin cfg0.N) :
    (outsAt0 m c t.val t.isLt).1 = k0_pay2 (iblk m c 0 t) (k0_pay1 (iblk m c 1 t)) := by
  by_cases h0 : t.val % 8 = 0
  · rw [outsAt0_A m c t h0]; frame_out
  · rw [outsAt0_B m c t h0, scr]; frame_out
    rw [wblk_eq m c ⟨t.val - 1, Nat.lt_of_le_of_lt (Nat.sub_le _ _) t.isLt⟩ t (by show (t.val - 1) / 8 = t.val / 8; omega),
      read_unread_whole]

/-- The result array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2, out_eq]
  pointwise [k0_pay2, k0_pay1, REF]
  blk_point [iblk, V, idx_val t]

/-- The claim: the run of the kernel and the run of the reference leave the same array. -/
theorem alg : Cert.algebraic_KernelGateIdeal_ReferenceGateIdeal (hKernelGateIdeal := Cert.KernelGateIdeal.Gen.facts)
    (hReferenceGateIdeal := Cert.ReferenceGateIdeal.Gen.facts) := by
  intro m g m' g' _ h
  refine ⟨fun c => REF (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run Cert.ReferenceGateIdeal.defs _ _).mono (fun r h' c => ⟨(h' c).1.trans ?_, (h' c).2⟩)
      (Cert.ReferenceGateIdeal.Value.run m' g')
    rw [(h c).1, (h c).2]
    rfl

end Cert.KernelGateIdeal.Proj

end
-- ==== Proof.Out.lean ====
/- The output projection's call with the residual added: its result array is the reference's term of the three arguments. -/
module

public import proofs.«01_k».proof.Proof.Gate
public import proofs.«01_k».proof.Proof.Gen.KernelOutIdeal.Value
public import proofs.«01_k».proof.Proof.Gen.ReferenceOutIdeal.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.KernelOutIdeal.Proj

open Cert.KernelOutIdeal Cert.KernelOutIdeal.Gen

variable (m : (ℓ : Loc nD τ sig) → Buf (Elt Ideal) ℓ)

/-- The reference's term of the activations, the weights and the residual. -/
def REF (U : FVec Ideal Cert.ReferenceOutIdeal.S8704x4096 .bf16) (W : FVec Ideal Cert.ReferenceOutIdeal.S2x4096x4096 .f32)
    (H : FVec Ideal Cert.ReferenceOutIdeal.S8704x4096 .f32) : FVec Ideal Cert.ReferenceOutIdeal.S8704x4096 .f32 :=
  addf H (Host.dotGeneral Cert.ReferenceOutIdeal.dot_S8704x4096_S4096x4096_S8704x4096_1_0_0_1_n_n none (extf .f32 U Cert.ReferenceOutIdeal.Gen.bitsLt_bf16_f32) (shapeCast _ (extractStridedSlice Cert.ReferenceOutIdeal.S1x4096x4096 ![1, 0, 0] W Cert.ReferenceOutIdeal.Gen.slices_S2x4096x4096_S1x4096x4096_1_0_0) Cert.ReferenceOutIdeal.Gen.shapeCasts_S1x4096x4096_S4096x4096))

/-- Which block of each array grid point `t` works on. -/
theorem idx_val : ∀ t : Fin cfg0.N, win0_0.index t = ![t.val % 8, 0] ∧ win0_1.index t = ![1, 0, t.val / 8]
    ∧ win0_2.index t = ![t.val % 8, t.val / 8] ∧ win0_3.index t = ![t.val % 8, t.val / 8] :=
  (by decide +kernel : ∀ t : Fin grid0.N, _)

/-- Two points of one run of eight see the same block of the weights. -/
theorem wblk_eq (c : Dev nD) (t t' : Fin cfg0.N) (h : t.val / 8 = t'.val / 8) : iblk m c 1 t = iblk m c 1 t' := by
  funext x
  blk_ext [iblk, V, idx_val t, idx_val t']

/-- After every point the scratch holds the cast block of the weights. -/
theorem scr (c : Dev nD) : ∀ (n : ℕ) (h : n < cfg0.N), (outsAt0 m c n h).2 = k0_pay1 (iblk m c 1 ⟨n, h⟩)
  | 0, h => by
    rw [outsAt0_A m c ⟨0, h⟩ rfl]; frame_out
  | n + 1, h => by
    by_cases h0 : (n + 1) % 8 = 0
    · rw [outsAt0_A m c ⟨n + 1, h⟩ h0]; frame_out
    · rw [outsAt0_B m c ⟨n + 1, h⟩ h0]
      show (outsAt0 m c n _).2 = _
      rw [scr c n (Nat.lt_of_succ_lt h)]
      rw [wblk_eq m c ⟨n, Nat.lt_of_succ_lt h⟩ ⟨n + 1, h⟩ (by show n / 8 = (n + 1) / 8; omega)]

/-- What point `t` leaves in the output's buffer: its block of the residual plus the product of its block of rows with the cast block of the weights. -/
theorem out_eq (c : Dev nD) (t : Fin cfg0.N) :
    (outsAt0 m c t.val t.isLt).1 = k0_pay2 (iblk m c 2 t) (iblk m c 0 t) (k0_pay1 (iblk m c 1 t)) := by
  by_cases h0 : t.val % 8 = 0
  · rw [outsAt0_A m c t h0]; frame_out
  · rw [outsAt0_B m c t h0, scr]; frame_out
    rw [wblk_eq m c ⟨t.val - 1, Nat.lt_of_le_of_lt (Nat.sub_le _ _) t.isLt⟩ t (by show (t.val - 1) / 8 = t.val / 8; omega),
      read_unread_whole]

/-- The result array after the run is the reference's term. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out_eq]
  pointwise [k0_pay2, k0_pay1, REF]
  blk_point [iblk, V, idx_val t]

/-- The claim: the run of the kernel and the run of the reference leave the same array. -/
theorem alg : Cert.algebraic_KernelOutIdeal_ReferenceOutIdeal (hKernelOutIdeal := Cert.KernelOutIdeal.Gen.facts)
    (hReferenceOutIdeal := Cert.ReferenceOutIdeal.Gen.facts) := by
  intro m g m' g' _ h
  refine ⟨fun c => REF (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (Value.run_blocks m g)
  · refine (θ_run Cert.ReferenceOutIdeal.defs _ _).mono (fun r h' c => ⟨(h' c).1.trans ?_, (h' c).2⟩)
      (Cert.ReferenceOutIdeal.Value.run m' g')
    rw [(h c).1, (h c).2.1, (h c).2.2]
    rfl

end Cert.KernelOutIdeal.Proj

end
-- ==== Proof.AttnMath.lean ====
/- The mathematics of one attention row over the extended reals: the normalisation and the rotation of a head, the score
   of a query against a key, and the softmax whose padded keys have score minus infinity. -/
module

public import proofs.«01_k».proof.Proof.Out
public import Idealize.ShloMosaic.Lib.Pipeline.ValueKit
public import Idealize.ShloMosaic.Lib.Pointwise

@[expose] public section

set_option maxRecDepth 16384

noncomputable section

namespace Cert.AttnMath

open Idealize.ShloMosaic

/-- An extended real that is a real number. -/
def IsR (x : EReal) : Prop := ∃ r : ℝ, x = (r : EReal)

/-- A real number is one. -/
theorem IsR.coe (r : ℝ) : IsR (r : EReal) := ⟨r, rfl⟩
/-- A sum of two reals is real. -/
theorem IsR.add {x y : EReal} : IsR x → IsR y → IsR (x + y) := by
  rintro ⟨a, rfl⟩ ⟨b, rfl⟩; exact ⟨a + b, by norm_cast⟩
/-- A product of two reals is real. -/
theorem IsR.mul {x y : EReal} : IsR x → IsR y → IsR (x * y) := by
  rintro ⟨a, rfl⟩ ⟨b, rfl⟩; exact ⟨a * b, by norm_cast⟩
/-- The opposite of a real is real. -/
theorem IsR.neg {x : EReal} : IsR x → IsR (-x) := by
  rintro ⟨a, rfl⟩; exact ⟨-a, by norm_cast⟩
/-- A difference of two reals is real. -/
theorem IsR.sub {x y : EReal} (hx : IsR x) (hy : IsR y) : IsR (x - y) := by
  rw [sub_eq_add_neg]; exact hx.add hy.neg
/-- The embedding of the reals commutes with finite sums. -/
theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]
/-- A finite sum of reals is real. -/
theorem IsR.sum {ι : Type} (s : Finset ι) {f : ι → EReal} (h : ∀ i, IsR (f i)) : IsR (∑ i ∈ s, f i) := by
  choose r hr using h
  exact ⟨∑ i ∈ s, r i, by rw [coe_sum]; exact Finset.sum_congr rfl fun i _ => hr i⟩
/-- Zero is real. -/
theorem IsR.zero : IsR 0 := ⟨0, rfl⟩
/-- The cosine of a real is real. -/
theorem IsR.cos {x : EReal} : IsR x → IsR (Ideal.cos x) := by
  rintro ⟨a, rfl⟩; exact ⟨_, Ideal.cos_coe a⟩
/-- The sine of a real is real. -/
theorem IsR.sin {x : EReal} : IsR x → IsR (Ideal.sin x) := by
  rintro ⟨a, rfl⟩; exact ⟨_, Ideal.sin_coe a⟩
/-- A real is not minus infinity. -/
theorem IsR.ne_bot {x : EReal} : IsR x → x ≠ ⊥ := by
  rintro ⟨a, rfl⟩; exact EReal.coe_ne_bot a
/-- A real is not plus infinity. -/
theorem IsR.ne_top {x : EReal} : IsR x → x ≠ ⊤ := by
  rintro ⟨a, rfl⟩; exact EReal.coe_ne_top a
/-- What is neither infinity is real. -/
theorem isR_of {x : EReal} (h : x ≠ ⊤) (h' : x ≠ ⊥) : IsR x := ⟨x.toReal, (EReal.coe_toReal h h').symm⟩

/-- The number 128 that a head's sum of squares is divided by. -/
def c128 : EReal := Ideal.ofBits .f32 1124073472#32
/-- The small number added to a mean of squares. -/
def ceps : EReal := Ideal.ofBits .f32 897988541#32
/-- The scale of the scores. -/
def csc : EReal := Ideal.ofBits .f32 1035273459#32

/-- The divisor is the real number 128. -/
theorem c128_eq : c128 = ((128 : ℝ) : EReal) := by
  simp only [c128, Ideal.ofBits, Ideal.ieee]
  simp
  rw [← EReal.coe_mul]
  norm_num
/-- The small number is a positive real. -/
theorem ceps_eq : ∃ r : ℝ, 0 < r ∧ ceps = (r : EReal) := by
  refine ⟨_, ?_, by simp [ceps, Ideal.ofBits, Ideal.ieee]; rfl⟩
  norm_num
/-- The scale is a real number. -/
theorem csc_real : IsR csc := ⟨_, by simp [csc, Ideal.ofBits, Ideal.ieee]; rfl⟩

/-- One entry of a head's row normalised: the entry over the root of the row's mean square, times the gain. -/
def nrm (x g : Fin 128 → EReal) (d : Fin 128) : EReal :=
  x d * Ideal.rsqrt (Ideal.div (∑ k, x k * x k) c128 + ceps) * g d

/-- The square of an extended real is not negative. -/
theorem sq_nonneg' (x : EReal) : 0 ≤ x * x := by
  induction x with
  | bot => simp
  | top => simp
  | coe r => exact_mod_cast mul_self_nonneg r

/-- The reciprocal root of a nonnegative real's 128th part and a little is real. -/
theorem rsqrt_real (r : ℝ) (h : 0 ≤ r) : IsR (Ideal.rsqrt (Ideal.div (r : EReal) c128 + ceps)) := by
  obtain ⟨e, he, h2⟩ := ceps_eq
  rw [c128_eq, h2, Ideal.div_coe (by norm_num), ← EReal.coe_mul, ← EReal.coe_add, Ideal.rsqrt_coe]
  have : 0 < r * (1 / 128) + e := by positivity
  rw [if_neg (not_lt.mpr this.le), if_neg this.ne']
  exact ⟨_, rfl⟩

/-- The reciprocal root at an infinite sum of squares is zero. -/
theorem rsqrt_inf : Ideal.rsqrt (Ideal.div ⊤ c128 + ceps) = 0 := by
  obtain ⟨e, he, h2⟩ := ceps_eq
  rw [c128_eq, h2, Ideal.div_coe (by norm_num), EReal.top_mul_coe_of_pos (by norm_num), EReal.top_add_coe, Ideal.rsqrt_top]

/-- A sum of squares with an infinite entry is plus infinity. -/
theorem sum_sq_top {n : ℕ} (x : Fin n → EReal) (k : Fin n) (h : ¬ IsR (x k)) : ∑ i, x i * x i = ⊤ := by
  classical
  rw [← Finset.add_sum_erase _ _ (Finset.mem_univ k)]
  have h1 : x k * x k = ⊤ := by
    generalize x k = y at h
    induction y with
    | bot => simp
    | top => simp
    | coe r => exact absurd ⟨r, rfl⟩ h
  have h2 : 0 ≤ ∑ i ∈ Finset.univ.erase k, x i * x i := Finset.sum_nonneg fun i _ => sq_nonneg' _
  rw [h1, EReal.top_add_of_ne_bot (ne_bot_of_le_ne_bot (by simp) h2)]

/-- A normalised entry is real whatever the row holds, if the gain is real: at an infinite row the reciprocal root is zero. -/
theorem nrm_real (x g : Fin 128 → EReal) (hg : ∀ d, IsR (g d)) (d : Fin 128) : IsR (nrm x g d) := by
  unfold nrm
  refine IsR.mul ?_ (hg d)
  by_cases h : ∀ k, IsR (x k)
  · obtain ⟨r, hr⟩ : ∃ r : ℝ, 0 ≤ r ∧ ∑ k, x k * x k = (r : EReal) := by
      obtain ⟨r, hr⟩ := IsR.sum Finset.univ (f := fun k => x k * x k) fun k => (h k).mul (h k)
      refine ⟨r, ?_, hr⟩
      have : 0 ≤ ∑ k, x k * x k := Finset.sum_nonneg fun i _ => sq_nonneg' _
      rw [hr] at this; exact_mod_cast this
    rw [hr.2]
    exact (h d).mul (rsqrt_real r hr.1)
  · push Not at h
    obtain ⟨k, hk⟩ := h
    rw [sum_sq_top x k hk, rsqrt_inf, mul_zero]
    exact IsR.zero

/-- The rotation of a head: the first half by the row angles, the second half by the column angles, each half's two quarters as pairs. -/
def rope (aR aC : Fin 32 → EReal) (y : Fin 128 → EReal) (d : Fin 128) : EReal :=
  if h : d.val < 64 then
    if h2 : d.val < 32 then
      y d * Ideal.cos (aR ⟨d.val, h2⟩) - y ⟨32 + d.val, by omega⟩ * Ideal.sin (aR ⟨d.val, h2⟩)
    else
      y d * Ideal.cos (aR ⟨d.val - 32, by omega⟩) + y ⟨d.val - 32, by omega⟩ * Ideal.sin (aR ⟨d.val - 32, by omega⟩)
  else
    if h2 : d.val - 64 < 32 then
      y d * Ideal.cos (aC ⟨d.val - 64, h2⟩) - y ⟨32 + d.val, by omega⟩ * Ideal.sin (aC ⟨d.val - 64, h2⟩)
    else
      y d * Ideal.cos (aC ⟨d.val - 64 - 32, by omega⟩) + y ⟨d.val - 32, by omega⟩ * Ideal.sin (aC ⟨d.val - 64 - 32, by omega⟩)

/-- A head rotated by real angles stays real. -/
theorem rope_real (aR aC : Fin 32 → EReal) (hR : ∀ j, IsR (aR j)) (hC : ∀ j, IsR (aC j)) (y : Fin 128 → EReal) (hy : ∀ d, IsR (y d)) (d : Fin 128) :
    IsR (rope aR aC y d) := by
  unfold rope
  split_ifs
  · exact ((hy _).mul (hR _).cos).sub ((hy _).mul (hR _).sin)
  · exact ((hy _).mul (hR _).cos).add ((hy _).mul (hR _).sin)
  · exact ((hy _).mul (hC _).cos).sub ((hy _).mul (hC _).sin)
  · exact ((hy _).mul (hC _).cos).add ((hy _).mul (hC _).sin)

/-- A nonnegative real factor moves into a finite sum. -/
theorem sum_mul_coe {n : ℕ} (f : Fin n → EReal) (c : ℝ) (hc : 0 ≤ c) : (∑ i, f i) * (c : EReal) = ∑ i, f i * (c : EReal) := by
  have : ∀ s : Finset (Fin n), (∑ i ∈ s, f i) * (c : EReal) = ∑ i ∈ s, f i * (c : EReal) := fun s => by
    classical
    induction s using Finset.induction_on with
    | empty => simp
    | insert a s ha ih =>
      rw [Finset.sum_insert ha, Finset.sum_insert ha, ← ih, mul_comm, EReal.left_distrib_of_nonneg_of_ne_top (by exact_mod_cast hc) (EReal.coe_ne_top c),
        mul_comm (c : EReal), mul_comm (c : EReal)]
  exact this Finset.univ

/-- The scaled score of a query against a key, both real: the scale inside or outside the sum. -/
theorem score_eq (q k : Fin 128 → EReal) (hq : ∀ d, IsR (q d)) (hk : ∀ d, IsR (k d)) :
    (∑ d, q d * csc * k d) = (∑ d, q d * k d) * csc := by
  obtain ⟨c, hc⟩ := csc_real
  choose a ha using hq
  choose b hb using hk
  simp only [ha, hb, hc, ← EReal.coe_mul]
  rw [← coe_sum, ← coe_sum, ← EReal.coe_mul, Finset.sum_mul]
  exact congrArg _ (Finset.sum_congr rfl fun d _ => by ring)

/-- A score is real. -/
theorem score_real (q k : Fin 128 → EReal) (hq : ∀ d, IsR (q d)) (hk : ∀ d, IsR (k d)) : IsR ((∑ d, q d * k d) * csc) :=
  (IsR.sum _ fun d => (hq d).mul (hk d)).mul csc_real

/-- The greatest score of a row. -/
def mx {n : ℕ} (s : Fin n → EReal) : EReal := Finset.fold max ⊥ s Finset.univ

/-- The greatest score is the supremum. -/
theorem mx_eq {n : ℕ} (s : Fin n → EReal) : mx s = Finset.univ.sup s := rfl

/-- The softmax of a row of scores, applied to the keys' values. -/
def soft (s w : Fin 2064 → EReal) : EReal :=
  ∑ j, Ideal.div (Ideal.exp (s j - mx s)) (∑ k, Ideal.exp (s k - mx s)) * w j

/-- The softmax over the padded keys, normalised after the sum, is the softmax over the keys. -/
theorem soft_eq (S v : Fin 2176 → EReal) (s w : Fin 2064 → EReal) (hs : ∀ j, IsR (s j))
    (hS : ∀ j : Fin 2064, S (Fin.castAdd 112 j) = s j) (hB : ∀ j : Fin 112, S (Fin.natAdd 2064 j) = ⊥)
    (hv : ∀ j : Fin 2064, v (Fin.castAdd 112 j) = w j) :
    (∑ x, Ideal.exp (S x - mx S) * v x) * Ideal.div 1 (∑ x, Ideal.exp (S x - mx S)) = soft s w := by
  have hM : mx S = mx s := by
    rw [mx_eq, mx_eq]
    refine le_antisymm (Finset.sup_le fun x _ => ?_) (Finset.sup_le fun j _ => ?_)
    · revert x
      refine Fin.addCases (m := 2064) (n := 112) (fun j => fun _ => ?_) (fun j => fun _ => ?_)
      · rw [hS]; exact Finset.le_sup (f := s) (Finset.mem_univ j)
      · rw [hB]; exact bot_le
    · rw [← hS]; exact Finset.le_sup (f := S) (Finset.mem_univ _)
  obtain ⟨μ, hμ⟩ : IsR (mx s) := by
    obtain ⟨i, -, hi⟩ := Finset.exists_mem_eq_sup (Finset.univ : Finset (Fin 2064)) ⟨0, Finset.mem_univ _⟩ s
    rw [mx_eq, hi]; exact hs i
  choose r hr using hs
  have hexp : ∀ j, Ideal.exp (s j - mx s) = ((Real.exp (r j - μ) : ℝ) : EReal) := fun j => by
    rw [hr, hμ, ← EReal.coe_sub, Ideal.exp_coe]
  have h1 : ∑ x, Ideal.exp (S x - mx S) * v x = ∑ j, Ideal.exp (s j - mx s) * w j := by
    rw [hM]
    refine (Fin.sum_univ_add (a := 2064) (b := 112) (fun x => Ideal.exp (S x - mx s) * v x)).trans ?_
    rw [Finset.sum_eq_zero (s := (Finset.univ : Finset (Fin 112))), add_zero]
    · exact Finset.sum_congr rfl fun j _ => by rw [hS, hv]
    · intro j _
      rw [hB, hμ, EReal.bot_sub, Ideal.exp_bot, zero_mul]
  have h2 : ∑ x, Ideal.exp (S x - mx S) = ∑ j, Ideal.exp (s j - mx s) := by
    rw [hM]
    refine (Fin.sum_univ_add (a := 2064) (b := 112) (fun x => Ideal.exp (S x - mx s))).trans ?_
    rw [Finset.sum_eq_zero (s := (Finset.univ : Finset (Fin 112))), add_zero]
    · exact Finset.sum_congr rfl fun j _ => by rw [hS]
    · intro j _
      rw [hB, hμ, EReal.bot_sub, Ideal.exp_bot]
  rw [h1, h2, soft]
  have hl : ∑ j, Ideal.exp (s j - mx s) = ((∑ j, Real.exp (r j - μ) : ℝ) : EReal) := by
    rw [coe_sum]; exact Finset.sum_congr rfl fun j _ => hexp j
  have hpos : 0 < ∑ j : Fin 2064, Real.exp (r j - μ) :=
    Finset.sum_pos (fun j _ => Real.exp_pos _) ⟨0, Finset.mem_univ _⟩
  rw [hl, Ideal.div_coe hpos.ne', one_mul, sum_mul_coe _ _ (one_div_nonneg.mpr hpos.le)]
  refine Finset.sum_congr rfl fun j _ => ?_
  rw [Ideal.div_coe hpos.ne']
  ac_rfl

/-- The softmax depends on its scores and values only. -/
theorem soft_congr {s s' w w' : Fin 2064 → EReal} (h : ∀ j, s j = s' j) (h' : ∀ j, w j = w' j) : soft s w = soft s' w' := by
  rw [funext h, funext h']

/-- The softmax of real scores on real values is real. -/
theorem soft_real (s w : Fin 2064 → EReal) (hs : ∀ j, IsR (s j)) (hw : ∀ j, IsR (w j)) : IsR (soft s w) := by
  obtain ⟨μ, hμ⟩ : IsR (mx s) := by
    obtain ⟨i, -, hi⟩ := Finset.exists_mem_eq_sup (Finset.univ : Finset (Fin 2064)) ⟨0, Finset.mem_univ _⟩ s
    rw [mx_eq, hi]; exact hs i
  choose r hr using hs
  have hexp : ∀ j, Ideal.exp (s j - mx s) = ((Real.exp (r j - μ) : ℝ) : EReal) := fun j => by
    rw [hr, hμ, ← EReal.coe_sub, Ideal.exp_coe]
  have hl : ∑ j, Ideal.exp (s j - mx s) = ((∑ j, Real.exp (r j - μ) : ℝ) : EReal) := by
    rw [coe_sum]; exact Finset.sum_congr rfl fun j _ => hexp j
  have hpos : 0 < ∑ j : Fin 2064, Real.exp (r j - μ) :=
    Finset.sum_pos (fun j _ => Real.exp_pos _) ⟨0, Finset.mem_univ _⟩
  unfold soft
  refine IsR.sum _ fun j => IsR.mul ?_ (hw j)
  rw [hl, Ideal.div_coe hpos.ne', hexp]
  exact (IsR.coe _).mul (IsR.coe _)

end Cert.AttnMath

end
-- ==== Proof.RefA.lean ====
/- Mixer A's reference read at an index: one entry of its result is the softmax of one query's scores applied to the values. -/
module

public import proofs.«01_k».proof.Proof.AttnMath
public import proofs.«01_k».proof.Proof.Gen.ReferenceIdeal.Read

@[expose] public section

set_option maxRecDepth 16384

noncomputable section

namespace Cert.ReferenceIdeal.Attn

open Idealize.ShloMosaic Idealize.ShloMosaic.TcCoe Idealize.SL.Sem
open Cert.ReferenceIdeal Cert.ReferenceIdeal.Read Cert.AttnMath

/-- Block `C` of 128 columns of row `R` of the projection. -/
def row (x : FVec Ideal ⟨2, ![8704, 8704]⟩ .bf16) (R : Fin 8704) (C : Fin 68) (k : Fin 128) : EReal :=
  x (ix2 R ⟨C.val * 128 + k.val, by omega⟩)

/-- Token `l` of sequence `b` as a row of the projection. -/
def tok (b : Fin 4) (l : Fin 2064) : Fin 8704 := ⟨b.val * 2176 + l.val, by omega⟩

/-- The row angles of token `l`. -/
def aR (l : Fin 2064) (j : Fin 32) : EReal := val_main_v33 (F := Ideal) (ix2 l j)
/-- The column angles of token `l`. -/
def aC (l : Fin 2064) (j : Fin 32) : EReal := val_main_v38 (F := Ideal) (ix2 l j)

variable (x0 : FVec Ideal ⟨2, ![8704, 8704]⟩ .bf16) (x1 x2 : FVec Ideal ⟨1, ![128]⟩ .f32)

/-- A query head normalised and rotated. -/
def Q (b : Fin 4) (l : Fin 2064) (h : Fin 8) : Fin 128 → EReal :=
  rope (aR l) (aC l) (nrm (row x0 (tok b l) ⟨h.val, by omega⟩) fun k => x1 (ix1 k))
/-- A key head normalised and rotated. -/
def K (b : Fin 4) (l : Fin 2064) (h : Fin 2) : Fin 128 → EReal :=
  rope (aR l) (aC l) (nrm (row x0 (tok b l) ⟨8 + h.val, by omega⟩) fun k => x2 (ix1 k))

/-- A normalised query entry of the reference. -/
theorem v52_eq (b : Fin 4) (l : Fin 2064) (h : Fin 8) (d : Fin 128) :
    val_main_v52 (F := Ideal) x0 x1 (ix4 b l h d) = nrm (row x0 (tok b l) ⟨h.val, by omega⟩) (fun k => x1 (ix1 k)) d := by
  pointwise [val_main_v52, val_main_v51, val_main_v50, val_main_v49, val_main_v48, val_main_v47, val_main_v46, val_main_v45, val_main_v44, val_main_v43, val_main_v42, val_main_v41, val_main_v40, val_main_v39, val_main_v2, val_main_v1, val_main_v0, val_main_cst_4, val_main_cst_5, val_main_cst_6, nrm, row, tok, c128, ceps]

/-- A normalised key entry of the reference. -/
theorem v66_eq (b : Fin 4) (l : Fin 2064) (h : Fin 2) (d : Fin 128) :
    val_main_v66 (F := Ideal) x0 x2 (ix4 b l h d) = nrm (row x0 (tok b l) ⟨8 + h.val, by omega⟩) (fun k => x2 (ix1 k)) d := by
  pointwise [val_main_v66, val_main_v65, val_main_v64, val_main_v63, val_main_v62, val_main_v61, val_main_v60, val_main_v59, val_main_v58, val_main_v57, val_main_v56, val_main_v55, val_main_v54, val_main_v53, val_main_v5, val_main_v4, val_main_v3, val_main_cst_7, val_main_cst_8, val_main_cst_9, nrm, row, tok, c128, ceps]
  simp only [show ∀ k : ℕ, (8 + h.val) * 128 + k = 1024 + (h.val * 128 + k) from fun k => by omega]

/-- A rotated query entry of the reference. -/
theorem v104_eq (b : Fin 4) (l : Fin 2064) (h : Fin 8) (d : Fin 128) :
    val_main_v104 (F := Ideal) x0 x1 (ix4 b l h d) = Q x0 x1 b l h d := by
  unfold Q
  rw [← funext (v52_eq x0 x1 b l h)]
  pointwise [val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, rope, aR, aC]
  by_cases h1 : d.val < 64
  · simp only [dif_pos h1]
    by_cases h2 : d.val < 32
    · simp only [dif_pos h2]
    · simp only [dif_neg h2]
      simp only [show 32 + (d.val - 32) = d.val from by omega]
  · simp only [dif_neg h1]
    by_cases h2 : d.val - 64 < 32
    · simp only [dif_pos h2]
      simp only [show 64 + (d.val - 64) = d.val from by omega, show 64 + (32 + (d.val - 64)) = 32 + d.val from by omega]
    · simp only [dif_neg h2]
      simp only [show 64 + (32 + (d.val - 64 - 32)) = d.val from by omega, show 64 + (d.val - 64 - 32) = d.val - 32 from by omega]

/-- A rotated key entry of the reference. -/
theorem v141_eq (b : Fin 4) (l : Fin 2064) (h : Fin 2) (d : Fin 128) :
    val_main_v141 (F := Ideal) x0 x2 (ix4 b l h d) = K x0 x2 b l h d := by
  unfold K
  rw [← funext (v66_eq x0 x2 b l h)]
  pointwise [val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, rope, aR, aC]
  by_cases h1 : d.val < 64
  · simp only [dif_pos h1]
    by_cases h2 : d.val < 32
    · simp only [dif_pos h2]
    · simp only [dif_neg h2]
      simp only [show 32 + (d.val - 32) = d.val from by omega]
  · simp only [dif_neg h1]
    by_cases h2 : d.val - 64 < 32
    · simp only [dif_pos h2]
      simp only [show 64 + (d.val - 64) = d.val from by omega, show 64 + (32 + (d.val - 64)) = 32 + d.val from by omega]
    · simp only [dif_neg h2]
      simp only [show 64 + (32 + (d.val - 64 - 32)) = d.val from by omega, show 64 + (d.val - 64 - 32) = d.val - 32 from by omega]

/-- A value entry of the reference. -/
theorem v67_eq (b : Fin 4) (l : Fin 2064) (h : Fin 2) (d : Fin 128) :
    val_main_v67 (F := Ideal) x0 (ix4 b l h d) = row x0 (tok b l) ⟨10 + h.val, by omega⟩ d := by
  pointwise [val_main_v67, val_main_v8, val_main_v7, val_main_v6, row, tok]
  simp only [show ∀ k : ℕ, (10 + h.val) * 128 + k = 1280 + (h.val * 128 + k) from fun k => by omega]

/-- The query head that group member `g` of key head `kv` is. -/
def qh (kv : Fin 2) (g : Fin 4) : Fin 8 := ⟨kv.val * 4 + g.val, by omega⟩

/-- The queries by key head and group member. -/
theorem v143_eq (b : Fin 4) (kv : Fin 2) (g : Fin 4) (q : Fin 2064) (d : Fin 128) :
    val_main_v143 (F := Ideal) x0 x1 (ix5 b kv g q d) = Q x0 x1 b q (qh kv g) d := by
  rw [val_main_v143_apply, val_main_v142_apply, ← v104_eq]
  congr 1
  funext a
  match a with
  | ⟨0, _⟩ => exact Fin.ext (show ((((b.val * 2064 + q.val) * 2 + kv.val) * 4 + g.val) * 128 + d.val) / 2113536 = b.val by omega)
  | ⟨1, _⟩ => exact Fin.ext (show ((((b.val * 2064 + q.val) * 2 + kv.val) * 4 + g.val) * 128 + d.val) / 1024 % 2064 = q.val by omega)
  | ⟨2, _⟩ => exact Fin.ext (show ((((b.val * 2064 + q.val) * 2 + kv.val) * 4 + g.val) * 128 + d.val) / 128 % 8 = kv.val * 4 + g.val by omega)
  | ⟨3, _⟩ => exact Fin.ext (show ((((b.val * 2064 + q.val) * 2 + kv.val) * 4 + g.val) * 128 + d.val) % 128 = d.val by omega)

/-- The keys by key head. -/
theorem v144_eq (b : Fin 4) (kv : Fin 2) (k : Fin 2064) (d : Fin 128) :
    val_main_v144 (F := Ideal) x0 x2 (ix4 b kv k d) = K x0 x2 b k kv d := by
  rw [val_main_v144_apply, ← v141_eq]
  congr 1
  funext a
  match a with
  | ⟨0, _⟩ => rfl
  | ⟨1, _⟩ => rfl
  | ⟨2, _⟩ => rfl
  | ⟨3, _⟩ => rfl

/-- The values by key head. -/
theorem v145_eq (b : Fin 4) (kv : Fin 2) (k : Fin 2064) (d : Fin 128) :
    val_main_v145 (F := Ideal) x0 (ix4 b kv k d) = row x0 (tok b k) ⟨10 + kv.val, by omega⟩ d := by
  rw [val_main_v145_apply, ← v67_eq]
  congr 1
  funext a
  match a with
  | ⟨0, _⟩ => rfl
  | ⟨1, _⟩ => rfl
  | ⟨2, _⟩ => rfl
  | ⟨3, _⟩ => rfl

/-- The scores of one query. -/
def score (b : Fin 4) (kv : Fin 2) (g : Fin 4) (q k : Fin 2064) : EReal :=
  (∑ d, Q x0 x1 b q (qh kv g) d * K x0 x2 b k kv d) * csc

/-- The scaled scores of the reference. -/
theorem v148_eq (b : Fin 4) (kv : Fin 2) (g : Fin 4) (q k : Fin 2064) :
    val_main_v148 (F := Ideal) x0 x1 x2 (ix5 b kv g q k) = score x0 x1 x2 b kv g q k := by
  rw [val_main_v148_apply, val_main_v146_apply, val_main_v147_apply]
  have e1 : ∀ k', lidx_main_v146 (ix5 b kv g q k) k' = ix5 b kv g q k' := fun k' => by
    funext a; match a with
    | ⟨0, _⟩ => rfl
    | ⟨1, _⟩ => rfl
    | ⟨2, _⟩ => rfl
    | ⟨3, _⟩ => rfl
    | ⟨4, _⟩ => rfl
  have e2 : ∀ k', ridx_main_v146 (ix5 b kv g q k) k' = ix4 b kv k k' := fun k' => by
    funext a; match a with
    | ⟨0, _⟩ => rfl
    | ⟨1, _⟩ => rfl
    | ⟨2, _⟩ => rfl
    | ⟨3, _⟩ => rfl
  simp only [e1, e2, v143_eq, v144_eq]
  rfl

/-- The constant the maximum starts from is minus infinity. -/
theorem init_eq : Ideal.ofBits .f32 4286578688#32 = ⊥ := by simp [Ideal.ofBits, Ideal.ieee]

/-- The greatest score of the reference. -/
theorem v149_eq (b : Fin 4) (kv : Fin 2) (g : Fin 4) (q : Fin 2064) :
    val_main_v149 (F := Ideal) x0 x1 x2 (ix4 b kv g q) = mx (score x0 x1 x2 b kv g q) := by
  have e : val_main_cst_11 (F := Ideal) (Shape.Idx.first Gen.h_S_) = ⊥ := init_eq
  pointwise [val_main_v149]
  rw [e, funext (v148_eq x0 x1 x2 b kv g q)]
  rfl

/-- The greatest score once more, against minus infinity. -/
theorem v151_eq (b : Fin 4) (kv : Fin 2) (g : Fin 4) (q : Fin 2064) :
    val_main_v151 (F := Ideal) x0 x1 x2 (ix4 b kv g q) = mx (score x0 x1 x2 b kv g q) := by
  rw [val_main_v151_apply, v149_eq, val_main_v150_apply]
  show max (Ideal.ofBits .f32 4286578688#32) _ = _
  rw [init_eq, max_eq_right bot_le]

/-- The exponential of a score less the greatest. -/
theorem v155_eq (b : Fin 4) (kv : Fin 2) (g : Fin 4) (q k : Fin 2064) :
    val_main_v155 (F := Ideal) x0 x1 x2 (ix5 b kv g q k)
      = Ideal.exp (score x0 x1 x2 b kv g q k - mx (score x0 x1 x2 b kv g q)) := by
  rw [val_main_v155_apply, val_main_v154_apply, val_main_v153_apply, val_main_v152_apply, v148_eq]
  have e : idx_main_v152 (idx_main_v153 (ix5 b kv g q k)) = ix4 b kv g q := by
    funext a; match a with
    | ⟨0, _⟩ => rfl
    | ⟨1, _⟩ => rfl
    | ⟨2, _⟩ => rfl
    | ⟨3, _⟩ => rfl
  rw [e, v151_eq]
  rfl

/-- The sum of the exponentials. -/
theorem v156_eq (b : Fin 4) (kv : Fin 2) (g : Fin 4) (q : Fin 2064) :
    val_main_v156 (F := Ideal) x0 x1 x2 (ix4 b kv g q)
      = ∑ k, Ideal.exp (score x0 x1 x2 b kv g q k - mx (score x0 x1 x2 b kv g q)) := by
  rw [val_main_v156_apply]
  have e : ∀ k, idx_main_v156 (ix4 b kv g q) k = ix5 b kv g q k := fun k => by
    funext a; match a with
    | ⟨0, _⟩ => rfl
    | ⟨1, _⟩ => rfl
    | ⟨2, _⟩ => rfl
    | ⟨3, _⟩ => rfl
    | ⟨4, _⟩ => rfl
  simp only [e, v155_eq]
  show Ideal.ofBits .f32 0#32 + _ = _
  rw [Ideal.ofBits_zero_f32, zero_add]

/-- One weight of the softmax. -/
theorem v159_eq (b : Fin 4) (kv : Fin 2) (g : Fin 4) (q k : Fin 2064) :
    val_main_v159 (F := Ideal) x0 x1 x2 (ix5 b kv g q k)
      = Ideal.div (Ideal.exp (score x0 x1 x2 b kv g q k - mx (score x0 x1 x2 b kv g q)))
          (∑ k', Ideal.exp (score x0 x1 x2 b kv g q k' - mx (score x0 x1 x2 b kv g q))) := by
  rw [val_main_v159_apply, val_main_v158_apply, val_main_v157_apply, v155_eq]
  have e : idx_main_v157 (idx_main_v158 (ix5 b kv g q k)) = ix4 b kv g q := by
    funext a; match a with
    | ⟨0, _⟩ => rfl
    | ⟨1, _⟩ => rfl
    | ⟨2, _⟩ => rfl
    | ⟨3, _⟩ => rfl
  rw [e, v156_eq]
  rfl

/-- One entry of the attention. -/
theorem v160_eq (b : Fin 4) (kv : Fin 2) (g : Fin 4) (q : Fin 2064) (d : Fin 128) :
    val_main_v160 (F := Ideal) x0 x1 x2 (ix5 b kv g q d)
      = soft (score x0 x1 x2 b kv g q) fun k => row x0 (tok b k) ⟨10 + kv.val, by omega⟩ d := by
  rw [val_main_v160_apply]
  have e1 : ∀ k', lidx_main_v160 (ix5 b kv g q d) k' = ix5 b kv g q k' := fun k' => by
    funext a; match a with
    | ⟨0, _⟩ => rfl
    | ⟨1, _⟩ => rfl
    | ⟨2, _⟩ => rfl
    | ⟨3, _⟩ => rfl
    | ⟨4, _⟩ => rfl
  have e2 : ∀ k', ridx_main_v160 (ix5 b kv g q d) k' = ix4 b kv k' d := fun k' => by
    funext a; match a with
    | ⟨0, _⟩ => rfl
    | ⟨1, _⟩ => rfl
    | ⟨2, _⟩ => rfl
    | ⟨3, _⟩ => rfl
  simp only [e1, e2, v159_eq, v145_eq]
  rfl

/-- One entry of the reference's result, at a row of a token. -/
theorem v165_eq (i : (⟨2, ![8704, 1024]⟩ : Shape).Idx) (hi : (i 0).val % 2176 < 2064) :
    val_main_v165 (F := Ideal) x0 x1 x2 i
      = soft (score x0 x1 x2 ⟨(i 0).val / 2176, by have := (i 0).isLt; simp at this; omega⟩ ⟨(i 1).val / 512, by have := (i 1).isLt; simp at this; omega⟩
          ⟨(i 1).val / 128 % 4, by omega⟩ ⟨(i 0).val % 2176, hi⟩)
          fun k => row x0 (tok ⟨(i 0).val / 2176, by have := (i 0).isLt; simp at this; omega⟩ k) ⟨10 + (i 1).val / 512, by have := (i 1).isLt; simp at this; omega⟩ ⟨(i 1).val % 128, by omega⟩ := by
  idx_vars i
  pointwise [val_main_v165, val_main_v164, val_main_v163, val_main_v162, val_main_v161]
  have h0 : i0.val / 2176 < 4 ∧ i0.val % 2176 < 2064 := ⟨by omega, hi⟩
  rw [dif_pos h0, v160_eq]

end Cert.ReferenceIdeal.Attn

end
-- ==== Proof.KerA.lean ====
/- Mixer A's kernel read at an index. -/
module

public import proofs.«01_k».proof.Proof.RefA
public import proofs.«01_k».proof.Proof.Gen.KernelIdeal.Value
public import Idealize.ShloMosaic.Lib.Pipeline.ValueKit
public import Idealize.ShloMosaic.Lib.Pointwise
public import Idealize.ShloMosaic.Lib.Pipeline.ReadBack
public import Idealize.ShloMosaic.Lib.StableHlo.ReadAt

@[expose] public section

set_option maxRecDepth 16384

noncomputable section

namespace Cert.KernelIdeal.Attn

open Idealize.ShloMosaic Idealize.ShloMosaic.TcCoe Idealize.SL.Sem
open Cert.KernelIdeal Cert.KernelIdeal.Gen Cert.AttnMath
open Cert.ReferenceIdeal.Attn (row tok aR aC)

/-- The layout of a rotary table: four pieces of 32 columns side by side, with rows of zeros below. -/
def padc (a b cc d : FVec Ideal S2064x32 .f32) : FVec Ideal S2176x128 .f32 :=
  pad S2176x128 ![0, 0] ![112, 0] ![0, 0]
    (concatenate S2064x128 1 [⟨S2064x32, a⟩, ⟨S2064x32, b⟩, ⟨S2064x32, cc⟩, ⟨S2064x32, d⟩]
      concatenates_S2064x32_S2064x32_S2064x32_S2064x32_S2064x128_d1)
    (sitofp .f32 (constantI S_ 32 0#32)) pads_S2064x128_S2176x128_01120_000 h_S_

/-- Equal pieces make equal tables. -/
theorem padc_congr {a b cc d a' b' cc' d' : FVec Ideal S2064x32 .f32} (h0 : a = a') (h1 : b = b') (h2 : cc = cc') (h3 : d = d') :
    padc a b cc d = padc a' b' cc' d' := by
  rw [h0, h1, h2, h3]

/-- The row angles. -/
abbrev angR : FVec Ideal S2064x32 .f32 := Cert.ReferenceIdeal.Read.val_main_v33 (F := Ideal)
/-- The column angles. -/
abbrev angC : FVec Ideal S2064x32 .f32 := Cert.ReferenceIdeal.Read.val_main_v38 (F := Ideal)
/-- The table of cosines. -/
def cosT : FVec Ideal S2176x128 .f32 := padc (Host.cos angR) (Host.cos angR) (Host.cos angC) (Host.cos angC)
/-- The table of signed sines. -/
def sinT : FVec Ideal S2176x128 .f32 := padc (Host.negf (Host.sin angR)) (Host.sin angR) (Host.negf (Host.sin angC)) (Host.sin angC)

/-- A row of the table of cosines below the padding. -/
theorem cosT_eq (l : Fin 2176) (d : Fin 128) (h : l.val < 2064) : cosT (ix2 l d)
    = if h1 : d.val < 32 then Ideal.cos (aR ⟨l, h⟩ ⟨d, h1⟩) else if h2 : d.val - 32 < 32 then Ideal.cos (aR ⟨l, h⟩ ⟨d.val - 32, h2⟩)
      else if h3 : d.val - 32 - 32 < 32 then Ideal.cos (aC ⟨l, h⟩ ⟨d.val - 32 - 32, h3⟩)
      else Ideal.cos (aC ⟨l, h⟩ ⟨d.val - 32 - 32 - 32, by omega⟩) := by
  unfold cosT
  pointwise [padc]
  rw [dif_pos h]
  rfl

/-- A row of the table of signed sines below the padding. -/
theorem sinT_eq (l : Fin 2176) (d : Fin 128) (h : l.val < 2064) : sinT (ix2 l d)
    = if h1 : d.val < 32 then -Ideal.sin (aR ⟨l, h⟩ ⟨d, h1⟩) else if h2 : d.val - 32 < 32 then Ideal.sin (aR ⟨l, h⟩ ⟨d.val - 32, h2⟩)
      else if h3 : d.val - 32 - 32 < 32 then -Ideal.sin (aC ⟨l, h⟩ ⟨d.val - 32 - 32, h3⟩)
      else Ideal.sin (aC ⟨l, h⟩ ⟨d.val - 32 - 32 - 32, by omega⟩) := by
  unfold sinT
  pointwise [padc]
  rw [dif_pos h]
  rfl

/-- The condition on a column's bit 5. -/
theorem bit5 : ∀ d : Fin 128, IntOp.cmpi .eq (IntOp.andi (BitVec.ofNat 32 d.val) 32#32) 0#32 = if d.val / 32 % 2 = 0 then 1#1 else 0#1 := by
  decide +kernel

/-- The rotation the kernel makes by two whole-row rolls, a choice and the two tables. -/
def rotK (y cs sn : Fin 128 → EReal) (d : Fin 128) : EReal :=
  y d * cs d + Scalar.select (IntOp.cmpi .eq (IntOp.andi (BitVec.ofNat 32 d.val) 32#32) 0#32)
    (y ⟨(d.val + 128 - 96) % 128, Nat.mod_lt _ (by norm_num)⟩) (y ⟨(d.val + 128 - 32) % 128, Nat.mod_lt _ (by norm_num)⟩) * sn d

/-- The kernel's rotation is the reference's. -/
theorem rotK_eq (l : Fin 2064) (y : Fin 128 → EReal) (d : Fin 128) :
    rotK y (fun k => cosT (ix2 ⟨l.val, by omega⟩ k)) (fun k => sinT (ix2 ⟨l.val, by omega⟩ k)) d = rope (aR l) (aC l) y d := by
  unfold rotK
  beta_reduce
  rw [bit5, cosT_eq _ _ l.isLt, sinT_eq _ _ l.isLt]
  unfold rope
  have hd := d.isLt
  by_cases h1 : d.val < 32
  · have e : (⟨(d.val + 128 - 96) % 128, Nat.mod_lt _ (by norm_num)⟩ : Fin 128) = ⟨32 + d.val, by omega⟩ := Fin.ext (by show (d.val + 128 - 96) % 128 = 32 + d.val; omega)
    have h0 : d.val / 32 % 2 = 0 := by omega
    have h64 : d.val < 64 := by omega
    simp only [dif_pos h1, dif_pos h64, if_pos h0, e, Scalar.select, mul_neg, ← sub_eq_add_neg]
    simp
  · by_cases h2 : d.val - 32 < 32
    · have e : (⟨(d.val + 128 - 32) % 128, Nat.mod_lt _ (by norm_num)⟩ : Fin 128) = ⟨d.val - 32, by omega⟩ := Fin.ext (by show (d.val + 128 - 32) % 128 = d.val - 32; omega)
      have h0 : ¬ d.val / 32 % 2 = 0 := by omega
      have h64 : d.val < 64 := by omega
      simp only [dif_neg h1, dif_pos h2, dif_pos h64, if_neg h0, e, Scalar.select]
      simp
    · have h64 : ¬ d.val < 64 := by omega
      by_cases h3 : d.val - 32 - 32 < 32
      · have e : (⟨(d.val + 128 - 96) % 128, Nat.mod_lt _ (by norm_num)⟩ : Fin 128) = ⟨32 + d.val, by omega⟩ := Fin.ext (by show (d.val + 128 - 96) % 128 = 32 + d.val; omega)
        have h0 : d.val / 32 % 2 = 0 := by omega
        have h3' : d.val - 64 < 32 := by omega
        have e2 : (⟨d.val - 32 - 32, h3⟩ : Fin 32) = ⟨d.val - 64, h3'⟩ := Fin.ext (by show d.val - 32 - 32 = d.val - 64; omega)
        simp only [dif_neg h1, dif_neg h2, dif_pos h3, dif_neg h64, dif_pos h3', if_pos h0, e, e2, Scalar.select, mul_neg, ← sub_eq_add_neg]
        simp
      · have e : (⟨(d.val + 128 - 32) % 128, Nat.mod_lt _ (by norm_num)⟩ : Fin 128) = ⟨d.val - 32, by omega⟩ := Fin.ext (by show (d.val + 128 - 32) % 128 = d.val - 32; omega)
        have h0 : ¬ d.val / 32 % 2 = 0 := by omega
        have h3' : ¬ d.val - 64 < 32 := by omega
        have e2 : (⟨d.val - 32 - 32 - 32, by omega⟩ : Fin 32) = ⟨d.val - 96, by omega⟩ := Fin.ext (by show d.val - 32 - 32 - 32 = d.val - 96; omega)
        have e3 : (⟨d.val - 64 - 32, by omega⟩ : Fin 32) = ⟨d.val - 96, by omega⟩ := Fin.ext (by show d.val - 64 - 32 = d.val - 96; omega)
        simp only [dif_neg h1, dif_neg h2, dif_neg h3, dif_neg h64, dif_neg h3', if_neg h0, e, e2, e3, Scalar.select]
        simp

variable (m : (ℓ : Loc nD τ sig) → Buf (Elt Ideal) ℓ)

/-- The table of cosines as the region is entered. -/
theorem V_cos (c : Dev nD) : (V m c main_v67 : FVec Ideal S2176x128 .f32) = cosT := by
  unfold V
  simp only [List.flatten_cons, List.cons_append, List.nil_append]
  after_reads_simp
  refine padc_congr ?_ ?_ ?_ ?_
  · show StableHlo.upto _ _ _ (Proc.devRef .tc main_v30) = _
    after_reads_simp
    rfl
  · show StableHlo.upto _ _ _ (Proc.devRef .tc main_v31) = _
    after_reads_simp
    rfl
  · show StableHlo.upto _ _ _ (Proc.devRef .tc main_v32) = _
    after_reads_simp
    rfl
  · show StableHlo.upto _ _ _ (Proc.devRef .tc main_v33) = _
    after_reads_simp
    rfl

/-- The table of signed sines as the region is entered. -/
theorem V_sin (c : Dev nD) : (V m c main_v68 : FVec Ideal S2176x128 .f32) = sinT := by
  unfold V
  simp only [List.flatten_cons, List.cons_append, List.nil_append]
  after_reads_simp
  refine padc_congr ?_ ?_ ?_ ?_
  · show StableHlo.upto _ _ _ (Proc.devRef .tc main_v36) = _
    after_reads_simp
    rfl
  · show StableHlo.upto _ _ _ (Proc.devRef .tc main_v37) = _
    after_reads_simp
    rfl
  · show StableHlo.upto _ _ _ (Proc.devRef .tc main_v39) = _
    after_reads_simp
    rfl
  · show StableHlo.upto _ _ _ (Proc.devRef .tc main_v40) = _
    after_reads_simp
    rfl

/-- The queries' gains as the region is entered. -/
theorem V_gq (c : Dev nD) : (V m c main_v71 : FVec Ideal S1x128 .f32)
    = shapeCast S1x128 (m ((c : Thread nD τ).loc main_arg1) : FVec Ideal S128 .f32) shapeCasts_S128_S1x128 := by
  unfold V
  simp only [List.flatten_cons, List.cons_append, List.nil_append]
  after_reads_simp
  rfl

/-- The keys' gains as the region is entered. -/
theorem V_gk (c : Dev nD) : (V m c main_v72 : FVec Ideal S1x128 .f32)
    = shapeCast S1x128 (m ((c : Thread nD τ).loc main_arg2) : FVec Ideal S128 .f32) shapeCasts_S128_S1x128 := by
  unfold V
  simp only [List.flatten_cons, List.cons_append, List.nil_append]
  after_reads_simp
  rfl

/-- Which block of each array grid point `t` works on. -/
theorem idx_val : ∀ t : Fin cfg0.N, win0_0.index t = ![t.val / 32 * 4 + t.val % 4, t.val / 4 % 8]
    ∧ win0_1.index t = ![t.val / 32, 8 + t.val / 16 % 2]
    ∧ win0_2.index t = ![t.val / 32, 10 + t.val / 16 % 2]
    ∧ win0_3.index t = ![t.val % 4, 0] ∧ win0_4.index t = ![t.val % 4, 0]
    ∧ win0_5.index t = ![0, 0] ∧ win0_6.index t = ![0, 0] ∧ win0_7.index t = ![0, 0] ∧ win0_8.index t = ![0, 0]
    ∧ win0_9.index t = ![t.val / 32 * 4 + t.val % 4, t.val / 4 % 8] :=
  (by decide +kernel : ∀ t : Fin grid0.N, _)

/-- The projection's array at its literal shape. -/
abbrev X (c : Dev nD) : FVec Ideal ⟨2, ![8704, 8704]⟩ .bf16 := m ((c : Thread nD τ).loc main_arg0)
/-- The queries' gains at their literal shape. -/
abbrev GQ (c : Dev nD) : FVec Ideal ⟨1, ![128]⟩ .f32 := m ((c : Thread nD τ).loc main_arg1)
/-- The keys' gains at their literal shape. -/
abbrev GK (c : Dev nD) : FVec Ideal ⟨1, ![128]⟩ .f32 := m ((c : Thread nD τ).loc main_arg2)

/-- Grid points are below 128. -/
theorem tlt (t : Fin cfg0.N) : t.val < 128 := t.isLt

/-- A block of queries. -/
theorem q_read (c : Dev nD) (t : Fin cfg0.N) (r : Fin 544) (d : Fin 128) : (iblk m c 0 t : FVec Ideal S544x128 .bf16) (ix2 r d)
    = row (X m c) ⟨(t.val / 32 * 4 + t.val % 4) * 544 + r.val, by have := tlt t; omega⟩ ⟨t.val / 4 % 8, by omega⟩ d := by
  unfold row X
  blk_point [iblk, V, idx_val t]

/-- A block of keys. -/
theorem k_read (c : Dev nD) (t : Fin cfg0.N) (r : Fin 2176) (d : Fin 128) : (iblk m c 1 t : FVec Ideal S2176x128 .bf16) (ix2 r d)
    = row (X m c) ⟨t.val / 32 * 2176 + r.val, by have := tlt t; omega⟩ ⟨8 + t.val / 16 % 2, by omega⟩ d := by
  unfold row X
  blk_point [iblk, V, idx_val t]

/-- A block of values. -/
theorem v_read (c : Dev nD) (t : Fin cfg0.N) (r : Fin 2176) (d : Fin 128) : (iblk m c 2 t : FVec Ideal S2176x128 .bf16) (ix2 r d)
    = row (X m c) ⟨t.val / 32 * 2176 + r.val, by have := tlt t; omega⟩ ⟨10 + t.val / 16 % 2, by omega⟩ d := by
  unfold row X
  blk_point [iblk, V, idx_val t]

/-- The queries' block of cosines. -/
theorem cq_read (c : Dev nD) (t : Fin cfg0.N) (r : Fin 544) (d : Fin 128) : (iblk m c 3 t : FVec Ideal S544x128 .f32) (ix2 r d)
    = cosT (ix2 ⟨t.val % 4 * 544 + r.val, by omega⟩ d) := by
  rw [← V_cos m c]
  blk_point [iblk, idx_val t]

/-- The queries' block of sines. -/
theorem sq_read (c : Dev nD) (t : Fin cfg0.N) (r : Fin 544) (d : Fin 128) : (iblk m c 4 t : FVec Ideal S544x128 .f32) (ix2 r d)
    = sinT (ix2 ⟨t.val % 4 * 544 + r.val, by omega⟩ d) := by
  rw [← V_sin m c]
  blk_point [iblk, idx_val t]

/-- The keys' cosines. -/
theorem ck_read (c : Dev nD) (t : Fin cfg0.N) (r : Fin 2176) (d : Fin 128) : (iblk m c 5 t : FVec Ideal S2176x128 .f32) (ix2 r d)
    = cosT (ix2 r d) := by
  rw [← V_cos m c]
  blk_point [iblk, idx_val t]

/-- The keys' sines. -/
theorem sk_read (c : Dev nD) (t : Fin cfg0.N) (r : Fin 2176) (d : Fin 128) : (iblk m c 6 t : FVec Ideal S2176x128 .f32) (ix2 r d)
    = sinT (ix2 r d) := by
  rw [← V_sin m c]
  blk_point [iblk, idx_val t]

/-- The queries' gains. -/
theorem gq_read (c : Dev nD) (t : Fin cfg0.N) (d : Fin 128) : (iblk m c 7 t : FVec Ideal S1x128 .f32) (ix2 0 d) = GQ m c (ix1 d) := by
  have e : (V m c main_v71 : FVec Ideal S1x128 .f32) (ix2 0 d) = GQ m c (ix1 d) := by
    rw [V_gq]
    pointwise []
  rw [← e]
  blk_point [iblk, idx_val t]

/-- The keys' gains. -/
theorem gk_read (c : Dev nD) (t : Fin cfg0.N) (d : Fin 128) : (iblk m c 8 t : FVec Ideal S1x128 .f32) (ix2 0 d) = GK m c (ix1 d) := by
  have e : (V m c main_v72 : FVec Ideal S1x128 .f32) (ix2 0 d) = GK m c (ix1 d) := by
    rw [V_gk]
    pointwise []
  rw [← e]
  blk_point [iblk, idx_val t]

/-- The rotated keys of point `t`'s head, the value the scratch carries. -/
abbrev keys (c : Dev nD) (t : Fin cfg0.N) : FVec Ideal S2176x128 .bf16 := k0_pay2 (iblk m c 1 t) (iblk m c 8 t) (iblk m c 5 t) (iblk m c 6 t)

/-- One rotated key, padding rows included. -/
theorem keys_apply (c : Dev nD) (t : Fin cfg0.N) (r : Fin 2176) (d : Fin 128) : keys m c t (ix2 r d)
    = rotK (nrm (row (X m c) ⟨t.val / 32 * 2176 + r.val, by have := tlt t; omega⟩ ⟨8 + t.val / 16 % 2, by omega⟩) (fun k => GK m c (ix1 k)))
      (fun k => cosT (ix2 r k)) (fun k => sinT (ix2 r k)) d := by
  unfold keys
  pointwise [k0_pay2]
  simp only [k_read, gk_read, ck_read, sk_read]
  rfl

/-- The rotated queries of point `t`. -/
theorem q_apply (c : Dev nD) (t : Fin cfg0.N) (r : Fin 544) (d : Fin 128) :
    k0_pay4 (iblk m c 0 t) (iblk m c 7 t) (iblk m c 3 t) (ix2 r d) + k0_pay5 (iblk m c 0 t) (iblk m c 7 t) (iblk m c 4 t) (ix2 r d)
    = rotK (nrm (row (X m c) ⟨(t.val / 32 * 4 + t.val % 4) * 544 + r.val, by have := tlt t; omega⟩ ⟨t.val / 4 % 8, by omega⟩) (fun k => GQ m c (ix1 k)))
      (fun k => cosT (ix2 ⟨t.val % 4 * 544 + r.val, by omega⟩ k)) (fun k => sinT (ix2 ⟨t.val % 4 * 544 + r.val, by omega⟩ k)) d := by
  pointwise [k0_pay5, k0_pay4, k0_pay3]
  simp only [q_read, gq_read, cq_read, sq_read]
  rfl

/-- Points of one run of sixteen rotate the same keys. -/
theorem keys_eq (c : Dev nD) (t t' : Fin cfg0.N) (h : t.val / 16 = t'.val / 16) : keys m c t = keys m c t' := by
  funext x
  idx_vars x
  rw [keys_apply, keys_apply]
  congr 2
  · congr 1
    · exact Fin.ext (by show t.val / 32 * 2176 + _ = t'.val / 32 * 2176 + _; omega)
    · exact Fin.ext (by show 8 + t.val / 16 % 2 = 8 + t'.val / 16 % 2; omega)

/-- After every point the scratch holds the head's rotated keys. -/
theorem scr (c : Dev nD) : ∀ (n : ℕ) (h : n < cfg0.N), (outsAt0 m c n h).2 = keys m c ⟨n, h⟩
  | 0, h => by
    rw [outsAt0_A m c ⟨0, h⟩ rfl]; frame_out
  | n + 1, h => by
    by_cases h0 : (n + 1) % 16 = 0
    · rw [outsAt0_A m c ⟨n + 1, h⟩ h0]; frame_out
    · rw [outsAt0_B m c ⟨n + 1, h⟩ h0]
      show (outsAt0 m c n _).2 = _
      rw [scr c n (Nat.lt_of_succ_lt h)]
      rw [keys_eq m c ⟨n, Nat.lt_of_succ_lt h⟩ ⟨n + 1, h⟩ (by show n / 16 = (n + 1) / 16; omega)]

/-- What point `t` leaves in the output's buffer. -/
theorem out_eq (c : Dev nD) (t : Fin cfg0.N) : (outsAt0 m c t.val t.isLt).1
    = k0_pay1 (k0_pay4 (iblk m c 0 t) (iblk m c 7 t) (iblk m c 3 t)) (k0_pay5 (iblk m c 0 t) (iblk m c 7 t) (iblk m c 4 t)) (keys m c t) (iblk m c 2 t) := by
  by_cases h0 : t.val % 16 = 0
  · rw [outsAt0_A m c t h0]; frame_out
  · rw [outsAt0_B m c t h0, scr]; frame_out
    rw [keys_eq m c ⟨t.val - 1, Nat.lt_of_le_of_lt (Nat.sub_le _ _) t.isLt⟩ t (by show (t.val - 1) / 16 = t.val / 16; omega),
      read_unread_whole]

end Cert.KernelIdeal.Attn

end
-- ==== Proof.AttnA.lean ====
/- Mixer A's attention: the kernel and the reference leave the same numbers in every row of a token. -/
module

public import proofs.«01_k».proof.Proof.KerA
public import proofs.«01_k».proof.Defs
public import proofs.«01_k».proof.Proof.Gen.ReferenceIdeal.Run
public import Idealize.ShloMosaic.Lib.ReduceAll

@[expose] public section

set_option maxRecDepth 16384

noncomputable section

namespace Cert.AttnMath

open Idealize.ShloMosaic Idealize.ShloMosaic.TcCoe Idealize.SL.Sem

/-- A real power of a real base at a real exponent is real. -/
theorem IsR.pow {x y : EReal} : IsR x → IsR y → IsR (Ideal.pow x y) := by
  rintro ⟨a, rfl⟩ ⟨b, rfl⟩
  exact ⟨_, rfl⟩

/-- An integer taken as a number is real. -/
theorem IsR.sitofp {w : ℕ} (x : BitVec w) : IsR (FloatOps.sitofp (F := Ideal) .f32 x) := ⟨_, rfl⟩

/-- An extended real below the infinite constant in size is real. -/
theorem isR_of_abs {x : EReal} (h : FloatOps.cmpf (F := Ideal) (φ := .f32) .olt (FloatOps.absf (F := Ideal) (φ := .f32) x) (Ideal.ofBits .f32 0x7F800000#32) = 1#1) :
    IsR x := by
  have e : Ideal.ofBits .f32 0x7F800000#32 = ⊤ := by simp [Ideal.ofBits, Ideal.ieee]
  rw [e] at h
  induction x with
  | bot => exact absurd h (by change ¬ Ideal.cmp .olt (max (⊥ : EReal) (-⊥)) ⊤ = 1#1; simp [Ideal.cmp])
  | top => exact absurd h (by change ¬ Ideal.cmp .olt (max (⊤ : EReal) (-⊤)) ⊤ = 1#1; simp [Ideal.cmp])
  | coe r => exact ⟨r, rfl⟩

end Cert.AttnMath

namespace Cert.ReferenceIdeal.Attn

open Idealize.ShloMosaic Idealize.ShloMosaic.TcCoe Idealize.SL.Sem
open Cert.ReferenceIdeal Cert.ReferenceIdeal.Read Cert.AttnMath

/-- The constants of the angles. -/
theorem k2_real : IsR (Ideal.ofBits FTy.f32 1073741824#32) := ⟨_, by simp [Ideal.ofBits, Ideal.ieee]; rfl⟩
/-- The angles' divisor is the real number 64. -/
theorem k64_eq : Ideal.ofBits FTy.f32 1115684864#32 = ((64 : ℝ) : EReal) := by
  simp [Ideal.ofBits, Ideal.ieee]
  rw [← EReal.coe_mul]; norm_num
/-- The base of the angles is real. -/
theorem kb_real : IsR (val_main_cst_3 (F := Ideal) ix0) := ⟨_, by
  rw [val_main_cst_3_apply]; simp [Ideal.ofBits, Ideal.ieee]; rfl⟩

/-- The row angles are real. -/
theorem aR_real (l : Fin 2064) (j : Fin 32) : IsR (aR l j) := by
  unfold aR
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2]
  rw [k64_eq, Ideal.div_coe (by norm_num)]
  refine IsR.mul ?_ (kb_real.pow (((k2_real.mul (IsR.sitofp _)).neg).mul (IsR.coe _)))
  split
  · exact IsR.zero
  · exact IsR.sitofp _

/-- The column angles are real. -/
theorem aC_real (l : Fin 2064) (j : Fin 32) : IsR (aC l j) := by
  unfold aC
  pointwise [val_main_v38, val_main_v37, val_main_v36, val_main_v35, val_main_v34, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2]
  rw [k64_eq, Ideal.div_coe (by norm_num)]
  refine IsR.mul ?_ (kb_real.pow (((k2_real.mul (IsR.sitofp _)).neg).mul (IsR.coe _)))
  split
  · exact IsR.zero
  · exact IsR.sitofp _

end Cert.ReferenceIdeal.Attn

namespace Cert.KernelIdeal.Attn

open Idealize.ShloMosaic Idealize.ShloMosaic.TcCoe Idealize.SL.Sem
open Cert.KernelIdeal Cert.KernelIdeal.Gen Cert.AttnMath
open Cert.ReferenceIdeal.Attn (row tok aR aC Q K qh score aR_real aC_real)

attribute [local instance] Cert.KernelIdeal.Gen.facts

variable (m : (ℓ : Loc nD τ sig) → Buf (Elt Ideal) ℓ)

/-- The precondition's content: both gains are real everywhere. -/
theorem gains_real [Cert.Pre_finite_gains.Facts] (hp : Cert.Pre_KernelIdeal_finite_gains m) (c : Dev nD) :
    (∀ d, IsR (GQ m c (ix1 d))) ∧ ∀ d, IsR (GK m c (ix1 d)) := by
  have h := congrFun (hp c) ix0
  unfold Cert.Pre_finite_gains.fn at h
  obtain ⟨h1, h2⟩ := IntOp.andi_eq_one.1 (show IntOp.andi (_ : BitVec 1) _ = 1#1 from h)
  refine ⟨fun d => isR_of_abs ?_, fun d => isR_of_abs ?_⟩
  · have := Host.reduce_andi_all _ _ _ _ _ h1 (ix1 d)
    exact this
  · have := Host.reduce_andi_all _ _ _ _ _ h2 (ix1 d)
    exact this

/-- The comparison of a row's number with the number of tokens. -/
theorem slt_tok : ∀ x : Fin 2176, IntOp.cmpi .slt (BitVec.ofNat 32 x.val) 2064#32 = if x.val < 2064 then 1#1 else 0#1 := by
  decide +kernel

/-- The claim's mask marks only the rows of tokens. -/
theorem on_row [Cert.On_real_rows.Facts] (x : FVec Ideal ⟨2, ![8704, 8704]⟩ .bf16) (y z : FVec Ideal ⟨1, ![128]⟩ .f32) (i : (⟨2, ![8704, 1024]⟩ : Shape).Idx)
    (h : Cert.On_real_rows.fn (F := Ideal) x y z i = 1#1) : (i 0).val % 2176 < 2064 := by
  idx_vars i
  revert h
  pointwise [Cert.On_real_rows.fn]
  intro h
  have e := slt_tok ⟨i0.val % 2176, by omega⟩
  by_contra hn
  rw [if_neg hn] at e
  have := e.symm.trans h
  exact absurd this (by decide)

/-- The kernel's column mask: nothing below the tokens' number, minus infinity past it. -/
theorem mask_eq (x : Fin 2176) : (Scalar.select (IntOp.cmpi .slt (BitVec.ofNat 32 x.val) 2064#32) (0 : EReal) (Named.named (F := Ideal) κ (φ := .f32) "masked" 4048155338#32 : EReal))
    = if x.val < 2064 then 0 else ⊥ := by
  rw [slt_tok]
  split <;> rfl

/-- One entry of what point `t` leaves in the output's buffer, at a row of a token. -/
theorem out_apply (c : Dev nD) (hq : ∀ d, IsR (GQ m c (ix1 d))) (hk : ∀ d, IsR (GK m c (ix1 d))) (t : Fin cfg0.N) (r : Fin 544) (d : Fin 128)
    (hr : t.val % 4 * 544 + r.val < 2064) :
    k0_pay1 (k0_pay4 (iblk m c 0 t) (iblk m c 7 t) (iblk m c 3 t)) (k0_pay5 (iblk m c 0 t) (iblk m c 7 t) (iblk m c 4 t)) (keys m c t) (iblk m c 2 t) (ix2 r d)
    = soft (score (X m c) (GQ m c) (GK m c) ⟨t.val / 32, by have := tlt t; omega⟩ ⟨t.val / 16 % 2, by omega⟩ ⟨t.val / 4 % 4, by omega⟩ ⟨t.val % 4 * 544 + r.val, hr⟩)
        (fun k => row (X m c) (tok ⟨t.val / 32, by have := tlt t; omega⟩ k) ⟨10 + t.val / 16 % 2, by omega⟩ d) := by
  pointwise [k0_pay1]
  simp only [q_apply, v_read]
  rw [Cert.ReferenceIdeal.Attn.init_eq]
  refine soft_eq (fun x : Fin 2176 => (∑ x_1, rotK (nrm (row (X m c) ⟨(t.val / 32 * 4 + t.val % 4) * 544 + r.val, by have := tlt t; omega⟩ ⟨t.val / 4 % 8, by omega⟩) (fun k => GQ m c (ix1 k)))
      (fun k => cosT (ix2 ⟨t.val % 4 * 544 + r.val, by omega⟩ k)) (fun k => sinT (ix2 ⟨t.val % 4 * 544 + r.val, by omega⟩ k)) x_1 * csc * keys m c t (ix2 x x_1))
      + (Scalar.select (IntOp.cmpi .slt (BitVec.ofNat 32 x.val) 2064#32) (0 : EReal) (Named.named (F := Ideal) κ (φ := .f32) "masked" 4048155338#32 : EReal)))
    (fun x : Fin 2176 => row (X m c) ⟨t.val / 32 * 2176 + x.val, by have := tlt t; omega⟩ ⟨10 + t.val / 16 % 2, by omega⟩ d) _ _ (fun j => ?_) (fun j => ?_) (fun j => ?_) (fun j => ?_)
  · exact score_real _ _ (fun d => rope_real _ _ (aR_real _) (aC_real _) _ (fun d => nrm_real _ _ hq d) d)
      (fun d => rope_real _ _ (aR_real _) (aC_real _) _ (fun d => nrm_real _ _ hk d) d)
  · show (∑ x_1, _ * csc * _) + _ = _
    rw [mask_eq, if_pos (by show j.val < 2064; exact j.isLt), add_zero]
    have e1 : (⟨(t.val / 32 * 4 + t.val % 4) * 544 + r.val, by have := tlt t; omega⟩ : Fin 8704)
        = tok ⟨t.val / 32, by have := tlt t; omega⟩ ⟨t.val % 4 * 544 + r.val, hr⟩ := Fin.ext (by show (t.val / 32 * 4 + t.val % 4) * 544 + r.val = t.val / 32 * 2176 + (t.val % 4 * 544 + r.val); omega)
    have e2 : (⟨t.val / 4 % 8, by omega⟩ : Fin 68) = ⟨(qh ⟨t.val / 16 % 2, by omega⟩ ⟨t.val / 4 % 4, by omega⟩).val, by omega⟩ :=
      Fin.ext (by show t.val / 4 % 8 = t.val / 16 % 2 * 4 + t.val / 4 % 4; omega)
    have e3 : ∀ x : Fin 128, keys m c t (ix2 (Fin.castAdd 112 j) x) = K (X m c) (GK m c) ⟨t.val / 32, by have := tlt t; omega⟩ j ⟨t.val / 16 % 2, by omega⟩ x := fun x => by
      rw [keys_apply]
      exact rotK_eq j _ x
    have e4 : ∀ x : Fin 128, rotK (nrm (row (X m c) ⟨(t.val / 32 * 4 + t.val % 4) * 544 + r.val, by have := tlt t; omega⟩ ⟨t.val / 4 % 8, by omega⟩) (fun k => GQ m c (ix1 k)))
      (fun k => cosT (ix2 ⟨t.val % 4 * 544 + r.val, by omega⟩ k)) (fun k => sinT (ix2 ⟨t.val % 4 * 544 + r.val, by omega⟩ k)) x
      = Q (X m c) (GQ m c) ⟨t.val / 32, by have := tlt t; omega⟩ ⟨t.val % 4 * 544 + r.val, hr⟩ (qh ⟨t.val / 16 % 2, by omega⟩ ⟨t.val / 4 % 4, by omega⟩) x := fun x => by
      rw [e1, e2]
      exact rotK_eq ⟨t.val % 4 * 544 + r.val, hr⟩ _ x
    simp only [e3, e4]
    exact score_eq _ _ (fun d => rope_real _ _ (aR_real _) (aC_real _) _ (fun d => nrm_real _ _ hq d) d)
      (fun d => rope_real _ _ (aR_real _) (aC_real _) _ (fun d => nrm_real _ _ hk d) d)
  · rw [mask_eq, if_neg (by show ¬ 2064 + j.val < 2064; omega), EReal.add_bot]
  · rfl

/-- Every row of a token of the kernel's result is the reference's. -/
theorem final (c : Dev nD) (hq : ∀ d, IsR (GQ m c (ix1 d))) (hk : ∀ d, IsR (GK m c (ix1 d))) (i : (⟨2, ![8704, 1024]⟩ : Shape).Idx) :
    (i 0).val % 2176 < 2064 → (dats m 0 c).arrAt 9 (cfgs 0).N i = Cert.ReferenceIdeal.Read.val_main_v165 (F := Ideal) (X m c) (GQ m c) (GK m c) i := by
  refine (dats m 0 c).arrAt_forall_of_covers 9 (fun (i : (⟨2, ![8704, 1024]⟩ : Shape).Idx) v => (i 0).val % 2176 < 2064 → v = Cert.ReferenceIdeal.Read.val_main_v165 (F := Ideal) (X m c) (GQ m c) (GK m c) i)
    (by decide +kernel) (fun t hf y => ?_) i
  blk_simp
  rw [after0_9, out_eq]
  obtain ⟨r, d, rfl⟩ : ∃ (r : Fin 544) (d : Fin 128), y = (ix2 r d : S544x128.Idx) :=
    ⟨y 0, y 1, by funext a; match a with | ⟨0, _⟩ => rfl | ⟨1, _⟩ => rfl⟩
  have ht := tlt t
  have hi := (idx_val t).2.2.2.2.2.2.2.2.2
  have he : (win0_9.blk t).view.emb (ix2 r d : S544x128.Idx)
      = (ix2 ⟨(t.val / 32 * 4 + t.val % 4) * 544 + r.val, by omega⟩ ⟨t.val / 4 % 8 * 128 + d.val, by omega⟩ : (⟨2, ![8704, 1024]⟩ : Shape).Idx) := by
    funext a
    match a with
    | ⟨0, _⟩ => exact Fin.ext (by blk_simp; rw [hi]; rfl)
    | ⟨1, _⟩ => exact Fin.ext (by blk_simp; rw [hi]; rfl)
  rw [he, hi]
  intro h
  have h' : ((t.val / 32 * 4 + t.val % 4) * 544 + r.val) % 2176 < 2064 := h
  have hr : t.val % 4 * 544 + r.val < 2064 := by omega
  rw [Cert.ReferenceIdeal.Attn.v165_eq _ _ _ _ h', out_apply m c hq hk t r d hr]
  have a1 : (⟨t.val / 32, by omega⟩ : Fin 4) = ⟨((t.val / 32 * 4 + t.val % 4) * 544 + r.val) / 2176, by omega⟩ := Fin.ext (by show t.val / 32 = ((t.val / 32 * 4 + t.val % 4) * 544 + r.val) / 2176; omega)
  have a2 : (⟨t.val / 16 % 2, by omega⟩ : Fin 2) = ⟨(t.val / 4 % 8 * 128 + d.val) / 512, by omega⟩ := Fin.ext (by show t.val / 16 % 2 = (t.val / 4 % 8 * 128 + d.val) / 512; omega)
  have a3 : (⟨t.val / 4 % 4, by omega⟩ : Fin 4) = ⟨(t.val / 4 % 8 * 128 + d.val) / 128 % 4, by omega⟩ := Fin.ext (by show t.val / 4 % 4 = (t.val / 4 % 8 * 128 + d.val) / 128 % 4; omega)
  have a4 : (⟨t.val % 4 * 544 + r.val, hr⟩ : Fin 2064) = ⟨((t.val / 32 * 4 + t.val % 4) * 544 + r.val) % 2176, h'⟩ := Fin.ext (by show t.val % 4 * 544 + r.val = ((t.val / 32 * 4 + t.val % 4) * 544 + r.val) % 2176; omega)
  have a5 : (⟨10 + t.val / 16 % 2, by omega⟩ : Fin 68) = ⟨10 + (t.val / 4 % 8 * 128 + d.val) / 512, by omega⟩ := Fin.ext (by show 10 + t.val / 16 % 2 = 10 + (t.val / 4 % 8 * 128 + d.val) / 512; omega)
  have a6 : d = ⟨(t.val / 4 % 8 * 128 + d.val) % 128, by omega⟩ := Fin.ext (by show d.val = (t.val / 4 % 8 * 128 + d.val) % 128; omega)
  rw [a1, a2, a3, a4, a5]
  refine soft_congr (fun j => rfl) (fun j => ?_)
  exact congrArg _ a6

/-- The claim: in every row of a token the run of the kernel and the run of the reference leave the same numbers. -/
theorem alg [Cert.Pre_finite_gains.Facts] [Cert.On_real_rows.Facts] : Cert.algebraic_KernelIdeal_ReferenceIdeal_on_real_rows_pre_finite_gains
    (hKernelIdeal := Cert.KernelIdeal.Gen.facts) (hReferenceIdeal := Cert.ReferenceIdeal.Gen.facts) := by
  intro m g m' g' hp h
  refine ⟨fun c => Cert.ReferenceIdeal.Read.val_main_v165 (F := Ideal) (X m c) (GQ m c) (GK m c), ?_, ?_⟩
  · exact (θ_run defs _ _).mono (fun r h c => ⟨fun i hi => (congrFun (h c).1 i).trans
      (final m c (gains_real m hp c).1 (gains_real m hp c).2 i (on_row _ _ _ i hi)), (h c).2⟩) (Value.run_blocks m g)
  · refine (θ_run Cert.ReferenceIdeal.defs _ _).mono (fun r h' c => ⟨fun i _ => (congrFun ((h' c).1.trans (Cert.ReferenceIdeal.Read.val_main_v165_eq (F := Ideal) (StableHlo.launchContents m' c))) i).trans ?_, (h' c).2⟩)
      (Cert.ReferenceIdeal.Value.run m' g')
    show Cert.ReferenceIdeal.Read.val_main_v165 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) i = _
    rw [(h c).1, (h c).2.1, (h c).2.2]

end Cert.KernelIdeal.Attn

end
-- ==== Proof.RefD.lean ====
/- Mixer D's reference read at an index: one entry of its result is the difference of two softmaxes applied to the values, normalised over the head. -/
module

public import proofs.«01_k».proof.Proof.AttnA
public import proofs.«01_k».proof.Proof.Gen.ReferenceDIdeal.Read

@[expose] public section

set_option maxRecDepth 16384

noncomputable section

namespace Cert.AttnMath

open Idealize.ShloMosaic

/-- The partial rotary embedding of a row of 128: the first two sixteens turn, the rest stays. -/
def ropeD (ang : Fin 16 → EReal) (y : Fin 128 → EReal) (d : Fin 128) : EReal :=
  if h : d.val < 32 then
    if h2 : d.val < 16 then
      y d * Ideal.cos (ang ⟨d.val, h2⟩) - y ⟨16 + d.val, by omega⟩ * Ideal.sin (ang ⟨d.val, h2⟩)
    else
      y d * Ideal.cos (ang ⟨d.val - 16, by omega⟩) + y ⟨d.val - 16, by omega⟩ * Ideal.sin (ang ⟨d.val - 16, by omega⟩)
  else y d

/-- A partially rotated real row at real angles is real. -/
theorem ropeD_real (ang : Fin 16 → EReal) (hA : ∀ j, IsR (ang j)) (y : Fin 128 → EReal) (hy : ∀ d, IsR (y d)) (d : Fin 128) :
    IsR (ropeD ang y d) := by
  unfold ropeD
  split_ifs
  · exact ((hy _).mul (hA _).cos).sub ((hy _).mul (hA _).sin)
  · exact ((hy _).mul (hA _).cos).add ((hy _).mul (hA _).sin)
  · exact hy _

end Cert.AttnMath

namespace Cert.ReferenceDIdeal.Attn

open Idealize.ShloMosaic Idealize.ShloMosaic.TcCoe Idealize.SL.Sem
open Cert.ReferenceDIdeal Cert.ReferenceDIdeal.Read Cert.AttnMath
open Cert.ReferenceIdeal.Attn (row tok)

/-- The angles of position `l`. -/
def aD (l : Fin 2064) (j : Fin 16) : EReal := val_main_v24 (F := Ideal) (ix2 l j)

variable (x0 : FVec Ideal ⟨2, ![8704, 8704]⟩ .bf16) (x1 x2 : FVec Ideal ⟨1, ![128]⟩ .f32) (x3 : FVec Ideal ⟨2, ![4, 128]⟩ .f32)
  (x4 : FVec Ideal ⟨1, ![256]⟩ .f32)

/-- A query half head normalised and rotated. -/
def Q (b : Fin 4) (l : Fin 2064) (h : Fin 4) (e : Fin 2) : Fin 128 → EReal :=
  ropeD (aD l) (nrm (row x0 (tok b l) ⟨44 + (h.val * 2 + e.val), by omega⟩) fun k => x1 (ix1 k))
/-- A key half head normalised and rotated. -/
def K (b : Fin 4) (l : Fin 2064) (h : Fin 4) (e : Fin 2) : Fin 128 → EReal :=
  ropeD (aD l) (nrm (row x0 (tok b l) ⟨52 + (h.val * 2 + e.val), by omega⟩) fun k => x2 (ix1 k))
/-- A value entry. -/
def val (b : Fin 4) (l : Fin 2064) (h : Fin 4) (d : Fin 256) : EReal :=
  x0 (ix2 (tok b l) ⟨(30 + h.val) * 256 + d.val, by omega⟩)

/-- A normalised query entry of the reference. -/
theorem v38_eq (b : Fin 4) (l : Fin 2064) (h : Fin 4) (e : Fin 2) (d : Fin 128) :
    val_main_v38 (F := Ideal) x0 x1 (ix5 b l h e d) = nrm (row x0 (tok b l) ⟨44 + (h.val * 2 + e.val), by omega⟩) (fun k => x1 (ix1 k)) d := by
  pointwise [val_main_v38, val_main_v37, val_main_v36, val_main_v35, val_main_v34, val_main_v33, val_main_v32, val_main_v31, val_main_v30, val_main_v29, val_main_v28, val_main_v27, val_main_v26, val_main_v25, val_main_v2, val_main_v1, val_main_v0, val_main_cst_3, val_main_cst_4, val_main_cst_5, nrm, row, tok, c128, ceps]
  simp only [show ∀ k : ℕ, (44 + (h.val * 2 + e.val)) * 128 + k = 5632 + (h.val * 256 + e.val * 128 + k) from fun k => by omega]

/-- A normalised key entry of the reference. -/
theorem v74_eq (b : Fin 4) (l : Fin 2064) (h : Fin 4) (e : Fin 2) (d : Fin 128) :
    val_main_v74 (F := Ideal) x0 x2 (ix5 b l h e d) = nrm (row x0 (tok b l) ⟨52 + (h.val * 2 + e.val), by omega⟩) (fun k => x2 (ix1 k)) d := by
  pointwise [val_main_v74, val_main_v73, val_main_v72, val_main_v71, val_main_v70, val_main_v69, val_main_v68, val_main_v67, val_main_v66, val_main_v65, val_main_v64, val_main_v63, val_main_v62, val_main_v61, val_main_v5, val_main_v4, val_main_v3, val_main_cst_6, val_main_cst_7, val_main_cst_8, nrm, row, tok, c128, ceps]
  simp only [show ∀ k : ℕ, (52 + (h.val * 2 + e.val)) * 128 + k = 6656 + (h.val * 256 + e.val * 128 + k) from fun k => by omega]

/-- A rotated query entry of the reference. -/
theorem v58_eq (b : Fin 4) (l : Fin 2064) (h : Fin 4) (e : Fin 2) (d : Fin 128) :
    val_main_v58 (F := Ideal) x0 x1 (ix5 b l h e d) = Q x0 x1 b l h e d := by
  unfold Q
  rw [← funext (v38_eq x0 x1 b l h e)]
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, ropeD, aD]
  by_cases h1 : d.val < 32
  · simp only [dif_pos h1]
    by_cases h2 : d.val < 16
    · simp only [dif_pos h2]
    · simp only [dif_neg h2]
      simp only [show 16 + (d.val - 16) = d.val from by omega]
  · simp only [dif_neg h1]
    simp only [show 32 + (d.val - 32) = d.val from by omega]

/-- A rotated key entry of the reference. -/
theorem v94_eq (b : Fin 4) (l : Fin 2064) (h : Fin 4) (e : Fin 2) (d : Fin 128) :
    val_main_v94 (F := Ideal) x0 x2 (ix5 b l h e d) = K x0 x2 b l h e d := by
  unfold K
  rw [← funext (v74_eq x0 x2 b l h e)]
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, ropeD, aD]
  by_cases h1 : d.val < 32
  · simp only [dif_pos h1]
    by_cases h2 : d.val < 16
    · simp only [dif_pos h2]
    · simp only [dif_neg h2]
      simp only [show 16 + (d.val - 16) = d.val from by omega]
  · simp only [dif_neg h1]
    simp only [show 32 + (d.val - 32) = d.val from by omega]

/-- The query half heads 0 by head. -/
theorem v117_eq (b : Fin 4) (h : Fin 4) (l : Fin 2064) (d : Fin 128) :
    val_main_v117 (F := Ideal) x0 x1 (ix4 b h l d) = Q x0 x1 b l h 0 d := by
  rw [val_main_v117_apply, val_main_v60_apply, val_main_v59_apply, ← v58_eq]
  congr 1
  funext a
  match a with
  | ⟨0, _⟩ => exact Fin.ext (show (((b.val * 2064 + l.val) * 4 + h.val) * 256 + d.val) / 2113536 = b.val by omega)
  | ⟨1, _⟩ => exact Fin.ext (show (((b.val * 2064 + l.val) * 4 + h.val) * 256 + d.val) / 1024 % 2064 = l.val by omega)
  | ⟨2, _⟩ => exact Fin.ext (show (((b.val * 2064 + l.val) * 4 + h.val) * 256 + d.val) / 256 % 4 = h.val by omega)
  | ⟨3, _⟩ => exact Fin.ext (show (((b.val * 2064 + l.val) * 4 + h.val) * 256 + d.val) / 128 % 2 = 0 by omega)
  | ⟨4, _⟩ => exact Fin.ext (show (((b.val * 2064 + l.val) * 4 + h.val) * 256 + d.val) % 128 = d.val by omega)

/-- The query half heads 1 by head. -/
theorem v121_eq (b : Fin 4) (h : Fin 4) (l : Fin 2064) (d : Fin 128) :
    val_main_v121 (F := Ideal) x0 x1 (ix4 b h l d) = Q x0 x1 b l h 1 d := by
  rw [val_main_v121_apply, val_main_v60_apply, val_main_v59_apply, ← v58_eq]
  congr 1
  funext a
  match a with
  | ⟨0, _⟩ => exact Fin.ext (show (((b.val * 2064 + l.val) * 4 + h.val) * 256 + (128 + d.val)) / 2113536 = b.val by omega)
  | ⟨1, _⟩ => exact Fin.ext (show (((b.val * 2064 + l.val) * 4 + h.val) * 256 + (128 + d.val)) / 1024 % 2064 = l.val by omega)
  | ⟨2, _⟩ => exact Fin.ext (show (((b.val * 2064 + l.val) * 4 + h.val) * 256 + (128 + d.val)) / 256 % 4 = h.val by omega)
  | ⟨3, _⟩ => exact Fin.ext (show (((b.val * 2064 + l.val) * 4 + h.val) * 256 + (128 + d.val)) / 128 % 2 = 1 by omega)
  | ⟨4, _⟩ => exact Fin.ext (show (((b.val * 2064 + l.val) * 4 + h.val) * 256 + (128 + d.val)) % 128 = d.val by omega)

/-- The key half heads 0 by head. -/
theorem v115_eq (b : Fin 4) (h : Fin 4) (l : Fin 2064) (d : Fin 128) :
    val_main_v115 (F := Ideal) x0 x2 (ix4 b h l d) = K x0 x2 b l h 0 d := by
  rw [val_main_v115_apply, val_main_v96_apply, val_main_v95_apply, ← v94_eq]
  congr 1
  funext a
  match a with
  | ⟨0, _⟩ => exact Fin.ext (show (((b.val * 2064 + l.val) * 4 + h.val) * 256 + d.val) / 2113536 = b.val by omega)
  | ⟨1, _⟩ => exact Fin.ext (show (((b.val * 2064 + l.val) * 4 + h.val) * 256 + d.val) / 1024 % 2064 = l.val by omega)
  | ⟨2, _⟩ => exact Fin.ext (show (((b.val * 2064 + l.val) * 4 + h.val) * 256 + d.val) / 256 % 4 = h.val by omega)
  | ⟨3, _⟩ => exact Fin.ext (show (((b.val * 2064 + l.val) * 4 + h.val) * 256 + d.val) / 128 % 2 = 0 by omega)
  | ⟨4, _⟩ => exact Fin.ext (show (((b.val * 2064 + l.val) * 4 + h.val) * 256 + d.val) % 128 = d.val by omega)

/-- The key half heads 1 by head. -/
theorem v116_eq (b : Fin 4) (h : Fin 4) (l : Fin 2064) (d : Fin 128) :
    val_main_v116 (F := Ideal) x0 x2 (ix4 b h l d) = K x0 x2 b l h 1 d := by
  rw [val_main_v116_apply, val_main_v96_apply, val_main_v95_apply, ← v94_eq]
  congr 1
  funext a
  match a with
  | ⟨0, _⟩ => exact Fin.ext (show (((b.val * 2064 + l.val) * 4 + h.val) * 256 + (128 + d.val)) / 2113536 = b.val by omega)
  | ⟨1, _⟩ => exact Fin.ext (show (((b.val * 2064 + l.val) * 4 + h.val) * 256 + (128 + d.val)) / 1024 % 2064 = l.val by omega)
  | ⟨2, _⟩ => exact Fin.ext (show (((b.val * 2064 + l.val) * 4 + h.val) * 256 + (128 + d.val)) / 256 % 4 = h.val by omega)
  | ⟨3, _⟩ => exact Fin.ext (show (((b.val * 2064 + l.val) * 4 + h.val) * 256 + (128 + d.val)) / 128 % 2 = 1 by omega)
  | ⟨4, _⟩ => exact Fin.ext (show (((b.val * 2064 + l.val) * 4 + h.val) * 256 + (128 + d.val)) % 128 = d.val by omega)

/-- The values by head. -/
theorem v98_eq (b : Fin 4) (h : Fin 4) (l : Fin 2064) (d : Fin 256) :
    val_main_v98 (F := Ideal) x0 (ix4 b h l d) = val x0 b l h d := by
  pointwise [val_main_v98, val_main_v97, val_main_v8, val_main_v7, val_main_v6, val, tok]
  simp only [show (30 + h.val) * 256 + d.val = 7680 + (h.val * 256 + d.val) from by omega]

/-- The scores of one query in half `e`. -/
def score (b : Fin 4) (h : Fin 4) (e : Fin 2) (q k : Fin 2064) : EReal :=
  (∑ d, Q x0 x1 b q h e d * K x0 x2 b k h e d) * csc

/-- One weight of the softmax. -/
def wt (s : Fin 2064 → EReal) (k : Fin 2064) : EReal :=
  Ideal.div (Ideal.exp (s k - mx s)) (∑ k', Ideal.exp (s k' - mx s))

/-- The scaled scores of half 0. -/
theorem v120_eq (b : Fin 4) (h : Fin 4) (q k : Fin 2064) :
    val_main_v120 (F := Ideal) x0 x1 x2 (ix4 b h q k) = score x0 x1 x2 b h 0 q k := by
  rw [val_main_v120_apply, val_main_v118_apply, val_main_v119_apply]
  have e1 : ∀ k', lidx_main_v118 (ix4 b h q k) k' = ix4 b h q k' := fun k' => by
    funext a; match a with
    | ⟨0, _⟩ => rfl
    | ⟨1, _⟩ => rfl
    | ⟨2, _⟩ => rfl
    | ⟨3, _⟩ => rfl
  have e2 : ∀ k', ridx_main_v118 (ix4 b h q k) k' = ix4 b h k k' := fun k' => by
    funext a; match a with
    | ⟨0, _⟩ => rfl
    | ⟨1, _⟩ => rfl
    | ⟨2, _⟩ => rfl
    | ⟨3, _⟩ => rfl
  simp only [e1, e2, v117_eq, v115_eq]
  rfl

/-- The greatest score of half 0. -/
theorem v125_eq (b : Fin 4) (h : Fin 4) (q : Fin 2064) :
    val_main_v125 (F := Ideal) x0 x1 x2 (ix3 b h q) = mx (score x0 x1 x2 b h 0 q) := by
  have e : val_main_cst_14 (F := Ideal) (Shape.Idx.first Gen.h_S_) = ⊥ := Cert.ReferenceIdeal.Attn.init_eq
  pointwise [val_main_v125]
  rw [e, funext (v120_eq x0 x1 x2 b h q)]
  rfl

/-- The greatest score of half 0 once more, against minus infinity. -/
theorem v127_eq (b : Fin 4) (h : Fin 4) (q : Fin 2064) :
    val_main_v127 (F := Ideal) x0 x1 x2 (ix3 b h q) = mx (score x0 x1 x2 b h 0 q) := by
  rw [val_main_v127_apply, v125_eq, val_main_v126_apply]
  show max (Ideal.ofBits .f32 4286578688#32) _ = _
  rw [Cert.ReferenceIdeal.Attn.init_eq, max_eq_right bot_le]

/-- The exponential of a score of half 0 less the greatest. -/
theorem v131_eq (b : Fin 4) (h : Fin 4) (q k : Fin 2064) :
    val_main_v131 (F := Ideal) x0 x1 x2 (ix4 b h q k)
      = Ideal.exp (score x0 x1 x2 b h 0 q k - mx (score x0 x1 x2 b h 0 q)) := by
  rw [val_main_v131_apply, val_main_v130_apply, val_main_v129_apply, val_main_v128_apply, v120_eq]
  have e : idx_main_v128 (idx_main_v129 (ix4 b h q k)) = ix3 b h q := by
    funext a; match a with
    | ⟨0, _⟩ => rfl
    | ⟨1, _⟩ => rfl
    | ⟨2, _⟩ => rfl
  rw [e, v127_eq]
  rfl

/-- The sum of the exponentials of half 0. -/
theorem v132_eq (b : Fin 4) (h : Fin 4) (q : Fin 2064) :
    val_main_v132 (F := Ideal) x0 x1 x2 (ix3 b h q)
      = ∑ k, Ideal.exp (score x0 x1 x2 b h 0 q k - mx (score x0 x1 x2 b h 0 q)) := by
  rw [val_main_v132_apply]
  have e : ∀ k, idx_main_v132 (ix3 b h q) k = ix4 b h q k := fun k => by
    funext a; match a with
    | ⟨0, _⟩ => rfl
    | ⟨1, _⟩ => rfl
    | ⟨2, _⟩ => rfl
    | ⟨3, _⟩ => rfl
  simp only [e, v131_eq]
  show Ideal.ofBits .f32 0#32 + _ = _
  rw [Ideal.ofBits_zero_f32, zero_add]

/-- One weight of half 0. -/
theorem v135_eq (b : Fin 4) (h : Fin 4) (q k : Fin 2064) :
    val_main_v135 (F := Ideal) x0 x1 x2 (ix4 b h q k) = wt (score x0 x1 x2 b h 0 q) k := by
  rw [val_main_v135_apply, val_main_v134_apply, val_main_v133_apply, v131_eq]
  have e : idx_main_v133 (idx_main_v134 (ix4 b h q k)) = ix3 b h q := by
    funext a; match a with
    | ⟨0, _⟩ => rfl
    | ⟨1, _⟩ => rfl
    | ⟨2, _⟩ => rfl
  rw [e, v132_eq]
  rfl

/-- The scaled scores of half 1. -/
theorem v124_eq (b : Fin 4) (h : Fin 4) (q k : Fin 2064) :
    val_main_v124 (F := Ideal) x0 x1 x2 (ix4 b h q k) = score x0 x1 x2 b h 1 q k := by
  rw [val_main_v124_apply, val_main_v122_apply, val_main_v123_apply]
  have e1 : ∀ k', lidx_main_v122 (ix4 b h q k) k' = ix4 b h q k' := fun k' => by
    funext a; match a with
    | ⟨0, _⟩ => rfl
    | ⟨1, _⟩ => rfl
    | ⟨2, _⟩ => rfl
    | ⟨3, _⟩ => rfl
  have e2 : ∀ k', ridx_main_v122 (ix4 b h q k) k' = ix4 b h k k' := fun k' => by
    funext a; match a with
    | ⟨0, _⟩ => rfl
    | ⟨1, _⟩ => rfl
    | ⟨2, _⟩ => rfl
    | ⟨3, _⟩ => rfl
  simp only [e1, e2, v121_eq, v116_eq]
  rfl

/-- The greatest score of half 1. -/
theorem v136_eq (b : Fin 4) (h : Fin 4) (q : Fin 2064) :
    val_main_v136 (F := Ideal) x0 x1 x2 (ix3 b h q) = mx (score x0 x1 x2 b h 1 q) := by
  have e : val_main_cst_17 (F := Ideal) (Shape.Idx.first Gen.h_S_) = ⊥ := Cert.ReferenceIdeal.Attn.init_eq
  pointwise [val_main_v136]
  rw [e, funext (v124_eq x0 x1 x2 b h q)]
  rfl

/-- The greatest score of half 1 once more, against minus infinity. -/
theorem v138_eq (b : Fin 4) (h : Fin 4) (q : Fin 2064) :
    val_main_v138 (F := Ideal) x0 x1 x2 (ix3 b h q) = mx (score x0 x1 x2 b h 1 q) := by
  rw [val_main_v138_apply, v136_eq, val_main_v137_apply]
  show max (Ideal.ofBits .f32 4286578688#32) _ = _
  rw [Cert.ReferenceIdeal.Attn.init_eq, max_eq_right bot_le]

/-- The exponential of a score of half 1 less the greatest. -/
theorem v142_eq (b : Fin 4) (h : Fin 4) (q k : Fin 2064) :
    val_main_v142 (F := Ideal) x0 x1 x2 (ix4 b h q k)
      = Ideal.exp (score x0 x1 x2 b h 1 q k - mx (score x0 x1 x2 b h 1 q)) := by
  rw [val_main_v142_apply, val_main_v141_apply, val_main_v140_apply, val_main_v139_apply, v124_eq]
  have e : idx_main_v139 (idx_main_v140 (ix4 b h q k)) = ix3 b h q := by
    funext a; match a with
    | ⟨0, _⟩ => rfl
    | ⟨1, _⟩ => rfl
    | ⟨2, _⟩ => rfl
  rw [e, v138_eq]
  rfl

/-- The sum of the exponentials of half 1. -/
theorem v143_eq (b : Fin 4) (h : Fin 4) (q : Fin 2064) :
    val_main_v143 (F := Ideal) x0 x1 x2 (ix3 b h q)
      = ∑ k, Ideal.exp (score x0 x1 x2 b h 1 q k - mx (score x0 x1 x2 b h 1 q)) := by
  rw [val_main_v143_apply]
  have e : ∀ k, idx_main_v143 (ix3 b h q) k = ix4 b h q k := fun k => by
    funext a; match a with
    | ⟨0, _⟩ => rfl
    | ⟨1, _⟩ => rfl
    | ⟨2, _⟩ => rfl
    | ⟨3, _⟩ => rfl
  simp only [e, v142_eq]
  show Ideal.ofBits .f32 0#32 + _ = _
  rw [Ideal.ofBits_zero_f32, zero_add]

/-- One weight of half 1. -/
theorem v146_eq (b : Fin 4) (h : Fin 4) (q k : Fin 2064) :
    val_main_v146 (F := Ideal) x0 x1 x2 (ix4 b h q k) = wt (score x0 x1 x2 b h 1 q) k := by
  rw [val_main_v146_apply, val_main_v145_apply, val_main_v144_apply, v142_eq]
  have e : idx_main_v144 (idx_main_v145 (ix4 b h q k)) = ix3 b h q := by
    funext a; match a with
    | ⟨0, _⟩ => rfl
    | ⟨1, _⟩ => rfl
    | ⟨2, _⟩ => rfl
  rw [e, v143_eq]
  rfl

/-- The lambda of the layer. -/
def lam : EReal :=
  Ideal.exp (∑ k, x3 (ix2 0 k) * x3 (ix2 1 k)) - Ideal.exp (∑ k, x3 (ix2 2 k) * x3 (ix2 3 k)) + Ideal.ofBits .f32 0x3E4CCCCD#32

/-- The reference's lambda. -/
theorem v114_eq : val_main_v114 (F := Ideal) x3 ix0 = lam x3 := by
  pointwise [val_main_v114, val_main_v113, val_main_v112, val_main_v111, val_main_v110, val_main_v109, val_main_v108, val_main_v107, val_main_v106, val_main_v105, val_main_v104, val_main_v103, val_main_v102, val_main_v101, val_main_v100, val_main_v99, val_main_cst_9, val_main_cst_10, val_main_cst_11, lam]

/-- One entry of the difference of the two weight maps applied to the values. -/
def head (b : Fin 4) (h : Fin 4) (q : Fin 2064) (d : Fin 256) : EReal :=
  ∑ k, (wt (score x0 x1 x2 b h 0 q) k - lam x3 * wt (score x0 x1 x2 b h 1 q) k) * val x0 b k h d

/-- The reference's product with the values. -/
theorem v150_eq (b : Fin 4) (h : Fin 4) (q : Fin 2064) (d : Fin 256) :
    val_main_v150 (F := Ideal) x0 x1 x2 x3 (ix4 b h q d) = head x0 x1 x2 x3 b h q d := by
  rw [val_main_v150_apply]
  have e1 : ∀ k', lidx_main_v150 (ix4 b h q d) k' = ix4 b h q k' := fun k' => by
    funext a; match a with
    | ⟨0, _⟩ => rfl
    | ⟨1, _⟩ => rfl
    | ⟨2, _⟩ => rfl
    | ⟨3, _⟩ => rfl
  have e2 : ∀ k', ridx_main_v150 (ix4 b h q d) k' = ix4 b h k' d := fun k' => by
    funext a; match a with
    | ⟨0, _⟩ => rfl
    | ⟨1, _⟩ => rfl
    | ⟨2, _⟩ => rfl
    | ⟨3, _⟩ => rfl
  have e3 : ∀ i, idx_main_v147 i = ix0 := fun i => by
    funext a; exact a.elim0
  simp only [e1, e2, v98_eq, val_main_v149_apply, val_main_v148_apply, val_main_v147_apply, e3, v114_eq, v135_eq, v146_eq]
  rfl

/-- A head of 256 normalised: the entry over the root of the mean square, times the gain and the constant. -/
def nrmD (o g : Fin 256 → EReal) (d : Fin 256) : EReal :=
  o d * Ideal.rsqrt (Ideal.div (∑ k, o k * o k) (Ideal.ofBits .f32 0x43800000#32) + ceps) * g d * Ideal.ofBits .f32 0x3F4CCCCD#32

/-- The reference's normalised head. -/
theorem v165_eq (b : Fin 4) (h : Fin 4) (q : Fin 2064) (d : Fin 256) :
    val_main_v165 (F := Ideal) x0 x1 x2 x3 x4 (ix4 b h q d) = nrmD (head x0 x1 x2 x3 b h q) (fun k => x4 (ix1 k)) d := by
  rw [← funext (v150_eq x0 x1 x2 x3 b h q)]
  pointwise [val_main_v165, val_main_v164, val_main_v163, val_main_v162, val_main_v161, val_main_v160, val_main_v159, val_main_v158, val_main_v157, val_main_v156, val_main_v155, val_main_v154, val_main_v153, val_main_v152, val_main_v151, val_main_cst_20, val_main_cst_21, val_main_cst_22, val_main_cst_23, nrmD, ceps]

/-- One entry of the reference's result, at a row of a token. -/
theorem v170_eq (i : (⟨2, ![8704, 1024]⟩ : Shape).Idx) (hi : (i 0).val % 2176 < 2064) :
    val_main_v170 (F := Ideal) x0 x1 x2 x3 x4 i
      = nrmD (head x0 x1 x2 x3 ⟨(i 0).val / 2176, by have := (i 0).isLt; simp at this; omega⟩ ⟨(i 1).val / 256, by have := (i 1).isLt; simp at this; omega⟩ ⟨(i 0).val % 2176, hi⟩)
          (fun k => x4 (ix1 k)) ⟨(i 1).val % 256, by omega⟩ := by
  idx_vars i
  pointwise [val_main_v170, val_main_v169, val_main_v168, val_main_v167, val_main_v166]
  have h0 : i0.val / 2176 < 4 ∧ i0.val % 2176 < 2064 := ⟨by omega, hi⟩
  rw [dif_pos h0, v165_eq]

end Cert.ReferenceDIdeal.Attn

end
-- ==== Proof.KerD.lean ====
/- Mixer D's kernel read at an index. -/
module

public import proofs.«01_k».proof.Proof.RefD
public import proofs.«01_k».proof.Proof.Gen.KernelDIdeal.Value
public import Idealize.ShloMosaic.Lib.Pipeline.ValueKit
public import Idealize.ShloMosaic.Lib.Pointwise
public import Idealize.ShloMosaic.Lib.Pipeline.ReadBack
public import Idealize.ShloMosaic.Lib.StableHlo.ReadAt

@[expose] public section

set_option maxRecDepth 16384

noncomputable section

namespace Cert.KernelDIdeal.Attn

open Idealize.ShloMosaic Idealize.ShloMosaic.TcCoe Idealize.SL.Sem
open Cert.KernelDIdeal Cert.KernelDIdeal.Gen Cert.AttnMath
open Cert.ReferenceIdeal.Attn (row tok)
open Cert.ReferenceDIdeal.Attn (aD nrmD lam)

/-- The layout of a rotary table: two pieces of 16 columns and one of 96 side by side, with rows of zeros below. -/
def padc (a b : FVec Ideal S2064x16 .f32) (cc : FVec Ideal S2064x96 .f32) : FVec Ideal S2176x128 .f32 :=
  pad S2176x128 ![0, 0] ![112, 0] ![0, 0]
    (concatenate S2064x128 1 [⟨S2064x16, a⟩, ⟨S2064x16, b⟩, ⟨S2064x96, cc⟩]
      concatenates_S2064x16_S2064x16_S2064x96_S2064x128_d1)
    (sitofp .f32 (constantI S_ 32 0#32)) pads_S2064x128_S2176x128_01120_000 h_S_

/-- Equal pieces make equal tables. -/
theorem padc_congr {a b a' b' : FVec Ideal S2064x16 .f32} {cc cc' : FVec Ideal S2064x96 .f32} (h0 : a = a') (h1 : b = b') (h2 : cc = cc') :
    padc a b cc = padc a' b' cc' := by
  rw [h0, h1, h2]

/-- The angles. -/
abbrev ang : FVec Ideal S2064x16 .f32 := Cert.ReferenceDIdeal.Read.val_main_v24 (F := Ideal)
/-- The table of cosines. -/
def cosT : FVec Ideal S2176x128 .f32 := padc (Host.cos ang) (Host.cos ang) (broadcastInDim S2064x96 ![] bcast_S_S2064x96 (constant S_ .f32 0x3F800000#32))
/-- The table of signed sines. -/
def sinT : FVec Ideal S2176x128 .f32 := padc (Host.negf (Host.sin ang)) (Host.sin ang) (broadcastInDim S2064x96 ![] bcast_S_S2064x96 (constant S_ .f32 0x00000000#32))

/-- A row of the table of cosines below the padding. -/
theorem cosT_eq (l : Fin 2176) (d : Fin 128) (h : l.val < 2064) : cosT (ix2 l d)
    = if h1 : d.val < 16 then Ideal.cos (aD ⟨l, h⟩ ⟨d, h1⟩) else if h2 : d.val - 16 < 16 then Ideal.cos (aD ⟨l, h⟩ ⟨d.val - 16, h2⟩)
      else 1 := by
  unfold cosT
  pointwise [padc]
  rw [dif_pos h]
  rfl

/-- A row of the table of signed sines below the padding. -/
theorem sinT_eq (l : Fin 2176) (d : Fin 128) (h : l.val < 2064) : sinT (ix2 l d)
    = if h1 : d.val < 16 then -Ideal.sin (aD ⟨l, h⟩ ⟨d, h1⟩) else if h2 : d.val - 16 < 16 then Ideal.sin (aD ⟨l, h⟩ ⟨d.val - 16, h2⟩)
      else 0 := by
  unfold sinT
  pointwise [padc]
  rw [dif_pos h]
  rfl

/-- The condition on a column's bit 4. -/
theorem bit4 : ∀ d : Fin 128, IntOp.cmpi .eq (IntOp.andi (BitVec.ofNat 32 d.val) 16#32) 0#32 = if d.val / 16 % 2 = 0 then 1#1 else 0#1 := by
  decide +kernel

/-- The rotation the kernel makes by two whole-row rolls, a choice and the two tables. -/
def rotK (y cs sn : Fin 128 → EReal) (d : Fin 128) : EReal :=
  y d * cs d + Scalar.select (IntOp.cmpi .eq (IntOp.andi (BitVec.ofNat 32 d.val) 16#32) 0#32)
    (y ⟨(d.val + 128 - 112) % 128, Nat.mod_lt _ (by norm_num)⟩) (y ⟨(d.val + 128 - 16) % 128, Nat.mod_lt _ (by norm_num)⟩) * sn d

/-- The kernel's rotation is the reference's. -/
theorem rotK_eq (l : Fin 2064) (y : Fin 128 → EReal) (d : Fin 128) :
    rotK y (fun k => cosT (ix2 ⟨l.val, by omega⟩ k)) (fun k => sinT (ix2 ⟨l.val, by omega⟩ k)) d = ropeD (aD l) y d := by
  unfold rotK
  beta_reduce
  rw [bit4, cosT_eq _ _ l.isLt, sinT_eq _ _ l.isLt]
  unfold ropeD
  have hd := d.isLt
  by_cases h1 : d.val < 16
  · have e : (⟨(d.val + 128 - 112) % 128, Nat.mod_lt _ (by norm_num)⟩ : Fin 128) = ⟨16 + d.val, by omega⟩ := Fin.ext (by show (d.val + 128 - 112) % 128 = 16 + d.val; omega)
    have h0 : d.val / 16 % 2 = 0 := by omega
    have h32 : d.val < 32 := by omega
    simp only [dif_pos h1, dif_pos h32, if_pos h0, e, Scalar.select, mul_neg, ← sub_eq_add_neg]
    simp
  · by_cases h2 : d.val - 16 < 16
    · have e : (⟨(d.val + 128 - 16) % 128, Nat.mod_lt _ (by norm_num)⟩ : Fin 128) = ⟨d.val - 16, by omega⟩ := Fin.ext (by show (d.val + 128 - 16) % 128 = d.val - 16; omega)
      have h0 : ¬ d.val / 16 % 2 = 0 := by omega
      have h32 : d.val < 32 := by omega
      simp only [dif_neg h1, dif_pos h2, dif_pos h32, if_neg h0, e, Scalar.select]
      simp
    · have h32 : ¬ d.val < 32 := by omega
      simp only [dif_neg h1, dif_neg h2, dif_neg h32, mul_zero, mul_one, add_zero]

variable (m : (ℓ : Loc nD τ sig) → Buf (Elt Ideal) ℓ)

/-- The table of cosines as the region is entered. -/
theorem V_cos (c : Dev nD) : (V m c main_v69 : FVec Ideal S2176x128 .f32) = cosT := by
  unfold V
  simp only [List.flatten_cons, List.cons_append, List.nil_append]
  after_reads_simp
  refine padc_congr ?_ ?_ ?_
  · show StableHlo.upto _ _ _ (Proc.devRef .tc main_v58) = _
    after_reads_simp
    rfl
  · show StableHlo.upto _ _ _ (Proc.devRef .tc main_v59) = _
    after_reads_simp
    rfl
  · show StableHlo.upto _ _ _ (Proc.devRef .tc main_v60) = _
    after_reads_simp

/-- The table of signed sines as the region is entered. -/
theorem V_sin (c : Dev nD) : (V m c main_v70 : FVec Ideal S2176x128 .f32) = sinT := by
  unfold V
  simp only [List.flatten_cons, List.cons_append, List.nil_append]
  after_reads_simp
  refine padc_congr ?_ ?_ ?_
  · show StableHlo.upto _ _ _ (Proc.devRef .tc main_v63) = _
    after_reads_simp
    rfl
  · show StableHlo.upto _ _ _ (Proc.devRef .tc main_v64) = _
    after_reads_simp
    rfl
  · show StableHlo.upto _ _ _ (Proc.devRef .tc main_v65) = _
    after_reads_simp

/-- The queries' gains as the region is entered. -/
theorem V_gq (c : Dev nD) : (V m c main_v71 : FVec Ideal S1x128 .f32)
    = shapeCast S1x128 (m ((c : Thread nD τ).loc main_arg1) : FVec Ideal S128 .f32) shapeCasts_S128_S1x128 := by
  unfold V
  simp only [List.flatten_cons, List.cons_append, List.nil_append]
  after_reads_simp
  rfl

/-- The keys' gains as the region is entered. -/
theorem V_gk (c : Dev nD) : (V m c main_v72 : FVec Ideal S1x128 .f32)
    = shapeCast S1x128 (m ((c : Thread nD τ).loc main_arg2) : FVec Ideal S128 .f32) shapeCasts_S128_S1x128 := by
  unfold V
  simp only [List.flatten_cons, List.cons_append, List.nil_append]
  after_reads_simp
  rfl

/-- The heads' gains as the region is entered. -/
theorem V_go (c : Dev nD) : (V m c main_v73 : FVec Ideal S1x256 .f32)
    = shapeCast S1x256 (m ((c : Thread nD τ).loc main_arg4) : FVec Ideal S256 .f32) shapeCasts_S256_S1x256 := by
  unfold V
  simp only [List.flatten_cons, List.cons_append, List.nil_append]
  after_reads_simp
  rfl

/-- Which block of each array grid point `t` works on. -/
theorem idx_val : ∀ t : Fin cfg0.N, win0_0.index t = ![t.val / 16 * 4 + t.val % 4, 22 + t.val / 4 % 4]
    ∧ win0_1.index t = ![t.val / 16, 26 + t.val / 4 % 4]
    ∧ win0_2.index t = ![t.val / 16, 30 + t.val / 4 % 4]
    ∧ win0_3.index t = ![t.val % 4, 0] ∧ win0_4.index t = ![t.val % 4, 0]
    ∧ win0_5.index t = ![0, 0] ∧ win0_6.index t = ![0, 0] ∧ win0_7.index t = ![0, 0] ∧ win0_8.index t = ![0, 0]
    ∧ win0_9.index t = ![0, 0] ∧ win0_10.index t = ![0, 0]
    ∧ win0_11.index t = ![t.val / 16 * 4 + t.val % 4, t.val / 4 % 4] :=
  (by decide +kernel : ∀ t : Fin grid0.N, _)

/-- The projection's array at its literal shape. -/
abbrev X (c : Dev nD) : FVec Ideal ⟨2, ![8704, 8704]⟩ .bf16 := m ((c : Thread nD τ).loc main_arg0)
/-- The queries' gains at their literal shape. -/
abbrev GQ (c : Dev nD) : FVec Ideal ⟨1, ![128]⟩ .f32 := m ((c : Thread nD τ).loc main_arg1)
/-- The keys' gains at their literal shape. -/
abbrev GK (c : Dev nD) : FVec Ideal ⟨1, ![128]⟩ .f32 := m ((c : Thread nD τ).loc main_arg2)
/-- The lambda vectors at their literal shape. -/
abbrev LV (c : Dev nD) : FVec Ideal ⟨2, ![4, 128]⟩ .f32 := m ((c : Thread nD τ).loc main_arg3)
/-- The heads' gains at their literal shape. -/
abbrev GO (c : Dev nD) : FVec Ideal ⟨1, ![256]⟩ .f32 := m ((c : Thread nD τ).loc main_arg4)

/-- Grid points are below 64. -/
theorem tlt (t : Fin cfg0.N) : t.val < 64 := t.isLt

/-- A block of queries. -/
theorem q_read (c : Dev nD) (t : Fin cfg0.N) (r : Fin 544) (d : Fin 256) : (iblk m c 0 t : FVec Ideal S544x256 .bf16) (ix2 r d)
    = X m c (ix2 ⟨(t.val / 16 * 4 + t.val % 4) * 544 + r.val, by have := tlt t; omega⟩ ⟨(22 + t.val / 4 % 4) * 256 + d.val, by omega⟩) := by
  unfold X
  blk_point [iblk, V, idx_val t]

/-- A block of keys. -/
theorem k_read (c : Dev nD) (t : Fin cfg0.N) (r : Fin 2176) (d : Fin 256) : (iblk m c 1 t : FVec Ideal S2176x256 .bf16) (ix2 r d)
    = X m c (ix2 ⟨t.val / 16 * 2176 + r.val, by have := tlt t; omega⟩ ⟨(26 + t.val / 4 % 4) * 256 + d.val, by omega⟩) := by
  unfold X
  blk_point [iblk, V, idx_val t]

/-- A block of values. -/
theorem v_read (c : Dev nD) (t : Fin cfg0.N) (r : Fin 2176) (d : Fin 256) : (iblk m c 2 t : FVec Ideal S2176x256 .bf16) (ix2 r d)
    = X m c (ix2 ⟨t.val / 16 * 2176 + r.val, by have := tlt t; omega⟩ ⟨(30 + t.val / 4 % 4) * 256 + d.val, by omega⟩) := by
  unfold X
  blk_point [iblk, V, idx_val t]

/-- The queries' block of cosines. -/
theorem cq_read (c : Dev nD) (t : Fin cfg0.N) (r : Fin 544) (d : Fin 128) : (iblk m c 3 t : FVec Ideal S544x128 .f32) (ix2 r d)
    = cosT (ix2 ⟨t.val % 4 * 544 + r.val, by omega⟩ d) := by
  rw [← V_cos m c]
  blk_point [iblk, idx_val t]

/-- The queries' block of sines. -/
theorem sq_read (c : Dev nD) (t : Fin cfg0.N) (r : Fin 544) (d : Fin 128) : (iblk m c 4 t : FVec Ideal S544x128 .f32) (ix2 r d)
    = sinT (ix2 ⟨t.val % 4 * 544 + r.val, by omega⟩ d) := by
  rw [← V_sin m c]
  blk_point [iblk, idx_val t]

/-- The keys' cosines. -/
theorem ck_read (c : Dev nD) (t : Fin cfg0.N) (r : Fin 2176) (d : Fin 128) : (iblk m c 5 t : FVec Ideal S2176x128 .f32) (ix2 r d)
    = cosT (ix2 r d) := by
  rw [← V_cos m c]
  blk_point [iblk, idx_val t]

/-- The keys' sines. -/
theorem sk_read (c : Dev nD) (t : Fin cfg0.N) (r : Fin 2176) (d : Fin 128) : (iblk m c 6 t : FVec Ideal S2176x128 .f32) (ix2 r d)
    = sinT (ix2 r d) := by
  rw [← V_sin m c]
  blk_point [iblk, idx_val t]

/-- The queries' gains. -/
theorem gq_read (c : Dev nD) (t : Fin cfg0.N) (d : Fin 128) : (iblk m c 7 t : FVec Ideal S1x128 .f32) (ix2 0 d) = GQ m c (ix1 d) := by
  have e : (V m c main_v71 : FVec Ideal S1x128 .f32) (ix2 0 d) = GQ m c (ix1 d) := by
    rw [V_gq]
    pointwise []
  rw [← e]
  blk_point [iblk, idx_val t]

/-- The keys' gains. -/
theorem gk_read (c : Dev nD) (t : Fin cfg0.N) (d : Fin 128) : (iblk m c 8 t : FVec Ideal S1x128 .f32) (ix2 0 d) = GK m c (ix1 d) := by
  have e : (V m c main_v72 : FVec Ideal S1x128 .f32) (ix2 0 d) = GK m c (ix1 d) := by
    rw [V_gk]
    pointwise []
  rw [← e]
  blk_point [iblk, idx_val t]

/-- The lambda vectors. -/
theorem lv_read (c : Dev nD) (t : Fin cfg0.N) (a : Fin 4) (d : Fin 128) : (iblk m c 9 t : FVec Ideal S4x128 .f32) (ix2 a d) = LV m c (ix2 a d) := by
  unfold LV
  blk_point [iblk, V, idx_val t]

/-- The heads' gains. -/
theorem go_read (c : Dev nD) (t : Fin cfg0.N) (d : Fin 256) : (iblk m c 10 t : FVec Ideal S1x256 .f32) (ix2 0 d) = GO m c (ix1 d) := by
  have e : (V m c main_v73 : FVec Ideal S1x256 .f32) (ix2 0 d) = GO m c (ix1 d) := by
    rw [V_go]
    pointwise []
  rw [← e]
  blk_point [iblk, idx_val t]

/-- The left half of a keys' array. -/
def kL (x : FVec Ideal S2176x256 .bf16) : FVec Ideal S2176x128 .bf16 := View.ld (Val := Elt Ideal) (e' := .bf16) x (Rect.unit (s := S2176x256) ![0, 0] S2176x128.size inb_S2176x256_S2176x128_0_0)
/-- The right half of a keys' array. -/
def kR (x : FVec Ideal S2176x256 .bf16) : FVec Ideal S2176x128 .bf16 := View.ld (Val := Elt Ideal) (e' := .bf16) x (Rect.unit (s := S2176x256) ![0, 128] S2176x128.size inb_S2176x256_S2176x128_0_128)
/-- The left half of a queries' block. -/
def qL (x : FVec Ideal S544x256 .bf16) : FVec Ideal S544x128 .bf16 := View.ld (Val := Elt Ideal) (e' := .bf16) x (Rect.unit (s := S544x256) ![0, 0] S544x128.size inb_S544x256_S544x128_0_0)
/-- The right half of a queries' block. -/
def qR (x : FVec Ideal S544x256 .bf16) : FVec Ideal S544x128 .bf16 := View.ld (Val := Elt Ideal) (e' := .bf16) x (Rect.unit (s := S544x256) ![0, 128] S544x128.size inb_S544x256_S544x128_0_128)

/-- A half read at an index. -/
theorem kL_apply (x : FVec Ideal S2176x256 .bf16) (r : Fin 2176) (d : Fin 128) : kL x (ix2 r d) = x (ix2 r ⟨d.val, by omega⟩) := by
  refine congrArg x ?_
  funext a
  match a with
  | ⟨0, _⟩ => exact Fin.ext (by show 0 + 1 * r.val = r.val; omega)
  | ⟨1, _⟩ => exact Fin.ext (by show 0 + 1 * d.val = d.val; omega)
/-- The keys' right half read at an index. -/
theorem kR_apply (x : FVec Ideal S2176x256 .bf16) (r : Fin 2176) (d : Fin 128) : kR x (ix2 r d) = x (ix2 r ⟨128 + d.val, by omega⟩) := by
  refine congrArg x ?_
  funext a
  match a with
  | ⟨0, _⟩ => exact Fin.ext (by show 0 + 1 * r.val = r.val; omega)
  | ⟨1, _⟩ => exact Fin.ext (by show 128 + 1 * d.val = 128 + d.val; omega)
/-- The queries' left half read at an index. -/
theorem qL_apply (x : FVec Ideal S544x256 .bf16) (r : Fin 544) (d : Fin 128) : qL x (ix2 r d) = x (ix2 r ⟨d.val, by omega⟩) := by
  refine congrArg x ?_
  funext a
  match a with
  | ⟨0, _⟩ => exact Fin.ext (by show 0 + 1 * r.val = r.val; omega)
  | ⟨1, _⟩ => exact Fin.ext (by show 0 + 1 * d.val = d.val; omega)
/-- The queries' right half read at an index. -/
theorem qR_apply (x : FVec Ideal S544x256 .bf16) (r : Fin 544) (d : Fin 128) : qR x (ix2 r d) = x (ix2 r ⟨128 + d.val, by omega⟩) := by
  refine congrArg x ?_
  funext a
  match a with
  | ⟨0, _⟩ => exact Fin.ext (by show 0 + 1 * r.val = r.val; omega)
  | ⟨1, _⟩ => exact Fin.ext (by show 128 + 1 * d.val = 128 + d.val; omega)

/-- The left half heads of the keys, rotated. -/
abbrev keyL (c : Dev nD) (t : Fin cfg0.N) : FVec Ideal S2176x128 .bf16 := k0_pay2 (kL (iblk m c 1 t)) (iblk m c 8 t) (iblk m c 5 t) (iblk m c 6 t)
/-- The right half heads of the keys, rotated. -/
abbrev keyR (c : Dev nD) (t : Fin cfg0.N) : FVec Ideal S2176x128 .bf16 := k0_pay4 (k0_pay3 (kR (iblk m c 1 t))) (iblk m c 8 t) (iblk m c 5 t) (iblk m c 6 t)

/-- The rotated keys of point `t`'s head, the value the scratch carries: the two halves side by side. -/
def keys (c : Dev nD) (t : Fin cfg0.N) : FVec Ideal S2176x256 .bf16 :=
  View.canon (Val := Elt Ideal) (s := S2176x256) (e := .bf16)
    [⟨Rect.unit (s := S2176x256) ![0, 128] S2176x128.size inb_S2176x256_S2176x128_0_128, keyR m c t⟩,
     ⟨Rect.unit (s := S2176x256) ![0, 0] S2176x128.size inb_S2176x256_S2176x128_0_0, keyL m c t⟩]

/-- The right half of the scratch. -/
theorem keys_R (c : Dev nD) (t : Fin cfg0.N) : kR (keys m c t) = keyR m c t := by
  unfold kR keys
  generalize keyR m c t = b
  generalize keyL m c t = a
  funext j
  exact View.canon_cons_emb (Val := Elt Ideal) (e := .bf16) (Rect.unit (s := S2176x256) ![0, 128] S2176x128.size inb_S2176x256_S2176x128_0_128) b _ j

/-- The left half of the scratch. -/
theorem keys_L (c : Dev nD) (t : Fin cfg0.N) : kL (keys m c t) = keyL m c t := by
  unfold kL keys
  generalize keyR m c t = b
  generalize keyL m c t = a
  funext j
  refine (View.canon_cons_of_not_mem _ _ ?_).trans (View.canon_cons_emb (Val := Elt Ideal) (e := .bf16) (Rect.unit (s := S2176x256) ![0, 0] S2176x128.size inb_S2176x256_S2176x128_0_0) a _ j)
  rw [Rect.mem_set_unit]
  intro h
  have h1 := (h 1).1
  have h2 : (j 1).val < 128 := (j 1).isLt
  have h3 : 128 ≤ 0 + 1 * (j 1).val := h1
  omega

/-- The kernel's normalised and rotated keys at an index, for any arrays. -/
theorem pay2_apply (x : FVec Ideal S2176x128 .bf16) (g : FVec Ideal S1x128 .f32) (cs sn : FVec Ideal S2176x128 .f32) (r : Fin 2176) (d : Fin 128) :
    k0_pay2 (F := Ideal) x g cs sn (ix2 r d) = rotK (nrm (fun k => x (ix2 r k)) (fun k => g (ix2 0 k))) (fun k => cs (ix2 r k)) (fun k => sn (ix2 r k)) d := by
  pointwise [k0_pay2]
  rfl
/-- The same for the right half's keys. -/
theorem pay4_apply (x : FVec Ideal S2176x128 .bf16) (g : FVec Ideal S1x128 .f32) (cs sn : FVec Ideal S2176x128 .f32) (r : Fin 2176) (d : Fin 128) :
    k0_pay4 (F := Ideal) (k0_pay3 x) g cs sn (ix2 r d) = rotK (nrm (fun k => x (ix2 r k)) (fun k => g (ix2 0 k))) (fun k => cs (ix2 r k)) (fun k => sn (ix2 r k)) d := by
  pointwise [k0_pay4, k0_pay3]
  rfl

/-- One rotated key of a half, padding rows included. -/
theorem keyL_apply (c : Dev nD) (t : Fin cfg0.N) (r : Fin 2176) (d : Fin 128) : keyL m c t (ix2 r d)
    = rotK (nrm (row (X m c) ⟨t.val / 16 * 2176 + r.val, by have := tlt t; omega⟩ ⟨52 + (t.val / 4 % 4 * 2 + 0), by omega⟩) (fun k => GK m c (ix1 k)))
      (fun k => cosT (ix2 r k)) (fun k => sinT (ix2 r k)) d := by
  unfold keyL row
  rw [pay2_apply]
  simp only [kL_apply, k_read, gk_read, ck_read, sk_read]
  simp only [show ∀ k : ℕ, (52 + (t.val / 4 % 4 * 2 + 0)) * 128 + k = (26 + t.val / 4 % 4) * 256 + k from fun k => by omega]
/-- One rotated key of the right half, padding rows included. -/
theorem keyR_apply (c : Dev nD) (t : Fin cfg0.N) (r : Fin 2176) (d : Fin 128) : keyR m c t (ix2 r d)
    = rotK (nrm (row (X m c) ⟨t.val / 16 * 2176 + r.val, by have := tlt t; omega⟩ ⟨52 + (t.val / 4 % 4 * 2 + 1), by omega⟩) (fun k => GK m c (ix1 k)))
      (fun k => cosT (ix2 r k)) (fun k => sinT (ix2 r k)) d := by
  unfold keyR row
  rw [pay4_apply]
  simp only [kR_apply, k_read, gk_read, ck_read, sk_read]
  simp only [show ∀ k : ℕ, (52 + (t.val / 4 % 4 * 2 + 1)) * 128 + k = (26 + t.val / 4 % 4) * 256 + (128 + k) from fun k => by omega]

/-- Points of one run of four rotate the same keys. -/
theorem keyL_eq (c : Dev nD) (t t' : Fin cfg0.N) (h : t.val / 4 = t'.val / 4) : keyL m c t = keyL m c t' := by
  funext x
  idx_vars x
  rw [keyL_apply, keyL_apply]
  congr 2
  · congr 1
    · exact Fin.ext (by show t.val / 16 * 2176 + _ = t'.val / 16 * 2176 + _; omega)
    · exact Fin.ext (by show 52 + (t.val / 4 % 4 * 2 + 0) = 52 + (t'.val / 4 % 4 * 2 + 0); omega)
/-- The same for the right half. -/
theorem keyR_eq (c : Dev nD) (t t' : Fin cfg0.N) (h : t.val / 4 = t'.val / 4) : keyR m c t = keyR m c t' := by
  funext x
  idx_vars x
  rw [keyR_apply, keyR_apply]
  congr 2
  · congr 1
    · exact Fin.ext (by show t.val / 16 * 2176 + _ = t'.val / 16 * 2176 + _; omega)
    · exact Fin.ext (by show 52 + (t.val / 4 % 4 * 2 + 1) = 52 + (t'.val / 4 % 4 * 2 + 1); omega)
/-- The same for both halves side by side. -/
theorem keys_eq (c : Dev nD) (t t' : Fin cfg0.N) (h : t.val / 4 = t'.val / 4) : keys m c t = keys m c t' := by
  unfold keys
  rw [keyL_eq m c t t' h, keyR_eq m c t t' h]

/-- After every point the scratch holds the head's rotated keys. -/
theorem scr (c : Dev nD) : ∀ (n : ℕ) (h : n < cfg0.N), (outsAt0 m c n h).2 = keys m c ⟨n, h⟩
  | 0, h => by
    rw [outsAt0_A m c ⟨0, h⟩ rfl]; frame_out
    rfl
  | n + 1, h => by
    by_cases h0 : (n + 1) % 4 = 0
    · rw [outsAt0_A m c ⟨n + 1, h⟩ h0]; frame_out
      rfl
    · rw [outsAt0_B m c ⟨n + 1, h⟩ h0]
      show (outsAt0 m c n _).2 = _
      rw [scr c n (Nat.lt_of_succ_lt h)]
      rw [keys_eq m c ⟨n, Nat.lt_of_succ_lt h⟩ ⟨n + 1, h⟩ (by show n / 4 = (n + 1) / 4; omega)]

/-- What point `t` leaves in the output's buffer, from the two halves of the keys. -/
abbrev body (c : Dev nD) (t : Fin cfg0.N) (a b : FVec Ideal S2176x128 .bf16) : FVec Ideal S544x256 .bf16 :=
  k0_pay1 (k0_pay5 (iblk m c 9 t)) (iblk m c 2 t)
    (k0_pay12 (iblk m c 2 t) k0_pay6 (k0_pay7 (qL (iblk m c 0 t))) (k0_pay8 (iblk m c 7 t)) (k0_pay9 (iblk m c 3 t)) (k0_pay10 (iblk m c 4 t)) (k0_pay11 (qL (iblk m c 0 t))) a)
    (k0_pay13 k0_pay6 (qR (iblk m c 0 t)) (iblk m c 7 t) (iblk m c 3 t) (iblk m c 4 t) b)
    (k0_pay14 k0_pay6 (qR (iblk m c 0 t)) (iblk m c 7 t) (iblk m c 3 t) (iblk m c 4 t) b)
    (iblk m c 10 t)

/-- What point `t` leaves in the output's buffer. -/
theorem out_eq (c : Dev nD) (t : Fin cfg0.N) : (outsAt0 m c t.val t.isLt).1 = body m c t (keyL m c t) (keyR m c t) := by
  by_cases h0 : t.val % 4 = 0
  · rw [outsAt0_A m c t h0]; frame_open
    simp (disch := decide) only [↓ View.readCov_skip, ↓ View.readCov_cons_toLoadRect]
    frame_out
    rfl
  · rw [← keys_L, ← keys_R]
    rw [outsAt0_B m c t h0, scr, keys_eq m c ⟨t.val - 1, Nat.lt_of_le_of_lt (Nat.sub_le _ _) t.isLt⟩ t (by show (t.val - 1) / 4 = t.val / 4; omega)]
    generalize keys m c t = K
    frame_out
    rw [read_unread_whole]
    rfl

end Cert.KernelDIdeal.Attn

end
-- ==== Proof.AttnD.lean ====
/- Mixer D's attention: the kernel and the reference leave the same numbers in every row of a token. -/
module

public import proofs.«01_k».proof.Proof.KerD
public import proofs.«01_k».proof.Defs
public import proofs.«01_k».proof.Proof.Gen.ReferenceDIdeal.Run
public import Idealize.ShloMosaic.Lib.ReduceAll

@[expose] public section

set_option maxRecDepth 16384

noncomputable section

namespace Cert.AttnMath

open Idealize.ShloMosaic
open Cert.ReferenceDIdeal.Attn (wt)

/-- The softmax's weights of real scores are real. -/
theorem wt_real (s : Fin 2064 → EReal) (hs : ∀ j, IsR (s j)) (j : Fin 2064) : IsR (wt s j) := by
  obtain ⟨μ, hμ⟩ : IsR (mx s) := by
    obtain ⟨i, -, hi⟩ := Finset.exists_mem_eq_sup (Finset.univ : Finset (Fin 2064)) ⟨0, Finset.mem_univ _⟩ s
    rw [mx_eq, hi]; exact hs i
  choose r hr using hs
  have hexp : ∀ j, Ideal.exp (s j - mx s) = ((Real.exp (r j - μ) : ℝ) : EReal) := fun j => by
    rw [hr, hμ, ← EReal.coe_sub, Ideal.exp_coe]
  have hl : ∑ j, Ideal.exp (s j - mx s) = ((∑ j, Real.exp (r j - μ) : ℝ) : EReal) := by
    rw [coe_sum]; exact Finset.sum_congr rfl fun j _ => hexp j
  have hpos : 0 < ∑ j : Fin 2064, Real.exp (r j - μ) :=
    Finset.sum_pos (fun j _ => Real.exp_pos _) ⟨0, Finset.mem_univ _⟩
  unfold wt
  rw [hl, Ideal.div_coe hpos.ne', hexp]
  exact (IsR.coe _).mul (IsR.coe _)

/-- The difference of two weight maps applied to real values is the difference of the two applied. -/
theorem soft_sub (s t w : Fin 2064 → EReal) (l : EReal) (hs : ∀ j, IsR (s j)) (ht : ∀ j, IsR (t j)) (hw : ∀ j, IsR (w j)) (hl : IsR l) :
    (∑ k, (wt s k - l * wt t k) * w k) = soft s w - l * soft t w := by
  show _ = (∑ k, wt s k * w k) - l * ∑ k, wt t k * w k
  choose p hp using wt_real s hs
  choose q hq using wt_real t ht
  choose v hv using hw
  obtain ⟨c, rfl⟩ := hl
  simp only [hp, hq, hv, ← EReal.coe_mul, ← EReal.coe_sub, ← coe_sum]
  congr 1
  rw [Finset.mul_sum, ← Finset.sum_sub_distrib]
  exact Finset.sum_congr rfl fun k _ => by ring

/-- The exponential of a real is real. -/
theorem IsR.exp {x : EReal} : IsR x → IsR (Ideal.exp x) := by
  rintro ⟨a, rfl⟩; exact ⟨_, Ideal.exp_coe a⟩

/-- The softmax over the padded keys applied to the values, normalised after the sum. -/
def sfK (S v : Fin 2176 → EReal) : EReal :=
  (∑ x, Ideal.exp (S x - mx S) * v x) * Ideal.div 1 (∑ x, Ideal.exp (S x - mx S))

end Cert.AttnMath

namespace Cert.ReferenceDIdeal.Attn

open Idealize.ShloMosaic Idealize.ShloMosaic.TcCoe Idealize.SL.Sem
open Cert.ReferenceDIdeal Cert.ReferenceDIdeal.Read Cert.AttnMath
open Cert.ReferenceIdeal.Attn (row tok)

/-- The constants of the angles. -/
theorem k32_eq : Ideal.ofBits FTy.f32 1107296256#32 = ((32 : ℝ) : EReal) := by
  simp [Ideal.ofBits, Ideal.ieee]
  rw [← EReal.coe_mul]; norm_num
/-- The base of the angles is real. -/
theorem kb_real : IsR (val_main_cst_2 (F := Ideal) ix0) := ⟨_, by
  rw [val_main_cst_2_apply]; simp [Ideal.ofBits, Ideal.ieee]; rfl⟩

/-- The angles are real. -/
theorem aD_real (l : Fin 2064) (j : Fin 16) : IsR (aD l j) := by
  unfold aD
  pointwise [val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1]
  rw [k32_eq, Ideal.div_coe (by norm_num)]
  exact IsR.mul (IsR.sitofp _) (kb_real.pow (((Cert.ReferenceIdeal.Attn.k2_real.mul (IsR.sitofp _)).neg).mul (IsR.coe _)))

/-- The lambda of real vectors is real. -/
theorem lam_real (x : FVec Ideal ⟨2, ![4, 128]⟩ .f32) (h : ∀ a d, IsR (x (ix2 a d))) : IsR (lam x) := by
  have hc : IsR (Ideal.ofBits .f32 0x3E4CCCCD#32) := ⟨_, by simp [Ideal.ofBits, Ideal.ieee]; rfl⟩
  exact ((IsR.sum _ fun k => (h _ _).mul (h _ _)).exp.sub (IsR.sum _ fun k => (h _ _).mul (h _ _)).exp).add hc

variable (x0 : FVec Ideal ⟨2, ![8704, 8704]⟩ .bf16) (x1 x2 : FVec Ideal ⟨1, ![128]⟩ .f32) (x3 : FVec Ideal ⟨2, ![4, 128]⟩ .f32)

/-- The scores are real. -/
theorem score_real' (hq : ∀ d, IsR (x1 (ix1 d))) (hk : ∀ d, IsR (x2 (ix1 d))) (b h : Fin 4) (e : Fin 2) (q k : Fin 2064) :
    IsR (score x0 x1 x2 b h e q k) :=
  score_real _ _ (fun d => ropeD_real _ (aD_real _) _ (fun d => nrm_real _ _ hq d) d) (fun d => ropeD_real _ (aD_real _) _ (fun d => nrm_real _ _ hk d) d)

/-- A head's entry is the difference of its two softmaxes applied to the values. -/
theorem head_eq (hq : ∀ d, IsR (x1 (ix1 d))) (hk : ∀ d, IsR (x2 (ix1 d))) (hl : ∀ a d, IsR (x3 (ix2 a d))) (hv : ∀ b l h d, IsR (val x0 b l h d))
    (b h : Fin 4) (q : Fin 2064) (d : Fin 256) : head x0 x1 x2 x3 b h q d
    = soft (score x0 x1 x2 b h 0 q) (fun k => val x0 b k h d) - lam x3 * soft (score x0 x1 x2 b h 1 q) (fun k => val x0 b k h d) :=
  soft_sub _ _ _ _ (score_real' x0 x1 x2 hq hk b h 0 q) (score_real' x0 x1 x2 hq hk b h 1 q) (fun k => hv b k h d) (lam_real x3 hl)

end Cert.ReferenceDIdeal.Attn

namespace Cert.KernelDIdeal.Attn

open Idealize.ShloMosaic Idealize.ShloMosaic.TcCoe Idealize.SL.Sem
open Cert.KernelDIdeal Cert.KernelDIdeal.Gen Cert.AttnMath
open Cert.ReferenceIdeal.Attn (row tok)
open Cert.ReferenceDIdeal.Attn (aD nrmD lam)

/-- The second half's masked scores. -/
theorem pay13_apply (v25 : FVec Ideal S1x2176 .f32) (x : FVec Ideal S544x128 .bf16) (g : FVec Ideal S1x128 .f32) (cs sn : FVec Ideal S544x128 .f32)
    (k : FVec Ideal S2176x128 .bf16) (r : Fin 544) (j : Fin 2176) : k0_pay13 (F := Ideal) v25 x g cs sn k (ix2 r j)
    = (∑ d, rotK (nrm (fun k => x (ix2 r k)) (fun k => g (ix2 0 k))) (fun k => cs (ix2 r k)) (fun k => sn (ix2 r k)) d * csc * k (ix2 j d)) + v25 (ix2 0 j) := by
  pointwise [k0_pay13]
  rfl

/-- The greatest of the second half's scores. -/
theorem pay14_apply (v25 : FVec Ideal S1x2176 .f32) (x : FVec Ideal S544x128 .bf16) (g : FVec Ideal S1x128 .f32) (cs sn : FVec Ideal S544x128 .f32)
    (k : FVec Ideal S2176x128 .bf16) (r : Fin 544) : k0_pay14 (F := Ideal) v25 x g cs sn k (ix2 r 0)
    = mx (fun j => k0_pay13 (F := Ideal) v25 x g cs sn k (ix2 r j)) := by
  pointwise [k0_pay14]
  rw [Cert.ReferenceIdeal.Attn.init_eq]
  rfl

/-- The first half's softmax applied to the values: its scores are made as the second half's are. -/
theorem pay12_apply (w : FVec Ideal S2176x256 .bf16) (v25 : FVec Ideal S1x2176 .f32) (x : FVec Ideal S544x128 .bf16) (g : FVec Ideal S1x128 .f32) (cs sn : FVec Ideal S544x128 .f32)
    (k : FVec Ideal S2176x128 .bf16) (r : Fin 544) (d : Fin 256) :
    k0_pay12 (F := Ideal) w v25 (k0_pay7 x) (k0_pay8 g) (k0_pay9 cs) (k0_pay10 sn) (k0_pay11 x) k (ix2 r d)
    = sfK (fun j => k0_pay13 (F := Ideal) v25 x g cs sn k (ix2 r j)) (fun j => w (ix2 j d)) := by
  simp only [pay13_apply]
  pointwise [k0_pay12, k0_pay7, k0_pay8, k0_pay9, k0_pay10, k0_pay11]
  rw [Cert.ReferenceIdeal.Attn.init_eq]
  rfl

/-- The kernel's result from the two halves. -/
theorem pay1_apply (l : FVec Ideal S1x1 .f32) (w : FVec Ideal S2176x256 .bf16) (o : FVec Ideal S544x256 .f32) (s : FVec Ideal S544x2176 .f32) (μ : FVec Ideal S544x1 .f32)
    (g : FVec Ideal S1x256 .f32) (r : Fin 544) (d : Fin 256) (hμ : μ (ix2 r 0) = mx (fun j => s (ix2 r j))) :
    k0_pay1 (F := Ideal) l w o s μ g (ix2 r d)
    = nrmD (fun k => o (ix2 r k) - l (ix2 0 0) * sfK (fun j => s (ix2 r j)) (fun j => w (ix2 j k))) (fun k => g (ix2 0 k)) d := by
  unfold sfK
  rw [← hμ]
  pointwise [k0_pay1]
  rfl

/-- The kernel's lambda is the reference's. -/
theorem pay5_apply (x : FVec Ideal S4x128 .f32) : k0_pay5 (F := Ideal) x (ix2 0 0) = lam x := by
  pointwise [k0_pay5]
  rfl

/-- The kernel's column mask. -/
theorem pay6_apply (j : Fin 2176) : k0_pay6 (F := Ideal) (ix2 0 j) = if j.val < 2064 then 0 else ⊥ := by
  refine Eq.trans ?_ (Cert.KernelIdeal.Attn.mask_eq j)
  pointwise [k0_pay6]
  rfl

attribute [local instance] Cert.KernelDIdeal.Gen.facts

variable (m : (ℓ : Loc nD τ sig) → Buf (Elt Ideal) ℓ)

/-- What the claim needs of the arguments: real gains, real lambda vectors, real values at the tokens. -/
structure RealArgs (c : Dev nD) : Prop where
  hq : ∀ d, IsR (GQ m c (ix1 d))
  hk : ∀ d, IsR (GK m c (ix1 d))
  hl : ∀ a d, IsR (LV m c (ix2 a d))
  hv : ∀ b l h d, IsR (Cert.ReferenceDIdeal.Attn.val (X m c) b l h d)

/-- The precondition's content. -/
theorem fin_of_pre [Cert.Pre_finite_d.Facts] (hp : Cert.Pre_KernelDIdeal_finite_d m) (c : Dev nD) : RealArgs m c := by
  have h := congrFun (hp c) ix0
  unfold Cert.Pre_finite_d.fn Cert.Pre_finite_d.fn_part1 at h
  obtain ⟨h123, h4⟩ := IntOp.andi_eq_one.1 (show IntOp.andi (_ : BitVec 1) _ = 1#1 from h)
  obtain ⟨h12, h3⟩ := IntOp.andi_eq_one.1 (show IntOp.andi (_ : BitVec 1) _ = 1#1 from h123)
  obtain ⟨h1, h2⟩ := IntOp.andi_eq_one.1 (show IntOp.andi (_ : BitVec 1) _ = 1#1 from h12)
  refine ⟨fun d => isR_of_abs ?_, fun d => isR_of_abs ?_, fun a d => isR_of_abs ?_, fun b l h d => isR_of_abs ?_⟩
  · have := Host.reduce_andi_all _ _ _ _ _ h1 (ix1 d)
    exact this
  · have := Host.reduce_andi_all _ _ _ _ _ h2 (ix1 d)
    exact this
  · have := Host.reduce_andi_all _ _ _ _ _ h3 (ix2 a d)
    exact this
  · have := Host.reduce_andi_all _ _ _ _ _ h4 (ix3 b l ⟨h.val * 256 + d.val, by omega⟩)
    revert this
    unfold Cert.ReferenceDIdeal.Attn.val tok X
    simp only [show (30 + h.val) * 256 + d.val = 7680 + (h.val * 256 + d.val) from by omega]
    pointwise []
    exact id

/-- The claim's mask marks only the rows of tokens. -/
theorem on_row [Cert.On_real_rows_d.Facts] (x : FVec Ideal ⟨2, ![8704, 8704]⟩ .bf16) (y z : FVec Ideal ⟨1, ![128]⟩ .f32) (w : FVec Ideal ⟨2, ![4, 128]⟩ .f32)
    (v : FVec Ideal ⟨1, ![256]⟩ .f32) (i : (⟨2, ![8704, 1024]⟩ : Shape).Idx)
    (h : Cert.On_real_rows_d.fn (F := Ideal) x y z w v i = 1#1) : (i 0).val % 2176 < 2064 := by
  idx_vars i
  revert h
  pointwise [Cert.On_real_rows_d.fn]
  intro h
  have e := Cert.KernelIdeal.Attn.slt_tok ⟨i0.val % 2176, by omega⟩
  by_contra hn
  rw [if_neg hn] at e
  have := e.symm.trans h
  exact absurd this (by decide)

/-- The batch of point `t`. -/
abbrev bt (t : Fin cfg0.N) : Fin 4 := ⟨t.val / 16, by have := tlt t; omega⟩
/-- The head of point `t`. -/
abbrev ht (t : Fin cfg0.N) : Fin 4 := ⟨t.val / 4 % 4, by omega⟩

/-- A row of the left half's queries rotated. -/
theorem q_applyL (c : Dev nD) (t : Fin cfg0.N) (r : Fin 544) (hr : t.val % 4 * 544 + r.val < 2064) :
    rotK (nrm (fun k => qL (iblk m c 0 t) (ix2 r k)) (fun k => (iblk m c 7 t : FVec Ideal S1x128 .f32) (ix2 0 k)))
      (fun k => (iblk m c 3 t : FVec Ideal S544x128 .f32) (ix2 r k)) (fun k => (iblk m c 4 t : FVec Ideal S544x128 .f32) (ix2 r k))
    = Cert.ReferenceDIdeal.Attn.Q (X m c) (GQ m c) (bt t) ⟨t.val % 4 * 544 + r.val, hr⟩ (ht t) 0 := by
  unfold Cert.ReferenceDIdeal.Attn.Q row tok
  simp only [qL_apply, q_read, gq_read, cq_read, sq_read]
  refine Eq.trans ?_ (funext (rotK_eq ⟨t.val % 4 * 544 + r.val, hr⟩ _))
  simp only [show ∀ k : ℕ, (44 + (t.val / 4 % 4 * 2 + (0 : Fin 2).val)) * 128 + k = (22 + t.val / 4 % 4) * 256 + k from fun k => by show (44 + (t.val / 4 % 4 * 2 + 0)) * 128 + k = _; omega,
    show (t.val / 16 * 4 + t.val % 4) * 544 + r.val = t.val / 16 * 2176 + (t.val % 4 * 544 + r.val) from by omega]
/-- A row of the right half's queries rotated. -/
theorem q_applyR (c : Dev nD) (t : Fin cfg0.N) (r : Fin 544) (hr : t.val % 4 * 544 + r.val < 2064) :
    rotK (nrm (fun k => qR (iblk m c 0 t) (ix2 r k)) (fun k => (iblk m c 7 t : FVec Ideal S1x128 .f32) (ix2 0 k)))
      (fun k => (iblk m c 3 t : FVec Ideal S544x128 .f32) (ix2 r k)) (fun k => (iblk m c 4 t : FVec Ideal S544x128 .f32) (ix2 r k))
    = Cert.ReferenceDIdeal.Attn.Q (X m c) (GQ m c) (bt t) ⟨t.val % 4 * 544 + r.val, hr⟩ (ht t) 1 := by
  unfold Cert.ReferenceDIdeal.Attn.Q row tok
  simp only [qR_apply, q_read, gq_read, cq_read, sq_read]
  refine Eq.trans ?_ (funext (rotK_eq ⟨t.val % 4 * 544 + r.val, hr⟩ _))
  simp only [show ∀ k : ℕ, (44 + (t.val / 4 % 4 * 2 + (1 : Fin 2).val)) * 128 + k = (22 + t.val / 4 % 4) * 256 + (128 + k) from fun k => by show (44 + (t.val / 4 % 4 * 2 + 1)) * 128 + k = _; omega,
    show (t.val / 16 * 4 + t.val % 4) * 544 + r.val = t.val / 16 * 2176 + (t.val % 4 * 544 + r.val) from by omega]

/-- A key of a token of a half. -/
theorem k_applyL (c : Dev nD) (t : Fin cfg0.N) (j : Fin 2064) (d : Fin 128) : keyL m c t (ix2 (Fin.castAdd 112 j) d)
    = Cert.ReferenceDIdeal.Attn.K (X m c) (GK m c) (bt t) j (ht t) 0 d := by
  rw [keyL_apply]
  exact rotK_eq j _ d
/-- A key of a token of the right half. -/
theorem k_applyR (c : Dev nD) (t : Fin cfg0.N) (j : Fin 2064) (d : Fin 128) : keyR m c t (ix2 (Fin.castAdd 112 j) d)
    = Cert.ReferenceDIdeal.Attn.K (X m c) (GK m c) (bt t) j (ht t) 1 d := by
  rw [keyR_apply]
  exact rotK_eq j _ d

/-- The kernel's softmax over masked scores of real queries and keys is the reference's. -/
theorem sfK_eq (q : Fin 128 → EReal) (K : FVec Ideal S2176x128 .bf16) (k : Fin 2064 → Fin 128 → EReal) (v : Fin 2176 → EReal) (w : Fin 2064 → EReal)
    (hq : ∀ d, IsR (q d)) (hk : ∀ j d, IsR (k j d)) (hK : ∀ j d, K (ix2 (Fin.castAdd 112 j) d) = k j d) (hv : ∀ j, v (Fin.castAdd 112 j) = w j) :
    sfK (fun j => (∑ d, q d * csc * K (ix2 j d)) + k0_pay6 (F := Ideal) (ix2 0 j)) v = soft (fun j => (∑ d, q d * k j d) * csc) w := by
  unfold sfK
  refine soft_eq (fun j => (∑ d, q d * csc * K (ix2 j d)) + k0_pay6 (F := Ideal) (ix2 0 j)) v _ w (fun j => score_real _ _ hq (hk j)) (fun j => ?_) (fun j => ?_) hv
  · show (∑ d, q d * csc * K (ix2 (Fin.castAdd 112 j) d)) + k0_pay6 (F := Ideal) (ix2 0 (Fin.castAdd 112 j)) = _
    rw [pay6_apply, if_pos (by show j.val < 2064; exact j.isLt), add_zero]
    simp only [hK]
    exact score_eq _ _ hq (hk j)
  · show (∑ d, q d * csc * K (ix2 (Fin.natAdd 2064 j) d)) + k0_pay6 (F := Ideal) (ix2 0 (Fin.natAdd 2064 j)) = _
    rw [pay6_apply, if_neg (by show ¬ 2064 + j.val < 2064; omega), EReal.add_bot]

/-- A rotated query is real. -/
theorem Q_real (c : Dev nD) (hf : RealArgs m c) (b l h e d) : IsR (Cert.ReferenceDIdeal.Attn.Q (X m c) (GQ m c) b l h e d) :=
  ropeD_real _ (Cert.ReferenceDIdeal.Attn.aD_real _) _ (fun d => nrm_real _ _ hf.hq d) d
/-- A rotated key is real. -/
theorem K_real (c : Dev nD) (hf : RealArgs m c) (b l h e d) : IsR (Cert.ReferenceDIdeal.Attn.K (X m c) (GK m c) b l h e d) :=
  ropeD_real _ (Cert.ReferenceDIdeal.Attn.aD_real _) _ (fun d => nrm_real _ _ hf.hk d) d

/-- The first half's softmax applied to the values. -/
theorem halfL (c : Dev nD) (hf : RealArgs m c) (t : Fin cfg0.N) (r : Fin 544) (k : Fin 256) (hr : t.val % 4 * 544 + r.val < 2064) :
    sfK (fun j => k0_pay13 (F := Ideal) k0_pay6 (qL (iblk m c 0 t)) (iblk m c 7 t) (iblk m c 3 t) (iblk m c 4 t) (keyL m c t) (ix2 r j)) (fun j => (iblk m c 2 t : FVec Ideal S2176x256 .bf16) (ix2 j k))
    = soft (Cert.ReferenceDIdeal.Attn.score (X m c) (GQ m c) (GK m c) (bt t) (ht t) 0 ⟨t.val % 4 * 544 + r.val, hr⟩) (fun j => Cert.ReferenceDIdeal.Attn.val (X m c) (bt t) j (ht t) k) := by
  have e : (fun j => k0_pay13 (F := Ideal) k0_pay6 (qL (iblk m c 0 t)) (iblk m c 7 t) (iblk m c 3 t) (iblk m c 4 t) (keyL m c t) (ix2 r j))
      = fun j => (∑ d, Cert.ReferenceDIdeal.Attn.Q (X m c) (GQ m c) (bt t) ⟨t.val % 4 * 544 + r.val, hr⟩ (ht t) 0 d * csc * keyL m c t (ix2 j d)) + k0_pay6 (F := Ideal) (ix2 0 j) :=
    funext fun j => by rw [pay13_apply, q_applyL m c t r hr]
  rw [e]
  exact sfK_eq _ _ _ _ _ (Q_real m c hf _ _ _ _) (fun j => K_real m c hf _ j _ _) (k_applyL m c t) (fun j => v_read m c t (Fin.castAdd 112 j) k)
/-- The second half's softmax applied to the values. -/
theorem halfR (c : Dev nD) (hf : RealArgs m c) (t : Fin cfg0.N) (r : Fin 544) (k : Fin 256) (hr : t.val % 4 * 544 + r.val < 2064) :
    sfK (fun j => k0_pay13 (F := Ideal) k0_pay6 (qR (iblk m c 0 t)) (iblk m c 7 t) (iblk m c 3 t) (iblk m c 4 t) (keyR m c t) (ix2 r j)) (fun j => (iblk m c 2 t : FVec Ideal S2176x256 .bf16) (ix2 j k))
    = soft (Cert.ReferenceDIdeal.Attn.score (X m c) (GQ m c) (GK m c) (bt t) (ht t) 1 ⟨t.val % 4 * 544 + r.val, hr⟩) (fun j => Cert.ReferenceDIdeal.Attn.val (X m c) (bt t) j (ht t) k) := by
  have e : (fun j => k0_pay13 (F := Ideal) k0_pay6 (qR (iblk m c 0 t)) (iblk m c 7 t) (iblk m c 3 t) (iblk m c 4 t) (keyR m c t) (ix2 r j))
      = fun j => (∑ d, Cert.ReferenceDIdeal.Attn.Q (X m c) (GQ m c) (bt t) ⟨t.val % 4 * 544 + r.val, hr⟩ (ht t) 1 d * csc * keyR m c t (ix2 j d)) + k0_pay6 (F := Ideal) (ix2 0 j) :=
    funext fun j => by rw [pay13_apply, q_applyR m c t r hr]
  rw [e]
  exact sfK_eq _ _ _ _ _ (Q_real m c hf _ _ _ _) (fun j => K_real m c hf _ j _ _) (k_applyR m c t) (fun j => v_read m c t (Fin.castAdd 112 j) k)

/-- The lambda as the kernel reads it. -/
theorem lam_read (c : Dev nD) (t : Fin cfg0.N) : k0_pay5 (F := Ideal) (iblk m c 9 t) (ix2 0 0) = lam (LV m c) := by
  have el : (iblk m c 9 t : FVec Ideal S4x128 .f32) = LV m c := by
    funext i
    idx_vars i
    exact lv_read m c t _ _
  rw [pay5_apply, el]

/-- One entry of the difference of the halves, at a row of a token. -/
theorem diff_apply (c : Dev nD) (hf : RealArgs m c) (t : Fin cfg0.N) (r : Fin 544) (k : Fin 256) (hr : t.val % 4 * 544 + r.val < 2064) :
    k0_pay12 (F := Ideal) (iblk m c 2 t) k0_pay6 (k0_pay7 (qL (iblk m c 0 t))) (k0_pay8 (iblk m c 7 t)) (k0_pay9 (iblk m c 3 t)) (k0_pay10 (iblk m c 4 t)) (k0_pay11 (qL (iblk m c 0 t))) (keyL m c t) (ix2 r k)
      - k0_pay5 (F := Ideal) (iblk m c 9 t) (ix2 0 0) * sfK (fun j => k0_pay13 (F := Ideal) k0_pay6 (qR (iblk m c 0 t)) (iblk m c 7 t) (iblk m c 3 t) (iblk m c 4 t) (keyR m c t) (ix2 r j)) (fun j => (iblk m c 2 t : FVec Ideal S2176x256 .bf16) (ix2 j k))
      = Cert.ReferenceDIdeal.Attn.head (X m c) (GQ m c) (GK m c) (LV m c) (bt t) (ht t) ⟨t.val % 4 * 544 + r.val, hr⟩ k := by
  rw [Cert.ReferenceDIdeal.Attn.head_eq _ _ _ _ hf.hq hf.hk hf.hl hf.hv, pay12_apply, halfL m c hf t r k hr, halfR m c hf t r k hr, lam_read]

/-- One entry of what point `t` leaves in the output's buffer, at a row of a token. -/
theorem out_apply (c : Dev nD) (hf : RealArgs m c) (t : Fin cfg0.N) (r : Fin 544) (d : Fin 256) (hr : t.val % 4 * 544 + r.val < 2064) :
    body m c t (keyL m c t) (keyR m c t) (ix2 r d)
    = nrmD (Cert.ReferenceDIdeal.Attn.head (X m c) (GQ m c) (GK m c) (LV m c) (bt t) (ht t) ⟨t.val % 4 * 544 + r.val, hr⟩) (fun k => GO m c (ix1 k)) d := by
  unfold body
  rw [pay1_apply _ _ _ _ _ _ _ _ (pay14_apply _ _ _ _ _ _ r), funext (fun k => diff_apply m c hf t r k hr), funext (go_read m c t)]

/-- Every row of a token of the kernel's result is the reference's. -/
theorem final (c : Dev nD) (hf : RealArgs m c) (i : (⟨2, ![8704, 1024]⟩ : Shape).Idx) :
    (i 0).val % 2176 < 2064 → (dats m 0 c).arrAt 11 (cfgs 0).N i = Cert.ReferenceDIdeal.Read.val_main_v170 (F := Ideal) (X m c) (GQ m c) (GK m c) (LV m c) (GO m c) i := by
  refine (dats m 0 c).arrAt_forall_of_covers 11 (fun (i : (⟨2, ![8704, 1024]⟩ : Shape).Idx) v => (i 0).val % 2176 < 2064 → v = Cert.ReferenceDIdeal.Read.val_main_v170 (F := Ideal) (X m c) (GQ m c) (GK m c) (LV m c) (GO m c) i)
    (by decide +kernel) (fun t _ y => ?_) i
  blk_simp
  rw [after0_11, out_eq]
  obtain ⟨r, d, rfl⟩ : ∃ (r : Fin 544) (d : Fin 256), y = (ix2 r d : S544x256.Idx) :=
    ⟨y 0, y 1, by funext a; match a with | ⟨0, _⟩ => rfl | ⟨1, _⟩ => rfl⟩
  have ht' := tlt t
  have hi := (idx_val t).2.2.2.2.2.2.2.2.2.2.2
  have he : (win0_11.blk t).view.emb (ix2 r d : S544x256.Idx)
      = (ix2 ⟨(t.val / 16 * 4 + t.val % 4) * 544 + r.val, by omega⟩ ⟨t.val / 4 % 4 * 256 + d.val, by omega⟩ : (⟨2, ![8704, 1024]⟩ : Shape).Idx) := by
    funext a
    match a with
    | ⟨0, _⟩ => exact Fin.ext (by blk_simp; rw [hi]; rfl)
    | ⟨1, _⟩ => exact Fin.ext (by blk_simp; rw [hi]; rfl)
  rw [he, hi]
  intro h
  have h' : ((t.val / 16 * 4 + t.val % 4) * 544 + r.val) % 2176 < 2064 := h
  have hr : t.val % 4 * 544 + r.val < 2064 := by omega
  rw [Cert.ReferenceDIdeal.Attn.v170_eq _ _ _ _ _ _ h', out_apply m c hf t r d hr]
  have a1 : bt t = ⟨((t.val / 16 * 4 + t.val % 4) * 544 + r.val) / 2176, by omega⟩ := Fin.ext (by show t.val / 16 = ((t.val / 16 * 4 + t.val % 4) * 544 + r.val) / 2176; omega)
  have a2 : ht t = ⟨(t.val / 4 % 4 * 256 + d.val) / 256, by omega⟩ := Fin.ext (by show t.val / 4 % 4 = (t.val / 4 % 4 * 256 + d.val) / 256; omega)
  have a4 : (⟨t.val % 4 * 544 + r.val, hr⟩ : Fin 2064) = ⟨((t.val / 16 * 4 + t.val % 4) * 544 + r.val) % 2176, h'⟩ := Fin.ext (by show t.val % 4 * 544 + r.val = ((t.val / 16 * 4 + t.val % 4) * 544 + r.val) % 2176; omega)
  have a6 : d = ⟨(t.val / 4 % 4 * 256 + d.val) % 256, by omega⟩ := Fin.ext (by show d.val = (t.val / 4 % 4 * 256 + d.val) % 256; omega)
  rw [a1, a2, a4]
  exact congrArg _ a6

/-- The claim: in every row of a token the run of the kernel and the run of the reference leave the same numbers. -/
theorem alg [Cert.Pre_finite_d.Facts] [Cert.On_real_rows_d.Facts] : Cert.algebraic_KernelDIdeal_ReferenceDIdeal_on_real_rows_d_pre_finite_d
    (hKernelDIdeal := Cert.KernelDIdeal.Gen.facts) (hReferenceDIdeal := Cert.ReferenceDIdeal.Gen.facts) := by
  intro m g m' g' hp h
  refine ⟨fun c => Cert.ReferenceDIdeal.Read.val_main_v170 (F := Ideal) (X m c) (GQ m c) (GK m c) (LV m c) (GO m c), ?_, ?_⟩
  · exact (θ_run defs _ _).mono (fun r h c => ⟨fun i hi => (congrFun (h c).1 i).trans
      (final m c (fin_of_pre m hp c) i (on_row _ _ _ _ _ i hi)), (h c).2⟩) (Value.run_blocks m g)
  · refine (θ_run Cert.ReferenceDIdeal.defs _ _).mono (fun r h' c => ⟨fun i _ => (congrFun ((h' c).1.trans (Cert.ReferenceDIdeal.Read.val_main_v170_eq (F := Ideal) (StableHlo.launchContents m' c))) i).trans ?_, (h' c).2⟩)
      (Cert.ReferenceDIdeal.Value.run m' g')
    show Cert.ReferenceDIdeal.Read.val_main_v170 (F := Ideal) (m' ((c.tc : Thread Cert.ReferenceDIdeal.nD Cert.ReferenceDIdeal.τ).loc Cert.ReferenceDIdeal.main_arg0))
      (m' ((c.tc : Thread Cert.ReferenceDIdeal.nD Cert.ReferenceDIdeal.τ).loc Cert.ReferenceDIdeal.main_arg1))
      (m' ((c.tc : Thread Cert.ReferenceDIdeal.nD Cert.ReferenceDIdeal.τ).loc Cert.ReferenceDIdeal.main_arg2))
      (m' ((c.tc : Thread Cert.ReferenceDIdeal.nD Cert.ReferenceDIdeal.τ).loc Cert.ReferenceDIdeal.main_arg3))
      (m' ((c.tc : Thread Cert.ReferenceDIdeal.nD Cert.ReferenceDIdeal.τ).loc Cert.ReferenceDIdeal.main_arg4)) i = _
    rw [(h c).1, (h c).2.1, (h c).2.2.1, (h c).2.2.2.1, (h c).2.2.2.2]

end Cert.KernelDIdeal.Attn

end
-- ==== Proof.Norm.lean ====
/- The first normalisation's call: its result array is the reference's term of the two arguments. -/
module

public import proofs.«01_k».proof.Defs
public import proofs.«01_k».proof.Proof.Gen.KernelNormIdeal.Value
public import proofs.«01_k».proof.Proof.Gen.ReferenceNormIdeal.Run
public import proofs.«01_k».proof.Proof.Gen.ReferenceNormIdeal.Read
public import Idealize.ShloMosaic.Lib.Pipeline.ValueKit
public import Idealize.ShloMosaic.Lib.Pointwise
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem

namespace Cert.KernelNormIdeal.Proj

open Cert.KernelNormIdeal Cert.KernelNormIdeal.Gen

variable (m : (ℓ : Loc nD τ sig) → Buf (Elt Ideal) ℓ)

/-- The reference's term of the activations and the gains. -/
def REF (X : FVec Ideal Cert.ReferenceNormIdeal.S8704x4096 .f32) (W : FVec Ideal Cert.ReferenceNormIdeal.S4096 .f32) :
    FVec Ideal Cert.ReferenceNormIdeal.S8704x4096 .bf16 :=
  Cert.ReferenceNormIdeal.Read.val_main_v13 (F := Ideal) X W

/-- Which block of each array grid point `t` works on. -/
theorem idx_val : ∀ t : Fin cfg0.N, win0_0.index t = ![t.val, 0] ∧ win0_1.index t = ![0, 0]
    ∧ win0_2.index t = ![t.val, 0] :=
  (by decide +kernel : ∀ t : Fin grid0.N, _)

/-- The gains as the region is entered. -/
theorem V_w (c : Dev nD) : (V m c main_v0 : FVec Ideal S1x4096 .f32)
    = shapeCast S1x4096 (m ((c : Thread nD τ).loc main_arg1) : FVec Ideal S4096 .f32) shapeCasts_S4096_S1x4096 := by
  unfold V
  after_reads_simp
  rfl

/-- The activations. -/
abbrev XS (c : Dev nD) : FVec Ideal Cert.ReferenceNormIdeal.S8704x4096 .f32 := m ((c : Thread nD τ).loc main_arg0)
/-- The gains. -/
abbrev WS (c : Dev nD) : FVec Ideal Cert.ReferenceNormIdeal.S4096 .f32 := m ((c : Thread nD τ).loc main_arg1)

/-- There are 32 grid points. -/
theorem tlt (t : Fin cfg0.N) : t.val < 32 := lt_of_lt_of_eq t.isLt (by decide +kernel)

/-- A block of the activations. -/
theorem x_read (c : Dev nD) (t : Fin cfg0.N) (r : Fin 272) (d : Fin 4096) : (iblk m c 0 t : FVec Ideal S272x4096 .f32) (ix2 r d)
    = XS m c (ix2 ⟨t.val * 272 + r.val, by have := tlt t; omega⟩ d) := by
  blk_point [iblk, V, idx_val t]

/-- The gains' block. -/
theorem w_read (c : Dev nD) (t : Fin cfg0.N) (d : Fin 4096) : (iblk m c 1 t : FVec Ideal S1x4096 .f32) (ix2 0 d) = WS m c (ix1 d) := by
  have e : (V m c main_v0 : FVec Ideal S1x4096 .f32) (ix2 0 d) = WS m c (ix1 d) := by
    rw [V_w]
    refine (shapeCast_apply _ _ (ix2 0 d) (ix1 d) ?_).trans rfl
    rw [Shape.rowMajor_val_one, Shape.rowMajor_val_two]
    show d.val = 0 * 4096 + d.val
    omega
  rw [← e]
  blk_point [iblk, idx_val t]

/-- A normalised row times the gains. -/
def nrm (x g : Fin 4096 → EReal) (d : Fin 4096) : EReal :=
  x d * Ideal.rsqrt (Ideal.div (∑ k, x k * x k) (Ideal.ofBits .f32 1166016512#32) + Ideal.ofBits .f32 897988541#32) * g d

/-- The kernel's block at an index. -/
theorem pay1_apply (x : FVec Ideal S272x4096 .f32) (g : FVec Ideal S1x4096 .f32) (r : Fin 272) (d : Fin 4096) :
    k0_pay1 (F := Ideal) x g (ix2 r d) = nrm (fun k => x (ix2 r k)) (fun k => g (ix2 0 k)) d := by
  pointwise [k0_pay1]
  rfl

/-- The reference's term at an index. -/
theorem REF_apply (X : FVec Ideal Cert.ReferenceNormIdeal.S8704x4096 .f32) (W : FVec Ideal Cert.ReferenceNormIdeal.S4096 .f32)
    (r : Fin 8704) (d : Fin 4096) : REF X W (ix2 r d) = nrm (fun k => X (ix2 r k)) (fun k => W (ix1 k)) d := by
  pointwise [REF, Cert.ReferenceNormIdeal.Read.val_main_v0, Cert.ReferenceNormIdeal.Read.val_main_v1, Cert.ReferenceNormIdeal.Read.val_main_v2, Cert.ReferenceNormIdeal.Read.val_main_v3, Cert.ReferenceNormIdeal.Read.val_main_v4, Cert.ReferenceNormIdeal.Read.val_main_v5, Cert.ReferenceNormIdeal.Read.val_main_v6, Cert.ReferenceNormIdeal.Read.val_main_v7, Cert.ReferenceNormIdeal.Read.val_main_v8, Cert.ReferenceNormIdeal.Read.val_main_v9, Cert.ReferenceNormIdeal.Read.val_main_v10, Cert.ReferenceNormIdeal.Read.val_main_v11, Cert.ReferenceNormIdeal.Read.val_main_v12, Cert.ReferenceNormIdeal.Read.val_main_v13, Cert.ReferenceNormIdeal.Read.val_main_cst, Cert.ReferenceNormIdeal.Read.val_main_cst_0, Cert.ReferenceNormIdeal.Read.val_main_cst_1]
  rfl

/-- The result array after the run is the reference's term. -/
theorem final (c : Dev nD) : (dats m 0 c).arrAt 2 (cfgs 0).N = REF (XS m c) (WS m c) := by
  refine (dats m 0 c).arrAt_eq_of_covers 2 _ (by decide +kernel) fun t _ y => ?_
  obtain ⟨r, d, rfl⟩ : ∃ (r : Fin 272) (d : Fin 4096), y = (ix2 r d : S272x4096.Idx) :=
    ⟨y 0, y 1, by funext a; match a with | ⟨0, _⟩ => rfl | ⟨1, _⟩ => rfl⟩
  have ht' := tlt t
  have hi := (idx_val t).2.2
  have he : (win0_2.blk t).view.emb (ix2 r d : S272x4096.Idx)
      = (ix2 ⟨t.val * 272 + r.val, by omega⟩ d : Cert.ReferenceNormIdeal.S8704x4096.Idx) := by
    funext a
    match a with
    | ⟨0, _⟩ => exact Fin.ext (by blk_simp; rw [hi]; rfl)
    | ⟨1, _⟩ => exact Fin.ext (by blk_simp; rw [hi]; simp)
  refine Eq.trans ?_ (congrArg (REF (XS m c) (WS m c)) he).symm
  rw [REF_apply]
  blk_simp
  rw [after0_2]
  frame_out
  rw [pay1_apply, funext (x_read m c t r), funext (w_read m c t)]

/-- The claim: the run of the kernel and the run of the reference leave the same array. -/
theorem alg : Cert.algebraic_KernelNormIdeal_ReferenceNormIdeal (hKernelNormIdeal := Cert.KernelNormIdeal.Gen.facts)
    (hReferenceNormIdeal := Cert.ReferenceNormIdeal.Gen.facts) := by
  intro m g m' g' _ h
  refine ⟨fun c => REF (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run Cert.ReferenceNormIdeal.defs _ _).mono (fun r h' c => ⟨(h' c).1.trans ?_, (h' c).2⟩)
      (Cert.ReferenceNormIdeal.Value.run m' g')
    rw [(h c).1, (h c).2]
    rfl

end Cert.KernelNormIdeal.Proj

end
-- ==== Proof.Mix.lean ====
/- The gate's call: its result array is the reference's term of the seven arguments. -/
module

public import proofs.«01_k».proof.Defs
public import proofs.«01_k».proof.Proof.Gen.KernelMixIdeal.Value
public import proofs.«01_k».proof.Proof.Gen.ReferenceMixIdeal.Run
public import proofs.«01_k».proof.Proof.Gen.ReferenceMixIdeal.Read
public import Idealize.ShloMosaic.Lib.Pipeline.ValueKit
public import Idealize.ShloMosaic.Lib.Pointwise
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem

namespace Cert.KernelMixIdeal.Proj

open Cert.KernelMixIdeal Cert.KernelMixIdeal.Gen

variable (m : (ℓ : Loc nD τ sig) → Buf (Elt Ideal) ℓ)

/-- A normalised row times the gains. -/
def nrm (x g : Fin 1024 → EReal) (d : Fin 1024) : EReal :=
  x d * Ideal.rsqrt (Ideal.div (∑ k, x k * x k) (Ideal.ofBits .f32 1149239296#32) + Ideal.ofBits .f32 897988541#32) * g d

/-- The gate's number. -/
def sil (x : EReal) : EReal := x * Ideal.div 1 (1 + Ideal.exp (-x))

/-- The first piece of a row: the gated number at a token's row, zero at a padding row. -/
theorem pay7_apply (p : IVec S272x1 1) (x : FVec Ideal S272x1024 .f32) (g : FVec Ideal S272x1024 .bf16) (r : Fin 272) (d : Fin 1024) :
    k0_pay7 (F := Ideal) p x g (ix2 r d) = Scalar.select (p (ix2 r 0)) (x (ix2 r d) * sil (g (ix2 r d))) (0 : EReal) := by
  pointwise [k0_pay7]
  rfl
/-- The second piece of a row. -/
theorem pay8_apply (p : IVec S272x1 1) (x : FVec Ideal S272x1024 .f32) (g : FVec Ideal S272x1024 .bf16) (r : Fin 272) (d : Fin 1024) :
    k0_pay8 (F := Ideal) p x g (ix2 r d) = Scalar.select (p (ix2 r 0)) (x (ix2 r d) * sil (g (ix2 r d))) (0 : EReal) := by
  pointwise [k0_pay8]
  rfl
/-- The third piece of a row. -/
theorem pay9_apply (p : IVec S272x1 1) (x : FVec Ideal S272x1024 .f32) (g : FVec Ideal S272x1024 .bf16) (r : Fin 272) (d : Fin 1024) :
    k0_pay9 (F := Ideal) p x g (ix2 r d) = Scalar.select (p (ix2 r 0)) (x (ix2 r d) * sil (g (ix2 r d))) (0 : EReal) := by
  pointwise [k0_pay9]
  rfl
/-- The fourth piece of a row. -/
theorem pay1_apply (p : IVec S272x1 1) (x : FVec Ideal S272x1024 .bf16) (g : FVec Ideal S272x1024 .bf16) (r : Fin 272) (d : Fin 1024) :
    k0_pay1 (F := Ideal) p (k0_pay6 x) (k0_pay10 g) (ix2 r d) = Scalar.select (p (ix2 r 0)) (x (ix2 r d) * sil (g (ix2 r d))) (0 : EReal) := by
  pointwise [k0_pay1, k0_pay6, k0_pay10]
  rfl
/-- Comparing a row's number in its sequence with the number of tokens. -/
theorem slt_tok : ∀ x : Fin 2176, IntOp.cmpi .slt (BitVec.ofNat 32 x.val) 2064#32 = if x.val < 2064 then 1#1 else 0#1 := by
  decide +kernel
/-- The kernel's mask marks the rows of tokens. -/
theorem pay2_apply (i : grid0.Coords) (r : Fin 272) :
    k0_pay2 i (ix2 r 0) = if (i 1).val * 272 + r.val < 2064 then 1#1 else 0#1 := by
  have h : (i 1).val < 8 := (i 1).isLt
  pointwise [k0_pay2]
  rw [← slt_tok ⟨(i 1).val * 272 + r.val, by omega⟩]
  have e : IntOp.addi (Scalar.muli (BitVec.ofNat 32 (i 1).val) 272#32) (BitVec.ofNat 32 r.val) = BitVec.ofNat 32 ((i 1).val * 272 + r.val) := by
    rw [BitVec.ofNat_add, BitVec.ofNat_mul]
    rfl
  rw [e]
/-- A choice by the mask is a choice by the row's number. -/
theorem select_if (p : Prop) [Decidable p] (a b : EReal) : Scalar.select (if p then 1#1 else 0#1) a b = if p then a else b := by
  by_cases h : p
  · rw [if_pos h, if_pos h]; rfl
  · rw [if_neg h, if_neg h]; rfl
/-- The first branch's normalised row. -/
theorem pay3_apply (x : FVec Ideal S272x1024 .bf16) (g : FVec Ideal S1x1024 .f32) (r : Fin 272) (d : Fin 1024) :
    k0_pay3 (F := Ideal) x g (ix2 r d) = nrm (fun k => x (ix2 r k)) (fun k => g (ix2 0 k)) d := by
  pointwise [k0_pay3]
  rfl
/-- The second branch's normalised row. -/
theorem pay4_apply (x : FVec Ideal S272x1024 .f32) (g : FVec Ideal S1x1024 .f32) (r : Fin 272) (d : Fin 1024) :
    k0_pay4 (F := Ideal) x g (ix2 r d) = nrm (fun k => x (ix2 r k)) (fun k => g (ix2 0 k)) d := by
  pointwise [k0_pay4]
  rfl
/-- The third branch's row is only cast. -/
theorem pay5_apply (x : FVec Ideal S272x1024 .bf16) (r : Fin 272) (d : Fin 1024) :
    k0_pay5 (F := Ideal) x (ix2 r d) = x (ix2 r d) := rfl

/-- One number of the result: at a token's row the branch its column lies in, times the gate's number; zero at a padding row. -/
def mixv (p : Prop) [Decidable p] (a0 a1 a2 a3 : Fin 1024 → EReal) (g : Fin 4096 → EReal) (d : Fin 4096) : EReal :=
  if p then (if h : d.val < 1024 then a0 ⟨d.val, h⟩ else if h2 : d.val - 1024 < 1024 then a1 ⟨d.val - 1024, h2⟩
    else if h3 : d.val - 1024 - 1024 < 1024 then a2 ⟨d.val - 1024 - 1024, h3⟩ else a3 ⟨d.val - 1024 - 1024 - 1024, by omega⟩) * sil (g d)
  else 0

variable (p : Prop) [Decidable p] (a0 a1 a2 a3 : Fin 1024 → EReal) (g : Fin 4096 → EReal)

/-- The number depends only on whether the row is a token's. -/
theorem mixv_congr {p q : Prop} [Decidable p] [Decidable q] (h : p ↔ q) (a0 a1 a2 a3 : Fin 1024 → EReal) (g : Fin 4096 → EReal) (d : Fin 4096) :
    mixv p a0 a1 a2 a3 g d = mixv q a0 a1 a2 a3 g d := by
  unfold mixv
  exact if_congr h rfl rfl

/-- The first branch's columns. -/
theorem mixv_0 (k : Fin 1024) : mixv p a0 a1 a2 a3 g ⟨0 + k.val, by omega⟩ = if p then a0 k * sil (g ⟨0 + k.val, by omega⟩) else 0 := by
  unfold mixv
  rw [dif_pos (by show 0 + k.val < 1024; omega)]
  simp only [Nat.zero_add]
/-- The second branch's columns. -/
theorem mixv_1 (k : Fin 1024) : mixv p a0 a1 a2 a3 g ⟨1024 + k.val, by omega⟩ = if p then a1 k * sil (g ⟨1024 + k.val, by omega⟩) else 0 := by
  unfold mixv
  rw [dif_neg (by show ¬ 1024 + k.val < 1024; omega), dif_pos (by show 1024 + k.val - 1024 < 1024; omega)]
  simp only [show 1024 + k.val - 1024 = k.val by omega]
/-- The third branch's columns. -/
theorem mixv_2 (k : Fin 1024) : mixv p a0 a1 a2 a3 g ⟨2048 + k.val, by omega⟩ = if p then a2 k * sil (g ⟨2048 + k.val, by omega⟩) else 0 := by
  unfold mixv
  rw [dif_neg (by show ¬ 2048 + k.val < 1024; omega), dif_neg (by show ¬ 2048 + k.val - 1024 < 1024; omega),
    dif_pos (by show 2048 + k.val - 1024 - 1024 < 1024; omega)]
  simp only [show 2048 + k.val - 1024 - 1024 = k.val by omega]
/-- The fourth branch's columns. -/
theorem mixv_3 (k : Fin 1024) : mixv p a0 a1 a2 a3 g ⟨3072 + k.val, by omega⟩ = if p then a3 k * sil (g ⟨3072 + k.val, by omega⟩) else 0 := by
  unfold mixv
  rw [dif_neg (by show ¬ 3072 + k.val < 1024; omega), dif_neg (by show ¬ 3072 + k.val - 1024 < 1024; omega),
    dif_neg (by show ¬ 3072 + k.val - 1024 - 1024 < 1024; omega)]
  simp only [show 3072 + k.val - 1024 - 1024 - 1024 = k.val by omega]

/-- The reference's term of the seven arguments. -/
abbrev REF (X0 : FVec Ideal Cert.ReferenceMixIdeal.S8704x1024 .bf16) (X1 : FVec Ideal Cert.ReferenceMixIdeal.S8704x1024 .f32)
    (X2 X3 : FVec Ideal Cert.ReferenceMixIdeal.S8704x1024 .bf16) (X4 : FVec Ideal Cert.ReferenceMixIdeal.S8704x4096 .bf16)
    (X5 X6 : FVec Ideal Cert.ReferenceMixIdeal.S1024 .f32) : FVec Ideal Cert.ReferenceMixIdeal.S8704x4096 .bf16 :=
  Cert.ReferenceMixIdeal.Read.val_main_v45 (F := Ideal) X0 X1 X2 X3 X4 X5 X6

/-- The reference's term at an index. -/
theorem REF_apply (X0 : FVec Ideal Cert.ReferenceMixIdeal.S8704x1024 .bf16) (X1 : FVec Ideal Cert.ReferenceMixIdeal.S8704x1024 .f32)
    (X2 X3 : FVec Ideal Cert.ReferenceMixIdeal.S8704x1024 .bf16) (X4 : FVec Ideal Cert.ReferenceMixIdeal.S8704x4096 .bf16)
    (X5 X6 : FVec Ideal Cert.ReferenceMixIdeal.S1024 .f32) (r : Fin 8704) (d : Fin 4096) :
    REF X0 X1 X2 X3 X4 X5 X6 (ix2 r d)
    = mixv (r.val % 2176 < 2064) (nrm (fun k => X0 (ix2 r k)) (fun k => X5 (ix1 k))) (nrm (fun k => X1 (ix2 r k)) (fun k => X6 (ix1 k)))
        (fun k => X2 (ix2 r k)) (fun k => X3 (ix2 r k)) (fun k => X4 (ix2 r k)) d := by
  pointwise [Cert.ReferenceMixIdeal.Read.val_main_v0, Cert.ReferenceMixIdeal.Read.val_main_v1, Cert.ReferenceMixIdeal.Read.val_main_v2, Cert.ReferenceMixIdeal.Read.val_main_v3, Cert.ReferenceMixIdeal.Read.val_main_cst, Cert.ReferenceMixIdeal.Read.val_main_v4, Cert.ReferenceMixIdeal.Read.val_main_v5, Cert.ReferenceMixIdeal.Read.val_main_cst_0, Cert.ReferenceMixIdeal.Read.val_main_v6, Cert.ReferenceMixIdeal.Read.val_main_v7, Cert.ReferenceMixIdeal.Read.val_main_cst_1, Cert.ReferenceMixIdeal.Read.val_main_v8, Cert.ReferenceMixIdeal.Read.val_main_v9, Cert.ReferenceMixIdeal.Read.val_main_v10, Cert.ReferenceMixIdeal.Read.val_main_v11, Cert.ReferenceMixIdeal.Read.val_main_v12, Cert.ReferenceMixIdeal.Read.val_main_v13, Cert.ReferenceMixIdeal.Read.val_main_v14, Cert.ReferenceMixIdeal.Read.val_main_v15, Cert.ReferenceMixIdeal.Read.val_main_v16, Cert.ReferenceMixIdeal.Read.val_main_v17, Cert.ReferenceMixIdeal.Read.val_main_v18, Cert.ReferenceMixIdeal.Read.val_main_cst_2, Cert.ReferenceMixIdeal.Read.val_main_v19, Cert.ReferenceMixIdeal.Read.val_main_v20, Cert.ReferenceMixIdeal.Read.val_main_cst_3, Cert.ReferenceMixIdeal.Read.val_main_v21, Cert.ReferenceMixIdeal.Read.val_main_v22, Cert.ReferenceMixIdeal.Read.val_main_cst_4, Cert.ReferenceMixIdeal.Read.val_main_v23, Cert.ReferenceMixIdeal.Read.val_main_v24, Cert.ReferenceMixIdeal.Read.val_main_v25, Cert.ReferenceMixIdeal.Read.val_main_v26, Cert.ReferenceMixIdeal.Read.val_main_v27, Cert.ReferenceMixIdeal.Read.val_main_v28, Cert.ReferenceMixIdeal.Read.val_main_v29, Cert.ReferenceMixIdeal.Read.val_main_v30, Cert.ReferenceMixIdeal.Read.val_main_v31, Cert.ReferenceMixIdeal.Read.val_main_v32, Cert.ReferenceMixIdeal.Read.val_main_v33, Cert.ReferenceMixIdeal.Read.val_main_v34, Cert.ReferenceMixIdeal.Read.val_main_v35, Cert.ReferenceMixIdeal.Read.val_main_v36, Cert.ReferenceMixIdeal.Read.val_main_v37, Cert.ReferenceMixIdeal.Read.val_main_v38, Cert.ReferenceMixIdeal.Read.val_main_v39, Cert.ReferenceMixIdeal.Read.val_main_v40, Cert.ReferenceMixIdeal.Read.val_main_call0_v0, Cert.ReferenceMixIdeal.Read.val_main_call0_v1, Cert.ReferenceMixIdeal.Read.val_main_call0_cst, Cert.ReferenceMixIdeal.Read.val_main_call0_v2, Cert.ReferenceMixIdeal.Read.val_main_call0_v3, Cert.ReferenceMixIdeal.Read.val_main_call0_cst_0, Cert.ReferenceMixIdeal.Read.val_main_call0_v4, Cert.ReferenceMixIdeal.Read.val_main_call0_v5, Cert.ReferenceMixIdeal.Read.val_main_v41, Cert.ReferenceMixIdeal.Read.val_main_v42, Cert.ReferenceMixIdeal.Read.val_main_c, Cert.ReferenceMixIdeal.Read.val_main_call1_v0, Cert.ReferenceMixIdeal.Read.val_main_v43, Cert.ReferenceMixIdeal.Read.val_main_v44, Cert.ReferenceMixIdeal.Read.val_main_v45]
  unfold mixv
  by_cases h : r.val % 2176 < 2064
  · refine (dif_pos (show r.val / 2176 < 4 ∧ r.val % 2176 < 2064 from ⟨by omega, h⟩)).trans (Eq.trans ?_ (if_pos h).symm)
    unfold nrm sil
    rfl
  · refine (dif_neg (fun h' => h h'.2)).trans (Eq.trans ?_ (if_neg h).symm)
    show (((0#32 : BitVec 32).toInt : ℝ) : EReal) = 0
    simp

/-- What one block of the result holds. -/
def blkv (i : grid0.Coords) (x0 : FVec Ideal S272x1024 .bf16) (x1 : FVec Ideal S272x1024 .f32) (x2 x3 : FVec Ideal S272x1024 .bf16)
    (x4 : FVec Ideal S272x4096 .bf16) (x5 x6 : FVec Ideal S1x1024 .f32) : FVec Ideal S272x4096 .bf16 := fun y =>
  mixv ((i 1).val * 272 + (y 0).val < 2064) (nrm (fun k => x0 (ix2 (y 0) k)) (fun k => x5 (ix2 0 k))) (nrm (fun k => x1 (ix2 (y 0) k)) (fun k => x6 (ix2 0 k)))
    (fun k => x2 (ix2 (y 0) k)) (fun k => x3 (ix2 (y 0) k)) (fun k => x4 (ix2 (y 0) k)) (y 1)

/-- Where the first piece of a row lies. -/
theorem at_2 (r : Fin 272) (k : Fin 1024) : r0_2.idx (ix2 r k : S272x1024.Idx) = (ix2 r ⟨0 + k.val, by omega⟩ : S272x4096.Idx) := by
  funext a
  match a with
  | ⟨0, _⟩ => exact Fin.ext (by show 0 + 1 * r.val = r.val; omega)
  | ⟨1, _⟩ => exact Fin.ext (by show 0 + 1 * k.val = 0 + k.val; omega)
/-- Where the second piece of a row lies. -/
theorem at_3 (r : Fin 272) (k : Fin 1024) : r0_3.idx (ix2 r k : S272x1024.Idx) = (ix2 r ⟨1024 + k.val, by omega⟩ : S272x4096.Idx) := by
  funext a
  match a with
  | ⟨0, _⟩ => exact Fin.ext (by show 0 + 1 * r.val = r.val; omega)
  | ⟨1, _⟩ => exact Fin.ext (by show 1024 + 1 * k.val = 1024 + k.val; omega)
/-- Where the third piece of a row lies. -/
theorem at_4 (r : Fin 272) (k : Fin 1024) : r0_4.idx (ix2 r k : S272x1024.Idx) = (ix2 r ⟨2048 + k.val, by omega⟩ : S272x4096.Idx) := by
  funext a
  match a with
  | ⟨0, _⟩ => exact Fin.ext (by show 0 + 1 * r.val = r.val; omega)
  | ⟨1, _⟩ => exact Fin.ext (by show 2048 + 1 * k.val = 2048 + k.val; omega)
/-- Where the fourth piece of a row lies. -/
theorem at_5 (r : Fin 272) (k : Fin 1024) : r0_5.idx (ix2 r k : S272x1024.Idx) = (ix2 r ⟨3072 + k.val, by omega⟩ : S272x4096.Idx) := by
  funext a
  match a with
  | ⟨0, _⟩ => exact Fin.ext (by show 0 + 1 * r.val = r.val; omega)
  | ⟨1, _⟩ => exact Fin.ext (by show 3072 + 1 * k.val = 3072 + k.val; omega)

/-- The block's numbers at a column of a branch. -/
theorem blkv_apply (i : grid0.Coords) (x0 : FVec Ideal S272x1024 .bf16) (x1 : FVec Ideal S272x1024 .f32) (x2 x3 : FVec Ideal S272x1024 .bf16)
    (x4 : FVec Ideal S272x4096 .bf16) (x5 x6 : FVec Ideal S1x1024 .f32) (r : Fin 272) (d : Fin 4096) : blkv i x0 x1 x2 x3 x4 x5 x6 (ix2 r d)
    = mixv ((i 1).val * 272 + r.val < 2064) (nrm (fun k => x0 (ix2 r k)) (fun k => x5 (ix2 0 k))) (nrm (fun k => x1 (ix2 r k)) (fun k => x6 (ix2 0 k)))
    (fun k => x2 (ix2 r k)) (fun k => x3 (ix2 r k)) (fun k => x4 (ix2 r k)) d := rfl

/-- Loading a whole block of bf16 numbers. -/
theorem ld0b (x : FVec Ideal S272x1024 .bf16) : View.ld (Val := Elt Ideal) (e' := .bf16) x r0_0 = x := View.ld_unit_lit _ _ (by decide)
/-- Loading a whole block of f32 numbers. -/
theorem ld0f (x : FVec Ideal S272x1024 .f32) : View.ld (Val := Elt Ideal) (e' := .f32) x r0_0 = x := View.ld_unit_lit _ _ (by decide)
/-- Loading the gains. -/
theorem ld1 (x : FVec Ideal S1x1024 .f32) : View.ld (Val := Elt Ideal) (e' := .f32) x r0_1 = x := View.ld_unit_lit _ _ (by decide)
/-- Loading the gates of the first branch. -/
theorem ldq_2 (x : FVec Ideal S272x4096 .bf16) (r : Fin 272) (k : Fin 1024) :
    View.ld (Val := Elt Ideal) (e' := .bf16) x r0_2 (ix2 r k : S272x1024.Idx) = x (ix2 r ⟨0 + k.val, by omega⟩) := congrArg x (at_2 r k)
/-- Loading the gates of the second branch. -/
theorem ldq_3 (x : FVec Ideal S272x4096 .bf16) (r : Fin 272) (k : Fin 1024) :
    View.ld (Val := Elt Ideal) (e' := .bf16) x r0_3 (ix2 r k : S272x1024.Idx) = x (ix2 r ⟨1024 + k.val, by omega⟩) := congrArg x (at_3 r k)
/-- Loading the gates of the third branch. -/
theorem ldq_4 (x : FVec Ideal S272x4096 .bf16) (r : Fin 272) (k : Fin 1024) :
    View.ld (Val := Elt Ideal) (e' := .bf16) x r0_4 (ix2 r k : S272x1024.Idx) = x (ix2 r ⟨2048 + k.val, by omega⟩) := congrArg x (at_4 r k)
/-- Loading the gates of the fourth branch. -/
theorem ldq_5 (x : FVec Ideal S272x4096 .bf16) (r : Fin 272) (k : Fin 1024) :
    View.ld (Val := Elt Ideal) (e' := .bf16) x r0_5 (ix2 r k : S272x1024.Idx) = x (ix2 r ⟨3072 + k.val, by omega⟩) := congrArg x (at_5 r k)

/-- The four pieces leave the block. -/
theorem out_eq (i : grid0.Coords) (x0 : FVec Ideal S272x1024 .bf16) (x1 : FVec Ideal S272x1024 .f32) (x2 x3 : FVec Ideal S272x1024 .bf16)
    (x4 : FVec Ideal S272x4096 .bf16) (x5 x6 : FVec Ideal S1x1024 .f32) (y : S272x4096.Idx) :
    out0_7 (F := Ideal) i x0 x1 x2 x3 x4 x5 x6 y = blkv i x0 x1 x2 x3 x4 x5 x6 y := by
  unfold out0_7 k0_pay11
  refine View.canon_apply_of_pieces (Val := Elt Ideal) (e := .bf16) (blkv i x0 x1 x2 x3 x4 x5 x6) _ ?_ y (cover0_7 (F := Ideal) _ _ _ _ y)
  intro pc hpc
  rcases List.mem_cons.mp hpc with rfl | hpc
  · intro x
    obtain ⟨r, k, rfl⟩ : ∃ (r : Fin 272) (k : Fin 1024), x = (ix2 r k : S272x1024.Idx) :=
      ⟨x 0, x 1, by funext a; match a with | ⟨0, _⟩ => rfl | ⟨1, _⟩ => rfl⟩
    refine Eq.trans ?_ (congrArg (blkv i x0 x1 x2 x3 x4 x5 x6) (at_5 r k)).symm
    rw [blkv_apply, mixv_3]
    refine (pay1_apply _ _ _ r k).trans ?_
    rw [pay2_apply, select_if, ld0b x3, ldq_5]
  rcases List.mem_cons.mp hpc with rfl | hpc
  · intro x
    obtain ⟨r, k, rfl⟩ : ∃ (r : Fin 272) (k : Fin 1024), x = (ix2 r k : S272x1024.Idx) :=
      ⟨x 0, x 1, by funext a; match a with | ⟨0, _⟩ => rfl | ⟨1, _⟩ => rfl⟩
    refine Eq.trans ?_ (congrArg (blkv i x0 x1 x2 x3 x4 x5 x6) (at_4 r k)).symm
    rw [blkv_apply, mixv_2]
    refine (pay9_apply _ _ _ r k).trans ?_
    rw [pay2_apply, select_if, ld0b x2, pay5_apply, ldq_4]
  rcases List.mem_cons.mp hpc with rfl | hpc
  · intro x
    obtain ⟨r, k, rfl⟩ : ∃ (r : Fin 272) (k : Fin 1024), x = (ix2 r k : S272x1024.Idx) :=
      ⟨x 0, x 1, by funext a; match a with | ⟨0, _⟩ => rfl | ⟨1, _⟩ => rfl⟩
    refine Eq.trans ?_ (congrArg (blkv i x0 x1 x2 x3 x4 x5 x6) (at_3 r k)).symm
    rw [blkv_apply, mixv_1]
    refine (pay8_apply _ _ _ r k).trans ?_
    rw [pay2_apply, select_if, ld0f x1, ld1 x6, pay4_apply, ldq_3]
  rcases List.mem_cons.mp hpc with rfl | hpc
  · intro x
    obtain ⟨r, k, rfl⟩ : ∃ (r : Fin 272) (k : Fin 1024), x = (ix2 r k : S272x1024.Idx) :=
      ⟨x 0, x 1, by funext a; match a with | ⟨0, _⟩ => rfl | ⟨1, _⟩ => rfl⟩
    refine Eq.trans ?_ (congrArg (blkv i x0 x1 x2 x3 x4 x5 x6) (at_2 r k)).symm
    rw [blkv_apply, mixv_0]
    refine (pay7_apply _ _ _ r k).trans ?_
    rw [pay2_apply, select_if, ld0b x0, ld1 x5, pay3_apply, ldq_2]
  nomatch hpc

/-- The seven arguments. -/
abbrev A0 (c : Dev nD) : FVec Ideal Cert.ReferenceMixIdeal.S8704x1024 .bf16 := m ((c : Thread nD τ).loc main_arg0)
/-- The second branch. -/
abbrev A1 (c : Dev nD) : FVec Ideal Cert.ReferenceMixIdeal.S8704x1024 .f32 := m ((c : Thread nD τ).loc main_arg1)
/-- The third branch. -/
abbrev A2 (c : Dev nD) : FVec Ideal Cert.ReferenceMixIdeal.S8704x1024 .bf16 := m ((c : Thread nD τ).loc main_arg2)
/-- The fourth branch. -/
abbrev A3 (c : Dev nD) : FVec Ideal Cert.ReferenceMixIdeal.S8704x1024 .bf16 := m ((c : Thread nD τ).loc main_arg3)
/-- The gates. -/
abbrev A4 (c : Dev nD) : FVec Ideal Cert.ReferenceMixIdeal.S8704x4096 .bf16 := m ((c : Thread nD τ).loc main_arg4)
/-- The first branch's gains. -/
abbrev A5 (c : Dev nD) : FVec Ideal Cert.ReferenceMixIdeal.S1024 .f32 := m ((c : Thread nD τ).loc main_arg5)
/-- The second branch's gains. -/
abbrev A6 (c : Dev nD) : FVec Ideal Cert.ReferenceMixIdeal.S1024 .f32 := m ((c : Thread nD τ).loc main_arg6)

/-- There are 32 grid points. -/
theorem tlt (t : Fin cfg0.N) : t.val < 32 := lt_of_lt_of_eq t.isLt (by decide +kernel)

/-- Which block of each array grid point `t` works on. -/
theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ (grid0.coords t 1).val = t.val % 8 :=
  (by decide +kernel : ∀ t : Fin grid0.N, _)

/-- A block of argument 0. -/
theorem read_0 (c : Dev nD) (t : Fin cfg0.N) (r : Fin 272) (d : Fin 1024) : (iblk m c 0 t : FVec Ideal S272x1024 .bf16) (ix2 r d)
    = A0 m c (ix2 ⟨t.val * 272 + r.val, by have := tlt t; omega⟩ d) := by
  blk_point [iblk, V, idx_val t]
/-- A block of argument 1. -/
theorem read_1 (c : Dev nD) (t : Fin cfg0.N) (r : Fin 272) (d : Fin 1024) : (iblk m c 1 t : FVec Ideal S272x1024 .f32) (ix2 r d)
    = A1 m c (ix2 ⟨t.val * 272 + r.val, by have := tlt t; omega⟩ d) := by
  blk_point [iblk, V, idx_val t]
/-- A block of argument 2. -/
theorem read_2 (c : Dev nD) (t : Fin cfg0.N) (r : Fin 272) (d : Fin 1024) : (iblk m c 2 t : FVec Ideal S272x1024 .bf16) (ix2 r d)
    = A2 m c (ix2 ⟨t.val * 272 + r.val, by have := tlt t; omega⟩ d) := by
  blk_point [iblk, V, idx_val t]
/-- A block of argument 3. -/
theorem read_3 (c : Dev nD) (t : Fin cfg0.N) (r : Fin 272) (d : Fin 1024) : (iblk m c 3 t : FVec Ideal S272x1024 .bf16) (ix2 r d)
    = A3 m c (ix2 ⟨t.val * 272 + r.val, by have := tlt t; omega⟩ d) := by
  blk_point [iblk, V, idx_val t]
/-- A block of argument 4. -/
theorem read_4 (c : Dev nD) (t : Fin cfg0.N) (r : Fin 272) (d : Fin 4096) : (iblk m c 4 t : FVec Ideal S272x4096 .bf16) (ix2 r d)
    = A4 m c (ix2 ⟨t.val * 272 + r.val, by have := tlt t; omega⟩ d) := by
  blk_point [iblk, V, idx_val t]
/-- The gains of argument 5 as the region is entered. -/
theorem V_5 (c : Dev nD) : (V m c main_v0 : FVec Ideal S1x1024 .f32)
    = shapeCast S1x1024 (m ((c : Thread nD τ).loc main_arg5) : FVec Ideal S1024 .f32) shapeCasts_S1024_S1x1024 := by
  unfold V
  after_reads_simp
  rfl
/-- The block of the gains of argument 5. -/
theorem read_5 (c : Dev nD) (t : Fin cfg0.N) (d : Fin 1024) : (iblk m c 5 t : FVec Ideal S1x1024 .f32) (ix2 0 d) = A5 m c (ix1 d) := by
  have e : (V m c main_v0 : FVec Ideal S1x1024 .f32) (ix2 0 d) = A5 m c (ix1 d) := by
    rw [V_5]
    refine (shapeCast_apply _ _ (ix2 0 d) (ix1 d) ?_).trans rfl
    rw [Shape.rowMajor_val_one, Shape.rowMajor_val_two]
    show d.val = 0 * 1024 + d.val
    omega
  rw [← e]
  blk_point [iblk, idx_val t]
/-- The gains of argument 6 as the region is entered. -/
theorem V_6 (c : Dev nD) : (V m c main_v1 : FVec Ideal S1x1024 .f32)
    = shapeCast S1x1024 (m ((c : Thread nD τ).loc main_arg6) : FVec Ideal S1024 .f32) shapeCasts_S1024_S1x1024 := by
  unfold V
  after_reads_simp
  rfl
/-- The block of the gains of argument 6. -/
theorem read_6 (c : Dev nD) (t : Fin cfg0.N) (d : Fin 1024) : (iblk m c 6 t : FVec Ideal S1x1024 .f32) (ix2 0 d) = A6 m c (ix1 d) := by
  have e : (V m c main_v1 : FVec Ideal S1x1024 .f32) (ix2 0 d) = A6 m c (ix1 d) := by
    rw [V_6]
    refine (shapeCast_apply _ _ (ix2 0 d) (ix1 d) ?_).trans rfl
    rw [Shape.rowMajor_val_one, Shape.rowMajor_val_two]
    show d.val = 0 * 1024 + d.val
    omega
  rw [← e]
  blk_point [iblk, idx_val t]

/-- The result array after the run is the reference's term. -/
theorem final (c : Dev nD) : (dats m 0 c).arrAt 7 (cfgs 0).N = REF (A0 m c) (A1 m c) (A2 m c) (A3 m c) (A4 m c) (A5 m c) (A6 m c) := by
  refine (dats m 0 c).arrAt_eq_of_covers 7 _ (by decide +kernel) fun t _ y => ?_
  obtain ⟨r, d, rfl⟩ : ∃ (r : Fin 272) (d : Fin 4096), y = (ix2 r d : S272x4096.Idx) :=
    ⟨y 0, y 1, by funext a; match a with | ⟨0, _⟩ => rfl | ⟨1, _⟩ => rfl⟩
  have ht' := tlt t
  have hi := (idx_val t).2.2.2.2.2.2.2.1
  have hg := (idx_val t).2.2.2.2.2.2.2.2
  have he : (win0_7.blk t).view.emb (ix2 r d : S272x4096.Idx)
      = (ix2 ⟨t.val * 272 + r.val, by omega⟩ d : Cert.ReferenceMixIdeal.S8704x4096.Idx) := by
    funext a
    match a with
    | ⟨0, _⟩ => exact Fin.ext (by blk_simp; rw [hi]; rfl)
    | ⟨1, _⟩ => exact Fin.ext (by blk_simp; rw [hi]; simp)
  refine Eq.trans ?_ (congrArg (REF (A0 m c) (A1 m c) (A2 m c) (A3 m c) (A4 m c) (A5 m c) (A6 m c)) he).symm
  rw [REF_apply]
  blk_simp
  rw [after0_7, out_eq, blkv_apply, funext (read_0 m c t r), funext (read_1 m c t r), funext (read_2 m c t r), funext (read_3 m c t r),
    funext (read_4 m c t r), funext (read_5 m c t), funext (read_6 m c t)]
  refine mixv_congr ?_ _ _ _ _ _ _
  rw [hg]
  show t.val % 8 * 272 + r.val < 2064 ↔ (t.val * 272 + r.val) % 2176 < 2064
  omega

/-- The claim: the run of the kernel and the run of the reference leave the same array. -/
theorem alg : Cert.algebraic_KernelMixIdeal_ReferenceMixIdeal (hKernelMixIdeal := Cert.KernelMixIdeal.Gen.facts)
    (hReferenceMixIdeal := Cert.ReferenceMixIdeal.Gen.facts) := by
  intro m g m' g' _ h
  refine ⟨fun c => REF (A0 m c) (A1 m c) (A2 m c) (A3 m c) (A4 m c) (A5 m c) (A6 m c), ?_, ?_⟩
  · exact (θ_run defs _ _).mono (fun r h c => ⟨(h c).1.trans (final m c), (h c).2⟩) (Value.run_blocks m g)
  · refine (θ_run Cert.ReferenceMixIdeal.defs _ _).mono (fun r h' c => ⟨((h' c).1.trans (Cert.ReferenceMixIdeal.Read.val_main_v45_eq (F := Ideal) m' c)).trans ?_, (h' c).2⟩)
      (Cert.ReferenceMixIdeal.Value.run m' g')
    show Cert.ReferenceMixIdeal.Read.val_main_v45 (F := Ideal) (m' ((c.tc : Thread Cert.ReferenceMixIdeal.nD Cert.ReferenceMixIdeal.τ).loc Cert.ReferenceMixIdeal.main_arg0)) (m' ((c.tc : Thread Cert.ReferenceMixIdeal.nD Cert.ReferenceMixIdeal.τ).loc Cert.ReferenceMixIdeal.main_arg1)) (m' ((c.tc : Thread Cert.ReferenceMixIdeal.nD Cert.ReferenceMixIdeal.τ).loc Cert.ReferenceMixIdeal.main_arg2)) (m' ((c.tc : Thread Cert.ReferenceMixIdeal.nD Cert.ReferenceMixIdeal.τ).loc Cert.ReferenceMixIdeal.main_arg3)) (m' ((c.tc : Thread Cert.ReferenceMixIdeal.nD Cert.ReferenceMixIdeal.τ).loc Cert.ReferenceMixIdeal.main_arg4)) (m' ((c.tc : Thread Cert.ReferenceMixIdeal.nD Cert.ReferenceMixIdeal.τ).loc Cert.ReferenceMixIdeal.main_arg5)) (m' ((c.tc : Thread Cert.ReferenceMixIdeal.nD Cert.ReferenceMixIdeal.τ).loc Cert.ReferenceMixIdeal.main_arg6)) = _
    rw [(h c).1, (h c).2.1, (h c).2.2.1, (h c).2.2.2.1, (h c).2.2.2.2.1, (h c).2.2.2.2.2.1, (h c).2.2.2.2.2.2]

end Cert.KernelMixIdeal.Proj

end
-- ==== Proof.RefPool.lean ====
/- Mixer C's pooling: the reference's term at an index. -/
module

public import proofs.«01_k».proof.Defs
public import proofs.«01_k».proof.Proof.Gen.ReferencePoolIdeal.Run
public import proofs.«01_k».proof.Proof.Gen.ReferencePoolIdeal.Read
public import proofs.«01_k».proof.Proof.AttnMath
public import Idealize.ShloMosaic.Lib.Pointwise
public import Idealize.ShloMosaic.Lib.KernelVsHost
public import Idealize.ShloMosaic.Lib.ValueIdx

@[expose] public section

set_option maxRecDepth 16384

noncomputable section

open Idealize.ShloMosaic Idealize.ShloMosaic.TcCoe Idealize.SL.Sem

namespace Cert.ReferencePoolIdeal.Pool

open Cert.ReferencePoolIdeal Cert.ReferencePoolIdeal.Gen Cert.ReferencePoolIdeal.Read Cert.AttnMath

/-- The gather reads the row its index names, held inside the 2065 prefix sums. -/
theorem gather_at (x : FVec Ideal S4x2065x256 .f32) (idx : IVec S2064x1 32) (b : Fin 4) (t : Fin 2064) (e : Fin 256) :
    Host.gather gather_S4x2065x256_S2064x1_S4x2064x256_02_1_n_n_1_1_41256 x idx (ix3 b t e)
      = x (ix3 b ⟨min (idx (ix2 t 0)).toInt.toNat 2064, by omega⟩ e) := by
  unfold Host.gather
  congr 1
  funext a
  refine Fin.ext ?_
  show GatherDims.start _ (ix3 b t e) idx a + GatherDims.batchCoord _ (ix3 b t e) a + GatherDims.offCoord _ (ix3 b t e) a = _
  rw [GatherDims.batchCoord_eq_zero _ _ _ List.not_mem_nil]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · unfold GatherDims.start
    rw [dif_neg (by decide)]
    unfold GatherDims.offCoord
    rw [dif_pos (by decide)]
    simp only [Nat.zero_add]
    rfl
  · unfold GatherDims.start
    rw [dif_pos (by decide)]
    unfold GatherDims.offCoord
    rw [dif_neg (by decide)]
    simp only [Nat.add_zero]
    refine congrArg₂ min (congrArg (fun j => (idx j).toInt.toNat) ?_) rfl
    funext b'; refine Fin.ext ?_
    match b' with
    | ⟨0, _⟩ => rfl
    | ⟨1, _⟩ => rfl
  · unfold GatherDims.start
    rw [dif_neg (by decide)]
    unfold GatherDims.offCoord
    rw [dif_pos (by decide)]
    simp only [Nat.zero_add]
    rfl

/-- A left fold of additions is a sum. -/
theorem foldl_sum {n : Nat} (g : Fin n → EReal) (l : List (Fin n)) (z : EReal) : l.foldl (fun r k => r + g k) z = z + (l.map g).sum := by
  induction l generalizing z with
  | nil => simp
  | cons a l ih => rw [List.foldl_cons, ih, List.map_cons, List.sum_cons, add_assoc]

/-- The prefix sum at a token: the sum of the tokens up to it. -/
theorem prefix_at (x : FVec Ideal S4x2064x1024 .f32) (b : Fin 4) (t : Fin 2064) (d : Fin 1024) (q : Nat → EReal)
    (hq : ∀ k : Fin 2064, x (ix3 b k d) = q k.val) :
    (Host.reduceWindowAdd (F := Ideal) (φ := .f32) ![1, 2064, 1] ![1, 1, 1] ![0, 2063, 0] ![0, 0, 0] x (val_main_call0_call0_v0 (F := Ideal)) reduceWindows_S4x2064x1024_S4x2064x1024_w1s1p0_0_w2064s1p2063_0_w1s1p0_0 h_S_ : FVec Ideal S4x2064x1024 .f32) (ix3 b t d)
      = ∑ k ∈ Finset.range (t.val + 1), q k := by
  have hv : val_main_call0_call0_v0 (F := Ideal) (Shape.Idx.first h_S_) = (0 : EReal) := by
    show Ideal.ofBits .f32 0#32 = 0
    simp
  unfold Host.reduceWindowAdd
  rw [hv]
  show Ideal.hostReduceWindowAdd _ _ _ _ _ x _ (ix3 b t d) = _
  unfold Ideal.hostReduceWindowAdd Host.reduceWindow
  refine (foldl_sum _ _ _).trans ?_
  rw [zero_add, ← List.ofFn_eq_map, List.sum_ofFn]
  have ht := t.isLt
  have hN : Shape.numel ⟨3, ![1, 2064, 1]⟩ = 2064 := by decide +kernel
  rw [← Equiv.sum_comp (finCongr hN.symm)]
  have key : ∀ n : Fin 2064, (⟨3, ![1, 2064, 1]⟩ : Shape).rowMajor.symm (finCongr hN.symm n) = (ix3 0 n 0 : (⟨3, ![1, 2064, 1]⟩ : Shape).Idx) := by
    intro n
    rw [Equiv.symm_apply_eq]
    refine Fin.ext ?_
    rw [Shape.rowMajor_val_three]
    show n.val = (0 * 2064 + n.val) * 1 + 0
    omega
  refine (Finset.sum_congr rfl (fun n _ => (?_ : _ = (fun n : Nat => if 2063 ≤ t.val + n then q (t.val + n - 2063) else 0) n.val))).trans ?_
  · have hn := n.isLt
    have e := key n
    dsimp only
    by_cases hle : 2063 ≤ t.val + n.val
    · rw [if_pos hle, dif_pos]
      · refine (congrArg x ?_).trans (hq ⟨t.val + n.val - 2063, by omega⟩)
        funext a
        match a with
        | ⟨0, _⟩ => exact Fin.ext (by
            show b.val * 1 + ((⟨3, ![1, 2064, 1]⟩ : Shape).rowMajor.symm (finCongr hN.symm n) 0).val - 0 = b.val
            rw [e]; show b.val * 1 + 0 - 0 = b.val; omega)
        | ⟨1, _⟩ => exact Fin.ext (by
            show t.val * 1 + ((⟨3, ![1, 2064, 1]⟩ : Shape).rowMajor.symm (finCongr hN.symm n) 1).val - 2063 = t.val + n.val - 2063
            rw [e]; show t.val * 1 + n.val - 2063 = _; omega)
        | ⟨2, _⟩ => exact Fin.ext (by
            show d.val * 1 + ((⟨3, ![1, 2064, 1]⟩ : Shape).rowMajor.symm (finCongr hN.symm n) 2).val - 0 = d.val
            rw [e]; show d.val * 1 + 0 - 0 = d.val; omega)
      · intro a
        match a with
        | ⟨0, _⟩ =>
            show 0 ≤ b.val * 1 + ((⟨3, ![1, 2064, 1]⟩ : Shape).rowMajor.symm (finCongr hN.symm n) 0).val ∧ b.val * 1 + ((⟨3, ![1, 2064, 1]⟩ : Shape).rowMajor.symm (finCongr hN.symm n) 0).val - 0 < 4
            rw [e]; show 0 ≤ b.val * 1 + 0 ∧ b.val * 1 + 0 - 0 < 4; omega
        | ⟨1, _⟩ =>
            show 2063 ≤ t.val * 1 + ((⟨3, ![1, 2064, 1]⟩ : Shape).rowMajor.symm (finCongr hN.symm n) 1).val ∧ t.val * 1 + ((⟨3, ![1, 2064, 1]⟩ : Shape).rowMajor.symm (finCongr hN.symm n) 1).val - 2063 < 2064
            rw [e]; show 2063 ≤ t.val * 1 + n.val ∧ t.val * 1 + n.val - 2063 < 2064; omega
        | ⟨2, _⟩ =>
            show 0 ≤ d.val * 1 + ((⟨3, ![1, 2064, 1]⟩ : Shape).rowMajor.symm (finCongr hN.symm n) 2).val ∧ d.val * 1 + ((⟨3, ![1, 2064, 1]⟩ : Shape).rowMajor.symm (finCongr hN.symm n) 2).val - 0 < 1024
            rw [e]; show 0 ≤ d.val * 1 + 0 ∧ d.val * 1 + 0 - 0 < 1024; omega
    · rw [if_neg hle, dif_neg]
      intro h
      have h1 := (h 1).1
      change 2063 ≤ t.val * 1 + ((⟨3, ![1, 2064, 1]⟩ : Shape).rowMajor.symm (finCongr hN.symm n) 1).val at h1
      rw [e] at h1
      change 2063 ≤ t.val * 1 + n.val at h1
      omega
  · rw [Fin.sum_univ_eq_sum_range (fun n : Nat => if 2063 ≤ t.val + n then q (t.val + n - 2063) else 0) 2064,
      show Finset.range 2064 = Finset.range ((2063 - t.val) + (t.val + 1)) from congrArg Finset.range (by omega), Finset.sum_range_add, Finset.sum_eq_zero, zero_add]
    · refine Finset.sum_congr rfl fun k hk => ?_
      rw [if_pos (by omega), show t.val + (2063 - t.val + k) - 2063 = k by omega]
    · intro k hk
      rw [Finset.mem_range] at hk
      exact if_neg (by omega)

/-- The gather at a named index. -/
theorem gather_val (x : FVec Ideal S4x2065x256 .f32) (idx : IVec S2064x1 32) (b : Fin 4) (t : Fin 2064) (e : Fin 256) (v : BitVec 32) (hv : idx (ix2 t 0) = v)
    (h : min v.toInt.toNat 2064 < 2065) :
    Host.gather gather_S4x2065x256_S2064x1_S4x2064x256_02_1_n_n_1_1_41256 x idx (ix3 b t e) = x (ix3 b ⟨min v.toInt.toNat 2064, h⟩ e) := by
  subst hv
  exact gather_at x idx b t e

/-- The column of tokens of a batch element, nothing past the last. -/
def qc (X0 : FVec Ideal S8704x8704 .bf16) (b : Fin 4) (c : Fin 1024) (n : Nat) : EReal :=
  if h : n < 2064 then X0 (ix2 ⟨b.val * 2176 + n, by omega⟩ ⟨4608 + c.val, by omega⟩) else 0

/-- A column's rows, `back` rows later. -/
def later (back : Nat) (q : Nat → EReal) (n : Nat) : EReal := if back ≤ n then q (n - back) else 0

/-- The sums of the later column are the sums of the column. -/
theorem sum_later (back : Nat) (q : Nat → EReal) (n : Nat) : ∑ m ∈ Finset.range n, later back q m = ∑ m ∈ Finset.range (n - back), q m := by
  induction n with
  | zero => simp
  | succ n ih =>
    rw [Finset.sum_range_succ, ih]
    unfold later
    by_cases h : back ≤ n
    · rw [if_pos h, show n + 1 - back = (n - back) + 1 by omega, Finset.sum_range_succ]
    · rw [if_neg h, add_zero, show n + 1 - back = 0 by omega, show n - back = 0 by omega]

/-- Past the last token the sums stay. -/
theorem sum_min (q : Nat → EReal) (h0 : ∀ n, 2064 ≤ n → q n = 0) (N : Nat) : ∑ m ∈ Finset.range (min 2064 N), q m = ∑ m ∈ Finset.range N, q m := by
  refine Finset.sum_subset (fun n hn => ?_) (fun n hn hn' => ?_)
  · rw [Finset.mem_range] at *; omega
  · rw [Finset.mem_range] at *; exact h0 n (by omega)

/-- The difference of two sums of real numbers. -/
theorem add_sub_real {x y : EReal} (hx : IsR x) (hy : IsR y) : x + y - x = y := by
  obtain ⟨a, rfl⟩ := hx
  obtain ⟨b, rfl⟩ := hy
  rw [← EReal.coe_add, ← EReal.coe_sub]
  congr 1
  ring

/-- The difference of two prefix sums is the window's sum. -/
theorem window_sum (q : Nat → EReal) (hq : ∀ n, IsR (q n)) (h0 : ∀ n, 2064 ≤ n → q n = 0) (back fwd t : Nat) :
    (∑ m ∈ Finset.range (min 2064 (t + fwd + 1)), q m) - (∑ m ∈ Finset.range (t - back), q m)
      = ∑ j ∈ Finset.range (back + fwd + 1), later back q (t + j) := by
  have hl : ∀ n, IsR (later back q n) := fun n => by
    unfold later
    split
    · exact hq _
    · exact IsR.zero
  rw [sum_min q h0, show t + fwd + 1 = t + (back + fwd + 1) - back by omega, ← sum_later back q, ← sum_later back q, Finset.sum_range_add]
  exact add_sub_real (IsR.sum _ fun n => hl n) (IsR.sum _ fun n => hl _)

/-- A window's last row plus one. -/
def hiW (t fwd : BitVec 32) : BitVec 32 := IntOp.minsi 2064#32 (IntOp.maxsi 0#32 (IntOp.addi (IntOp.addi t fwd) 1#32))
/-- A window's first row. -/
def loW (t back : BitVec 32) : BitVec 32 := IntOp.minsi 2064#32 (IntOp.maxsi 0#32 (IntOp.subi t back))
/-- An index, counted from the end where negative. -/
def fixW (v : BitVec 32) : BitVec 32 := Scalar.select (IntOp.cmpi .slt v 0#32) (IntOp.addi v 2065#32) v

/-- How far each group's window reaches back. -/
def back : Fin 4 → Nat := ![0, 1, 3, 7]
/-- How far it reaches on. -/
def fwd : Fin 4 → Nat := ![1, 2, 4, 8]

/-- The last row's number. -/
theorem hi_val : ∀ (g : Fin 4) (t : Fin 2064), min (fixW (hiW (BitVec.ofNat 32 t.val) (BitVec.ofNat 32 (fwd g)))).toInt.toNat 2064 = min 2064 (t.val + fwd g + 1) := by
  decide +kernel
/-- The first row's number. -/
theorem lo_val : ∀ (g : Fin 4) (t : Fin 2064), min (fixW (loW (BitVec.ofNat 32 t.val) (BitVec.ofNat 32 (back g)))).toInt.toNat 2064 = t.val - back g := by
  decide +kernel

/-- The prefix sums, the row of zero first. -/
theorem v5_at (X0 : FVec Ideal S8704x8704 .bf16) (b : Fin 4) (t : Fin 2065) (c : Fin 1024) :
    (val_main_v5 (F := Ideal) X0 : FVec Ideal S4x2065x1024 .f32) (ix3 b t c) = ∑ k ∈ Finset.range t.val, qc X0 b c k := by
  have ht := t.isLt
  pointwise [val_main_v5, val_main_v3, val_main_cst]
  by_cases h : t.val < 1
  · refine (dif_pos h).trans ?_
    rw [show t.val = 0 by omega]
    rfl
  · refine (dif_neg h).trans ?_
    refine (prefix_at (val_main_v2 (F := Ideal) X0) b ⟨t.val - 1, by omega⟩ c (qc X0 b c) (fun k => ?_)).trans ?_
    · unfold qc
      rw [dif_pos k.isLt]
      pointwise [val_main_v2, val_main_v1, val_main_v0]
    · show ∑ k ∈ Finset.range (t.val - 1 + 1), qc X0 b c k = _
      rw [show t.val - 1 + 1 = t.val by omega]

/-- What a group's window comes to at a token. -/
def winv (X0 : FVec Ideal S8704x8704 .bf16) (b : Fin 4) (g : Fin 4) (t : Nat) (k : Fin 256) : EReal :=
  Ideal.div (∑ j ∈ Finset.range (back g + fwd g + 1), later (back g) (qc X0 b ⟨256 * g.val + k.val, by omega⟩) (t + j))
    ((((IntOp.subi (hiW (BitVec.ofNat 32 t) (BitVec.ofNat 32 (fwd g))) (loW (BitVec.ofNat 32 t) (BitVec.ofNat 32 (back g)))).toInt : ℝ)) : EReal)
    - qc X0 b ⟨256 * g.val + k.val, by omega⟩ t

/-- Equal indices read equal prefix sums. -/
theorem sum_cast (q : Nat → EReal) {n n' : Nat} (h : n = n') : ∑ k ∈ Finset.range n, q k = ∑ k ∈ Finset.range n', q k := by rw [h]

variable (X0 : FVec Ideal S8704x8704 .bf16) (hX : ∀ b c n, IsR (qc X0 b c n))

/-- Nothing past the last token. -/
theorem qc_zero (b : Fin 4) (c : Fin 1024) (n : Nat) (h : 2064 ≤ n) : qc X0 b c n = 0 := dif_neg (by omega)

/-- A group's number from the prefix sums. -/
theorem grp_eq (b : Fin 4) (g : Fin 4) (t : Fin 2064) (k : Fin 256) (G : Fin 2065 → EReal) (hG : ∀ n, G n = ∑ m ∈ Finset.range n.val, qc X0 b ⟨256 * g.val + k.val, by omega⟩ m)
    (h1 : min (fixW (hiW (BitVec.ofNat 32 t.val) (BitVec.ofNat 32 (fwd g)))).toInt.toNat 2064 < 2065)
    (h2 : min (fixW (loW (BitVec.ofNat 32 t.val) (BitVec.ofNat 32 (back g)))).toInt.toNat 2064 < 2065) (hX : ∀ b c n, IsR (qc X0 b c n)) :
    Ideal.div (G ⟨_, h1⟩ - G ⟨_, h2⟩)
    ((((IntOp.subi (hiW (BitVec.ofNat 32 t.val) (BitVec.ofNat 32 (fwd g))) (loW (BitVec.ofNat 32 t.val) (BitVec.ofNat 32 (back g)))).toInt : ℝ)) : EReal)
    - qc X0 b ⟨256 * g.val + k.val, by omega⟩ t.val = winv X0 b g t.val k := by
  unfold winv
  rw [hG, hG, ← window_sum _ (hX b _) (qc_zero X0 b _), sum_cast _ (hi_val g t), sum_cast _ (lo_val g t)]

/-- Group 0's last rows. -/
theorem hi_at_0 (t : Fin 2064) : (val_main_v24 (F := Ideal) : IVec S2064x1 32) (ix2 t 0) = fixW (hiW (BitVec.ofNat 32 t.val) (BitVec.ofNat 32 (fwd 0))) := by
  pointwise [val_main_c, val_main_v7, val_main_v8, val_main_c_0, val_main_c_1, val_main_call1_v0, val_main_call1_v1, val_main_call1_v2, val_main_call1_v3, val_main_call1_v4, val_main_v9, val_main_c_2, val_main_v10, val_main_v11, val_main_c_3, val_main_v12, val_main_v13, val_main_c_4, val_main_c_5, val_main_call2_v0, val_main_call2_v1, val_main_call2_v2, val_main_call2_v3, val_main_call2_v4, val_main_v14, val_main_v16, val_main_v17, val_main_v18, val_main_c_6, val_main_v19, val_main_v20, val_main_c_7, val_main_v21, val_main_v22, val_main_v23, val_main_v24, val_main_c_8, val_main_v26, val_main_v27, val_main_c_9, val_main_v28, val_main_v29, val_main_v30, val_main_v31, val_main_v33, val_main_v34, val_main_v35, val_main_v36, val_main_v37, val_main_v6]
  rfl
/-- Group 0's first rows. -/
theorem lo_at_0 (t : Fin 2064) : (val_main_v31 (F := Ideal) : IVec S2064x1 32) (ix2 t 0) = fixW (loW (BitVec.ofNat 32 t.val) (BitVec.ofNat 32 (back 0))) := by
  pointwise [val_main_c, val_main_v7, val_main_v8, val_main_c_0, val_main_c_1, val_main_call1_v0, val_main_call1_v1, val_main_call1_v2, val_main_call1_v3, val_main_call1_v4, val_main_v9, val_main_c_2, val_main_v10, val_main_v11, val_main_c_3, val_main_v12, val_main_v13, val_main_c_4, val_main_c_5, val_main_call2_v0, val_main_call2_v1, val_main_call2_v2, val_main_call2_v3, val_main_call2_v4, val_main_v14, val_main_v16, val_main_v17, val_main_v18, val_main_c_6, val_main_v19, val_main_v20, val_main_c_7, val_main_v21, val_main_v22, val_main_v23, val_main_v24, val_main_c_8, val_main_v26, val_main_v27, val_main_c_9, val_main_v28, val_main_v29, val_main_v30, val_main_v31, val_main_v33, val_main_v34, val_main_v35, val_main_v36, val_main_v37, val_main_v6]
  rfl
/-- Group 0's prefix sums. -/
theorem pre_at_0 (b : Fin 4) (k : Fin 256) (n : Fin 2065) : (val_main_v15 (F := Ideal) X0 : FVec Ideal S4x2065x256 .f32) (ix3 b n k)
    = ∑ m ∈ Finset.range n.val, qc X0 b ⟨256 * (0 : Fin 4).val + k.val, by omega⟩ m := by
  rw [← v5_at]
  pointwise [val_main_v15]
/-- Group 0's numbers. -/
theorem grp_at_0 (hX : ∀ b c n, IsR (qc X0 b c n)) (b : Fin 4) (t : Fin 2064) (k : Fin 256) :
    (val_main_v37 (F := Ideal) X0 : FVec Ideal S4x2064x256 .f32) (ix3 b t k) = winv X0 b 0 t.val k := by
  refine Eq.trans ?_ (grp_eq X0 b 0 t k (fun n => (val_main_v15 (F := Ideal) X0 : FVec Ideal S4x2065x256 .f32) (ix3 b n k)) (pre_at_0 X0 b k) (by omega) (by omega) hX)
  unfold qc
  rw [dif_pos t.isLt]
  pointwise [val_main_c, val_main_v7, val_main_v8, val_main_c_0, val_main_c_1, val_main_call1_v0, val_main_call1_v1, val_main_call1_v2, val_main_call1_v3, val_main_call1_v4, val_main_v9, val_main_c_2, val_main_v10, val_main_v11, val_main_c_3, val_main_v12, val_main_v13, val_main_c_4, val_main_c_5, val_main_call2_v0, val_main_call2_v1, val_main_call2_v2, val_main_call2_v3, val_main_call2_v4, val_main_v14, val_main_v16, val_main_v17, val_main_v18, val_main_c_6, val_main_v19, val_main_v20, val_main_c_7, val_main_v21, val_main_v22, val_main_v23, val_main_c_8, val_main_v26, val_main_v27, val_main_c_9, val_main_v28, val_main_v29, val_main_v30, val_main_v33, val_main_v34, val_main_v35, val_main_v36, val_main_v37, val_main_v6, val_main_v2, val_main_v1, val_main_v0]
  exact congrArg₂ (fun a b : EReal => a - b) (congrArg₂ Ideal.div (congrArg₂ (fun a b : EReal => a - b)
    (gather_val (val_main_v15 (F := Ideal) X0) (val_main_v24 (F := Ideal)) b t k _ (hi_at_0 t) (by omega))
    (gather_val (val_main_v15 (F := Ideal) X0) (val_main_v31 (F := Ideal)) b t k _ (lo_at_0 t) (by omega))) rfl) rfl

/-- Group 1's last rows. -/
theorem hi_at_1 (t : Fin 2064) : (val_main_v55 (F := Ideal) : IVec S2064x1 32) (ix2 t 0) = fixW (hiW (BitVec.ofNat 32 t.val) (BitVec.ofNat 32 (fwd 1))) := by
  pointwise [val_main_c_10, val_main_v38, val_main_v39, val_main_c_11, val_main_c_12, val_main_call3_v0, val_main_call3_v1, val_main_call3_v2, val_main_call3_v3, val_main_call3_v4, val_main_v40, val_main_c_13, val_main_v41, val_main_v42, val_main_c_14, val_main_v43, val_main_v44, val_main_c_15, val_main_c_16, val_main_call4_v0, val_main_call4_v1, val_main_call4_v2, val_main_call4_v3, val_main_call4_v4, val_main_v45, val_main_v47, val_main_v48, val_main_v49, val_main_c_17, val_main_v50, val_main_v51, val_main_c_18, val_main_v52, val_main_v53, val_main_v54, val_main_v55, val_main_c_19, val_main_v57, val_main_v58, val_main_c_20, val_main_v59, val_main_v60, val_main_v61, val_main_v62, val_main_v64, val_main_v65, val_main_v66, val_main_v67, val_main_v68, val_main_v6]
  rfl
/-- Group 1's first rows. -/
theorem lo_at_1 (t : Fin 2064) : (val_main_v62 (F := Ideal) : IVec S2064x1 32) (ix2 t 0) = fixW (loW (BitVec.ofNat 32 t.val) (BitVec.ofNat 32 (back 1))) := by
  pointwise [val_main_c_10, val_main_v38, val_main_v39, val_main_c_11, val_main_c_12, val_main_call3_v0, val_main_call3_v1, val_main_call3_v2, val_main_call3_v3, val_main_call3_v4, val_main_v40, val_main_c_13, val_main_v41, val_main_v42, val_main_c_14, val_main_v43, val_main_v44, val_main_c_15, val_main_c_16, val_main_call4_v0, val_main_call4_v1, val_main_call4_v2, val_main_call4_v3, val_main_call4_v4, val_main_v45, val_main_v47, val_main_v48, val_main_v49, val_main_c_17, val_main_v50, val_main_v51, val_main_c_18, val_main_v52, val_main_v53, val_main_v54, val_main_v55, val_main_c_19, val_main_v57, val_main_v58, val_main_c_20, val_main_v59, val_main_v60, val_main_v61, val_main_v62, val_main_v64, val_main_v65, val_main_v66, val_main_v67, val_main_v68, val_main_v6]
  rfl
/-- Group 1's prefix sums. -/
theorem pre_at_1 (b : Fin 4) (k : Fin 256) (n : Fin 2065) : (val_main_v46 (F := Ideal) X0 : FVec Ideal S4x2065x256 .f32) (ix3 b n k)
    = ∑ m ∈ Finset.range n.val, qc X0 b ⟨256 * (1 : Fin 4).val + k.val, by omega⟩ m := by
  rw [← v5_at]
  pointwise [val_main_v46]
/-- Group 1's numbers. -/
theorem grp_at_1 (hX : ∀ b c n, IsR (qc X0 b c n)) (b : Fin 4) (t : Fin 2064) (k : Fin 256) :
    (val_main_v68 (F := Ideal) X0 : FVec Ideal S4x2064x256 .f32) (ix3 b t k) = winv X0 b 1 t.val k := by
  refine Eq.trans ?_ (grp_eq X0 b 1 t k (fun n => (val_main_v46 (F := Ideal) X0 : FVec Ideal S4x2065x256 .f32) (ix3 b n k)) (pre_at_1 X0 b k) (by omega) (by omega) hX)
  unfold qc
  rw [dif_pos t.isLt]
  pointwise [val_main_c_10, val_main_v38, val_main_v39, val_main_c_11, val_main_c_12, val_main_call3_v0, val_main_call3_v1, val_main_call3_v2, val_main_call3_v3, val_main_call3_v4, val_main_v40, val_main_c_13, val_main_v41, val_main_v42, val_main_c_14, val_main_v43, val_main_v44, val_main_c_15, val_main_c_16, val_main_call4_v0, val_main_call4_v1, val_main_call4_v2, val_main_call4_v3, val_main_call4_v4, val_main_v45, val_main_v47, val_main_v48, val_main_v49, val_main_c_17, val_main_v50, val_main_v51, val_main_c_18, val_main_v52, val_main_v53, val_main_v54, val_main_c_19, val_main_v57, val_main_v58, val_main_c_20, val_main_v59, val_main_v60, val_main_v61, val_main_v64, val_main_v65, val_main_v66, val_main_v67, val_main_v68, val_main_v6, val_main_v2, val_main_v1, val_main_v0]
  exact congrArg₂ (fun a b : EReal => a - b) (congrArg₂ Ideal.div (congrArg₂ (fun a b : EReal => a - b)
    (gather_val (val_main_v46 (F := Ideal) X0) (val_main_v55 (F := Ideal)) b t k _ (hi_at_1 t) (by omega))
    (gather_val (val_main_v46 (F := Ideal) X0) (val_main_v62 (F := Ideal)) b t k _ (lo_at_1 t) (by omega))) rfl) rfl

/-- Group 2's last rows. -/
theorem hi_at_2 (t : Fin 2064) : (val_main_v86 (F := Ideal) : IVec S2064x1 32) (ix2 t 0) = fixW (hiW (BitVec.ofNat 32 t.val) (BitVec.ofNat 32 (fwd 2))) := by
  pointwise [val_main_c_21, val_main_v69, val_main_v70, val_main_c_22, val_main_c_23, val_main_call5_v0, val_main_call5_v1, val_main_call5_v2, val_main_call5_v3, val_main_call5_v4, val_main_v71, val_main_c_24, val_main_v72, val_main_v73, val_main_c_25, val_main_v74, val_main_v75, val_main_c_26, val_main_c_27, val_main_call6_v0, val_main_call6_v1, val_main_call6_v2, val_main_call6_v3, val_main_call6_v4, val_main_v76, val_main_v78, val_main_v79, val_main_v80, val_main_c_28, val_main_v81, val_main_v82, val_main_c_29, val_main_v83, val_main_v84, val_main_v85, val_main_v86, val_main_c_30, val_main_v88, val_main_v89, val_main_c_31, val_main_v90, val_main_v91, val_main_v92, val_main_v93, val_main_v95, val_main_v96, val_main_v97, val_main_v98, val_main_v99, val_main_v6]
  rfl
/-- Group 2's first rows. -/
theorem lo_at_2 (t : Fin 2064) : (val_main_v93 (F := Ideal) : IVec S2064x1 32) (ix2 t 0) = fixW (loW (BitVec.ofNat 32 t.val) (BitVec.ofNat 32 (back 2))) := by
  pointwise [val_main_c_21, val_main_v69, val_main_v70, val_main_c_22, val_main_c_23, val_main_call5_v0, val_main_call5_v1, val_main_call5_v2, val_main_call5_v3, val_main_call5_v4, val_main_v71, val_main_c_24, val_main_v72, val_main_v73, val_main_c_25, val_main_v74, val_main_v75, val_main_c_26, val_main_c_27, val_main_call6_v0, val_main_call6_v1, val_main_call6_v2, val_main_call6_v3, val_main_call6_v4, val_main_v76, val_main_v78, val_main_v79, val_main_v80, val_main_c_28, val_main_v81, val_main_v82, val_main_c_29, val_main_v83, val_main_v84, val_main_v85, val_main_v86, val_main_c_30, val_main_v88, val_main_v89, val_main_c_31, val_main_v90, val_main_v91, val_main_v92, val_main_v93, val_main_v95, val_main_v96, val_main_v97, val_main_v98, val_main_v99, val_main_v6]
  rfl
/-- Group 2's prefix sums. -/
theorem pre_at_2 (b : Fin 4) (k : Fin 256) (n : Fin 2065) : (val_main_v77 (F := Ideal) X0 : FVec Ideal S4x2065x256 .f32) (ix3 b n k)
    = ∑ m ∈ Finset.range n.val, qc X0 b ⟨256 * (2 : Fin 4).val + k.val, by omega⟩ m := by
  rw [← v5_at]
  pointwise [val_main_v77]
/-- Group 2's numbers. -/
theorem grp_at_2 (hX : ∀ b c n, IsR (qc X0 b c n)) (b : Fin 4) (t : Fin 2064) (k : Fin 256) :
    (val_main_v99 (F := Ideal) X0 : FVec Ideal S4x2064x256 .f32) (ix3 b t k) = winv X0 b 2 t.val k := by
  refine Eq.trans ?_ (grp_eq X0 b 2 t k (fun n => (val_main_v77 (F := Ideal) X0 : FVec Ideal S4x2065x256 .f32) (ix3 b n k)) (pre_at_2 X0 b k) (by omega) (by omega) hX)
  unfold qc
  rw [dif_pos t.isLt]
  pointwise [val_main_c_21, val_main_v69, val_main_v70, val_main_c_22, val_main_c_23, val_main_call5_v0, val_main_call5_v1, val_main_call5_v2, val_main_call5_v3, val_main_call5_v4, val_main_v71, val_main_c_24, val_main_v72, val_main_v73, val_main_c_25, val_main_v74, val_main_v75, val_main_c_26, val_main_c_27, val_main_call6_v0, val_main_call6_v1, val_main_call6_v2, val_main_call6_v3, val_main_call6_v4, val_main_v76, val_main_v78, val_main_v79, val_main_v80, val_main_c_28, val_main_v81, val_main_v82, val_main_c_29, val_main_v83, val_main_v84, val_main_v85, val_main_c_30, val_main_v88, val_main_v89, val_main_c_31, val_main_v90, val_main_v91, val_main_v92, val_main_v95, val_main_v96, val_main_v97, val_main_v98, val_main_v99, val_main_v6, val_main_v2, val_main_v1, val_main_v0]
  exact congrArg₂ (fun a b : EReal => a - b) (congrArg₂ Ideal.div (congrArg₂ (fun a b : EReal => a - b)
    (gather_val (val_main_v77 (F := Ideal) X0) (val_main_v86 (F := Ideal)) b t k _ (hi_at_2 t) (by omega))
    (gather_val (val_main_v77 (F := Ideal) X0) (val_main_v93 (F := Ideal)) b t k _ (lo_at_2 t) (by omega))) rfl) rfl

/-- Group 3's last rows. -/
theorem hi_at_3 (t : Fin 2064) : (val_main_v117 (F := Ideal) : IVec S2064x1 32) (ix2 t 0) = fixW (hiW (BitVec.ofNat 32 t.val) (BitVec.ofNat 32 (fwd 3))) := by
  pointwise [val_main_c_32, val_main_v100, val_main_v101, val_main_c_33, val_main_c_34, val_main_call7_v0, val_main_call7_v1, val_main_call7_v2, val_main_call7_v3, val_main_call7_v4, val_main_v102, val_main_c_35, val_main_v103, val_main_v104, val_main_c_36, val_main_v105, val_main_v106, val_main_c_37, val_main_c_38, val_main_call8_v0, val_main_call8_v1, val_main_call8_v2, val_main_call8_v3, val_main_call8_v4, val_main_v107, val_main_v109, val_main_v110, val_main_v111, val_main_c_39, val_main_v112, val_main_v113, val_main_c_40, val_main_v114, val_main_v115, val_main_v116, val_main_v117, val_main_c_41, val_main_v119, val_main_v120, val_main_c_42, val_main_v121, val_main_v122, val_main_v123, val_main_v124, val_main_v126, val_main_v127, val_main_v128, val_main_v129, val_main_v130, val_main_v6]
  rfl
/-- Group 3's first rows. -/
theorem lo_at_3 (t : Fin 2064) : (val_main_v124 (F := Ideal) : IVec S2064x1 32) (ix2 t 0) = fixW (loW (BitVec.ofNat 32 t.val) (BitVec.ofNat 32 (back 3))) := by
  pointwise [val_main_c_32, val_main_v100, val_main_v101, val_main_c_33, val_main_c_34, val_main_call7_v0, val_main_call7_v1, val_main_call7_v2, val_main_call7_v3, val_main_call7_v4, val_main_v102, val_main_c_35, val_main_v103, val_main_v104, val_main_c_36, val_main_v105, val_main_v106, val_main_c_37, val_main_c_38, val_main_call8_v0, val_main_call8_v1, val_main_call8_v2, val_main_call8_v3, val_main_call8_v4, val_main_v107, val_main_v109, val_main_v110, val_main_v111, val_main_c_39, val_main_v112, val_main_v113, val_main_c_40, val_main_v114, val_main_v115, val_main_v116, val_main_v117, val_main_c_41, val_main_v119, val_main_v120, val_main_c_42, val_main_v121, val_main_v122, val_main_v123, val_main_v124, val_main_v126, val_main_v127, val_main_v128, val_main_v129, val_main_v130, val_main_v6]
  rfl
/-- Group 3's prefix sums. -/
theorem pre_at_3 (b : Fin 4) (k : Fin 256) (n : Fin 2065) : (val_main_v108 (F := Ideal) X0 : FVec Ideal S4x2065x256 .f32) (ix3 b n k)
    = ∑ m ∈ Finset.range n.val, qc X0 b ⟨256 * (3 : Fin 4).val + k.val, by omega⟩ m := by
  rw [← v5_at]
  pointwise [val_main_v108]
/-- Group 3's numbers. -/
theorem grp_at_3 (hX : ∀ b c n, IsR (qc X0 b c n)) (b : Fin 4) (t : Fin 2064) (k : Fin 256) :
    (val_main_v130 (F := Ideal) X0 : FVec Ideal S4x2064x256 .f32) (ix3 b t k) = winv X0 b 3 t.val k := by
  refine Eq.trans ?_ (grp_eq X0 b 3 t k (fun n => (val_main_v108 (F := Ideal) X0 : FVec Ideal S4x2065x256 .f32) (ix3 b n k)) (pre_at_3 X0 b k) (by omega) (by omega) hX)
  unfold qc
  rw [dif_pos t.isLt]
  pointwise [val_main_c_32, val_main_v100, val_main_v101, val_main_c_33, val_main_c_34, val_main_call7_v0, val_main_call7_v1, val_main_call7_v2, val_main_call7_v3, val_main_call7_v4, val_main_v102, val_main_c_35, val_main_v103, val_main_v104, val_main_c_36, val_main_v105, val_main_v106, val_main_c_37, val_main_c_38, val_main_call8_v0, val_main_call8_v1, val_main_call8_v2, val_main_call8_v3, val_main_call8_v4, val_main_v107, val_main_v109, val_main_v110, val_main_v111, val_main_c_39, val_main_v112, val_main_v113, val_main_c_40, val_main_v114, val_main_v115, val_main_v116, val_main_c_41, val_main_v119, val_main_v120, val_main_c_42, val_main_v121, val_main_v122, val_main_v123, val_main_v126, val_main_v127, val_main_v128, val_main_v129, val_main_v130, val_main_v6, val_main_v2, val_main_v1, val_main_v0]
  exact congrArg₂ (fun a b : EReal => a - b) (congrArg₂ Ideal.div (congrArg₂ (fun a b : EReal => a - b)
    (gather_val (val_main_v108 (F := Ideal) X0) (val_main_v117 (F := Ideal)) b t k _ (hi_at_3 t) (by omega))
    (gather_val (val_main_v108 (F := Ideal) X0) (val_main_v124 (F := Ideal)) b t k _ (lo_at_3 t) (by omega))) rfl) rfl

/-- The four groups' numbers, one after the other. -/
theorem cat_at (hX : ∀ b c n, IsR (qc X0 b c n)) (b : Fin 4) (t : Fin 2064) (g : Fin 4) (k : Fin 256) :
    (val_main_v135 (F := Ideal) X0 : FVec Ideal S4x2064x4x256 .f32) (ix4 b t g k) = winv X0 b g t.val k := by
  have hg : g = 0 ∨ g = 1 ∨ g = 2 ∨ g = 3 := by revert g; decide
  rcases hg with rfl | rfl | rfl | rfl
  · rw [← grp_at_0 X0 hX]
    pointwise [val_main_v135, val_main_v131, val_main_v132, val_main_v133, val_main_v134]
  · rw [← grp_at_1 X0 hX]
    pointwise [val_main_v135, val_main_v131, val_main_v132, val_main_v133, val_main_v134]
  · rw [← grp_at_2 X0 hX]
    pointwise [val_main_v135, val_main_v131, val_main_v132, val_main_v133, val_main_v134]
  · rw [← grp_at_3 X0 hX]
    pointwise [val_main_v135, val_main_v131, val_main_v132, val_main_v133, val_main_v134]

/-- The reference's term at a token's row. -/
theorem ref_at (hX : ∀ b c n, IsR (qc X0 b c n)) (X1 : FVec Ideal S4x256x256 .f32) (X2 : FVec Ideal S1024 .f32) (r : Fin 8704) (d : Fin 1024) (h : r.val % 2176 < 2064) :
    (val_main_v144 (F := Ideal) X0 X1 X2 : FVec Ideal S8704x1024 .bf16) (ix2 r d)
      = (∑ k : Fin 256, winv X0 ⟨r.val / 2176, by omega⟩ ⟨d.val / 256, by omega⟩ (r.val % 2176) k * X1 (ix3 ⟨d.val / 256, by omega⟩ k ⟨d.val % 256, by omega⟩)) * X2 (ix1 d) := by
  pointwise [val_main_v144, val_main_v143, val_main_v142, val_main_v141, val_main_v140, val_main_v139, val_main_v138, val_main_v137, val_main_v136]
  refine (dif_pos (show r.val / 2176 < 4 ∧ r.val % 2176 < 2064 from ⟨by omega, h⟩)).trans ?_
  refine congrArg (fun s : EReal => s * X2 (ix1 d)) (Finset.sum_congr rfl fun k _ => ?_)
  refine (congrArg (fun y : EReal => X1 (ix3 ⟨d.val / 256, by omega⟩ k ⟨d.val % 256, by omega⟩) * y) (cat_at X0 hX ⟨r.val / 2176, by omega⟩ ⟨r.val % 2176, h⟩ ⟨d.val / 256, by omega⟩ k)).trans (mul_comm _ _)

end Cert.ReferencePoolIdeal.Pool

end
-- ==== Proof.KerPool.lean ====
/- Mixer C's pooling: the kernel's sums of rolled rows. -/
module

public import proofs.«01_k».proof.Defs
public import proofs.«01_k».proof.Proof.Gen.KernelPoolIdeal.Value
public import proofs.«01_k».proof.Proof.RefPool
public import Idealize.ShloMosaic.Lib.Pipeline.ValueKit
public import Idealize.ShloMosaic.Lib.Pointwise
public import Idealize.ShloMosaic.Lib.KernelVsHost
public import Idealize.ShloMosaic.Lib.Pipeline.ReadBack

@[expose] public section

set_option maxRecDepth 16384

noncomputable section

open Idealize.ShloMosaic Idealize.ShloMosaic.TcCoe Idealize.SL.Sem

namespace Cert.KernelPoolIdeal.Pool

open Cert.KernelPoolIdeal Cert.KernelPoolIdeal.Gen Cert.AttnMath

/-- A row number read round the end of the 2176 rows. -/
def rw76 (n : Nat) : Fin 2176 := ⟨n % 2176, Nat.mod_lt _ (by decide)⟩

/-- Rolling the rows by `s` reads the row `2176 - s` further on. -/
theorem roll_at (s : BitVec 32) (k : Nat) (hk : s.toNat + k = 2176) (hk0 : 0 < s.toNat) (hk1 : s.toNat < 2176) (x : FVec Ideal S2176x256 .f32) (n : Nat) (e : Fin 256) :
    dynamicRotate 0 s none x rotates_S2176x256_d0 (ix2 (rw76 n) e) = x (ix2 (rw76 (n + k)) e) := by
  refine dynamicRotate_apply _ _ _ _ _ _ (fun b => ?_)
  match b with
  | ⟨0, _⟩ =>
    show (n + k) % 2176 = ((n % 2176) + 2176 - s.toNat % 2176) % 2176
    omega
  | ⟨1, _⟩ => rfl

/-- What a window's mean less the row itself comes to, times the weights and the scale. -/
def outv (s : Fin 256 → EReal) (cnt : BitVec 32) (p : Fin 256 → EReal) (w : Fin 256 → EReal) (sc : EReal) : EReal :=
  (∑ k, (Ideal.div (s k) (((cnt.toInt : ℝ)) : EReal) - p k) * w k) * sc

/-- The kernel's count of a window's rows. -/
def kcnt (t back fwd : BitVec 32) : BitVec 32 :=
  IntOp.maxsi (IntOp.subi (IntOp.minsi 2064#32 (IntOp.maxsi 0#32 (IntOp.addi (IntOp.addi t fwd) 1#32))) (IntOp.minsi 2064#32 (IntOp.maxsi 0#32 (IntOp.subi t back)))) 1#32

/-- The rows summed, of a window of two. -/
def sum2 (f : Nat → EReal) (n : Nat) : EReal := f n + f (n + 1)
/-- Of four. -/
def sum4 (f : Nat → EReal) (n : Nat) : EReal := sum2 f n + sum2 f (n + 2)
/-- Of eight. -/
def sum8 (f : Nat → EReal) (n : Nat) : EReal := sum4 f n + sum4 f (n + 4)
/-- Of sixteen. -/
def sum16 (f : Nat → EReal) (n : Nat) : EReal := sum8 f n + sum8 f (n + 8)

/-- The columns of a block, as functions of the row's number. -/
abbrev col (x : FVec Ideal S2176x256 .bf16) (e : Fin 256) (n : Nat) : EReal := x (ix2 (rw76 n) e)

variable (a0 a1 a2 a3 : FVec Ideal S2176x256 .bf16) (a4 : FVec Ideal S4x256x256 .f32) (a5 : FVec Ideal S1x1024 .f32)

/-- A row's number written otherwise. -/
theorem row_ix (x : FVec Ideal S2176x256 .bf16) (k : Fin 256) (n : Nat) (h : n < 2176) (m : Nat) (e : n = m % 2176) :
    x (ix2 ⟨n, h⟩ k) = x (ix2 (rw76 m) k) := congrArg (fun i => x (ix2 i k)) (Fin.ext e)

/-- The first piece of a row. -/
theorem pay2_apply (x : FVec Ideal S2176x256 .bf16) (g : FVec Ideal S1x256x256 .f32) (sc : FVec Ideal S1x256 .f32) (r : Nat) (d : Fin 256) :
    k0_pay2 (F := Ideal) x g sc (ix2 (rw76 r) d)
      = outv (fun k => sum2 (col x k) (r + 0)) (kcnt (BitVec.ofNat 32 (r % 2176)) 0#32 1#32) (fun k => col x k r) (fun k => g (ix3 0 k d)) (sc (ix2 0 d)) := by
  pointwise [k0_pay6, k0_pay2]
  have hr : (rw76 r).val = r % 2176 := rfl
  have hr' : r % 2176 < 2176 := Nat.mod_lt _ (by decide)
  unfold outv
  refine congrArg (· * sc (ix2 0 d)) (Finset.sum_congr rfl fun k _ => ?_)
  refine congrArg₂ (· * ·) (congrArg₂ (· - ·) (congrArg₂ Ideal.div ?_ rfl) rfl) rfl
  unfold sum2
  repeat' refine congrArg₂ (fun a b : EReal => a + b) ?_ ?_
  all_goals exact row_ix x k _ _ _ (by omega)

/-- Rows summed in pairs. -/
def S2v (x : FVec Ideal S2176x256 .f32) : FVec Ideal S2176x256 .f32 := addf x (dynamicRotate 0 2175#32 none x rotates_S2176x256_d0)
/-- Rows summed in fours. -/
def S4v (x : FVec Ideal S2176x256 .f32) : FVec Ideal S2176x256 .f32 := addf (S2v x) (dynamicRotate 0 2174#32 none (S2v x) rotates_S2176x256_d0)
/-- Rows summed in eights. -/
def S8v (x : FVec Ideal S2176x256 .f32) : FVec Ideal S2176x256 .f32 := addf (S4v x) (dynamicRotate 0 2172#32 none (S4v x) rotates_S2176x256_d0)
/-- Rows summed in sixteens. -/
def S16v (x : FVec Ideal S2176x256 .f32) : FVec Ideal S2176x256 .f32 := addf (S8v x) (dynamicRotate 0 2168#32 none (S8v x) rotates_S2176x256_d0)

/-- The pairs at a row. -/
theorem S2v_apply (x : FVec Ideal S2176x256 .f32) (n : Nat) (e : Fin 256) : S2v x (ix2 (rw76 n) e) = sum2 (fun n => x (ix2 (rw76 n) e)) n :=
  congrArg (fun y : EReal => (x (ix2 (rw76 n) e) : EReal) + y) (roll_at 2175#32 1 (by decide) (by decide) (by decide) x n e)
/-- The fours at a row. -/
theorem S4v_apply (x : FVec Ideal S2176x256 .f32) (n : Nat) (e : Fin 256) : S4v x (ix2 (rw76 n) e) = sum4 (fun n => x (ix2 (rw76 n) e)) n :=
  congrArg₂ (fun a b : EReal => a + b) (S2v_apply x n e) ((roll_at 2174#32 2 (by decide) (by decide) (by decide) (S2v x) n e).trans (S2v_apply x (n + 2) e))
/-- The eights at a row. -/
theorem S8v_apply (x : FVec Ideal S2176x256 .f32) (n : Nat) (e : Fin 256) : S8v x (ix2 (rw76 n) e) = sum8 (fun n => x (ix2 (rw76 n) e)) n :=
  congrArg₂ (fun a b : EReal => a + b) (S4v_apply x n e) ((roll_at 2172#32 4 (by decide) (by decide) (by decide) (S4v x) n e).trans (S4v_apply x (n + 4) e))
/-- The sixteens at a row. -/
theorem S16v_apply (x : FVec Ideal S2176x256 .f32) (n : Nat) (e : Fin 256) : S16v x (ix2 (rw76 n) e) = sum16 (fun n => x (ix2 (rw76 n) e)) n :=
  congrArg₂ (fun a b : EReal => a + b) (S8v_apply x n e) ((roll_at 2168#32 8 (by decide) (by decide) (by decide) (S8v x) n e).trans (S8v_apply x (n + 8) e))

/-- What follows the sums: the mean less the row, times the weights and the scale. -/
def tailv (s x : FVec Ideal S2176x256 .f32) (v0 : IVec S2176x1 32) (back fwd : BitVec 32) (g : FVec Ideal S1x256x256 .f32) (sc : FVec Ideal S1x256 .f32) : FVec Ideal S2176x256 .bf16 :=
  truncf .bf16 (mulf (matmul dot_S2176x256_S256x256_S2176x256_1_0_0_1_n_n none
    (truncf .bf16 (subf (divf s (broadcastTo S2176x256 (sitofp .f32 (maxsi
      (subi (minsi (broadcast S2176x1 2064#32) (maxsi (broadcast S2176x1 0#32) (addi (addi v0 (broadcast S2176x1 fwd)) (broadcast S2176x1 1#32))))
        (minsi (broadcast S2176x1 2064#32) (maxsi (broadcast S2176x1 0#32) (subi v0 (broadcast S2176x1 back)))))
      (broadcast S2176x1 1#32)) : FVec Ideal S2176x1 .f32) broadcasts_S2176x1_S2176x256)) x) bitsLt_bf16_f32)
    (truncf .bf16 (shapeCast S256x256 g shapeCasts_S1x256x256_S256x256 : FVec Ideal S256x256 .f32) bitsLt_bf16_f32) (constant S2176x256 .f32 0x00000000#32))
    (broadcastTo S2176x256 (shapeCast S1x256 sc shapeCasts_S1x256_S1x256) broadcasts_S1x256_S2176x256)) bitsLt_bf16_f32

/-- It at a row. -/
theorem tailv_apply (s x : FVec Ideal S2176x256 .f32) (v0 : IVec S2176x1 32) (back fwd : BitVec 32) (g : FVec Ideal S1x256x256 .f32) (sc : FVec Ideal S1x256 .f32) (r : Fin 2176) (d : Fin 256) :
    tailv s x v0 back fwd g sc (ix2 r d) = outv (fun k => s (ix2 r k)) (kcnt (v0 (ix2 r 0)) back fwd) (fun k => x (ix2 r k)) (fun k => g (ix3 0 k d)) (sc (ix2 0 d)) := by
  pointwise [tailv]
  rfl

/-- The rows' numbers. -/
theorem pay6_apply (r : Fin 2176) : k0_pay6 (F := Ideal) a0 a1 a2 a3 a4 a5 (ix2 r 0) = BitVec.ofNat 32 r.val := by
  pointwise [k0_pay6]

/-- The second piece of a row. -/
theorem pay3_apply (x : FVec Ideal S2176x256 .bf16) (g : FVec Ideal S1x256x256 .f32) (sc : FVec Ideal S1x256 .f32) (r : Nat) (d : Fin 256) :
    k0_pay3 (F := Ideal) (k0_pay6 (F := Ideal) a0 a1 a2 a3 a4 a5) x g sc (ix2 (rw76 r) d)
      = outv (fun k => sum4 (col x k) (r + 2175)) (kcnt (BitVec.ofNat 32 (r % 2176)) 1#32 2#32) (fun k => col x k r) (fun k => g (ix3 0 k d)) (sc (ix2 0 d)) := by
  have e : k0_pay3 (F := Ideal) (k0_pay6 (F := Ideal) a0 a1 a2 a3 a4 a5) x g sc = tailv (dynamicRotate 0 1#32 none (S4v (extf .f32 x bitsLt_bf16_f32)) rotates_S2176x256_d0) (extf .f32 x bitsLt_bf16_f32) (k0_pay6 (F := Ideal) a0 a1 a2 a3 a4 a5) 1#32 2#32 g sc := rfl
  rw [e, tailv_apply, pay6_apply]
  have hs : (fun k : Fin 256 => dynamicRotate 0 1#32 none (S4v (extf .f32 x bitsLt_bf16_f32)) rotates_S2176x256_d0 (ix2 (rw76 r) k)) = fun k => sum4 (col x k) (r + 2175) := by
    funext k
    exact (roll_at 1#32 2175 (by decide) (by decide) (by decide) _ r k).trans (S4v_apply _ (r + 2175) k)
  rw [hs]
  rfl

/-- The third piece of a row. -/
theorem pay4_apply (x : FVec Ideal S2176x256 .bf16) (g : FVec Ideal S1x256x256 .f32) (sc : FVec Ideal S1x256 .f32) (r : Nat) (d : Fin 256) :
    k0_pay4 (F := Ideal) (k0_pay6 (F := Ideal) a0 a1 a2 a3 a4 a5) x g sc (ix2 (rw76 r) d)
      = outv (fun k => sum8 (col x k) (r + 2173)) (kcnt (BitVec.ofNat 32 (r % 2176)) 3#32 4#32) (fun k => col x k r) (fun k => g (ix3 0 k d)) (sc (ix2 0 d)) := by
  have e : k0_pay4 (F := Ideal) (k0_pay6 (F := Ideal) a0 a1 a2 a3 a4 a5) x g sc = tailv (dynamicRotate 0 3#32 none (S8v (extf .f32 x bitsLt_bf16_f32)) rotates_S2176x256_d0) (extf .f32 x bitsLt_bf16_f32) (k0_pay6 (F := Ideal) a0 a1 a2 a3 a4 a5) 3#32 4#32 g sc := rfl
  rw [e, tailv_apply, pay6_apply]
  have hs : (fun k : Fin 256 => dynamicRotate 0 3#32 none (S8v (extf .f32 x bitsLt_bf16_f32)) rotates_S2176x256_d0 (ix2 (rw76 r) k)) = fun k => sum8 (col x k) (r + 2173) := by
    funext k
    exact (roll_at 3#32 2173 (by decide) (by decide) (by decide) _ r k).trans (S8v_apply _ (r + 2173) k)
  rw [hs]
  rfl

/-- The fourth piece of a row. -/
theorem pay5_apply (x : FVec Ideal S2176x256 .bf16) (g : FVec Ideal S1x256x256 .f32) (sc : FVec Ideal S1x256 .f32) (r : Nat) (d : Fin 256) :
    k0_pay1 (F := Ideal) (k0_pay5 (F := Ideal) (k0_pay6 (F := Ideal) a0 a1 a2 a3 a4 a5) x g) sc (ix2 (rw76 r) d)
      = outv (fun k => sum16 (col x k) (r + 2169)) (kcnt (BitVec.ofNat 32 (r % 2176)) 7#32 8#32) (fun k => col x k r) (fun k => g (ix3 0 k d)) (sc (ix2 0 d)) := by
  have e : k0_pay1 (F := Ideal) (k0_pay5 (F := Ideal) (k0_pay6 (F := Ideal) a0 a1 a2 a3 a4 a5) x g) sc = tailv (dynamicRotate 0 7#32 none (S16v (extf .f32 x bitsLt_bf16_f32)) rotates_S2176x256_d0) (extf .f32 x bitsLt_bf16_f32) (k0_pay6 (F := Ideal) a0 a1 a2 a3 a4 a5) 7#32 8#32 g sc := rfl
  rw [e, tailv_apply, pay6_apply]
  have hs : (fun k : Fin 256 => dynamicRotate 0 7#32 none (S16v (extf .f32 x bitsLt_bf16_f32)) rotates_S2176x256_d0 (ix2 (rw76 r) k)) = fun k => sum16 (col x k) (r + 2169) := by
    funext k
    exact (roll_at 7#32 2169 (by decide) (by decide) (by decide) _ r k).trans (S16v_apply _ (r + 2169) k)
  rw [hs]
  rfl

/-- A window of two as a sum. -/
theorem sum2_eq (f : Nat → EReal) (n : Nat) : sum2 f n = ∑ j ∈ Finset.range 2, f (n + j) := by
  unfold sum2
  simp only [Finset.sum_range_succ, Finset.sum_range_zero, zero_add, Nat.add_zero]
/-- Of four. -/
theorem sum4_eq (f : Nat → EReal) (n : Nat) : sum4 f n = ∑ j ∈ Finset.range 4, f (n + j) := by
  unfold sum4
  rw [sum2_eq, sum2_eq, show (4 : Nat) = 2 + 2 from rfl, Finset.sum_range_add]
  simp only [Nat.add_assoc]
/-- Of eight. -/
theorem sum8_eq (f : Nat → EReal) (n : Nat) : sum8 f n = ∑ j ∈ Finset.range 8, f (n + j) := by
  unfold sum8
  rw [sum4_eq, sum4_eq, show (8 : Nat) = 4 + 4 from rfl, Finset.sum_range_add]
  simp only [Nat.add_assoc]
/-- Of sixteen. -/
theorem sum16_eq (f : Nat → EReal) (n : Nat) : sum16 f n = ∑ j ∈ Finset.range 16, f (n + j) := by
  unfold sum16
  rw [sum8_eq, sum8_eq, show (16 : Nat) = 8 + 8 from rfl, Finset.sum_range_add]
  simp only [Nat.add_assoc]

open Cert.ReferencePoolIdeal.Pool in
/-- The kernel's count is the reference's at a token. -/
theorem cnt_eq : ∀ (g : Fin 4) (t : Fin 2064), kcnt (BitVec.ofNat 32 t.val) (BitVec.ofNat 32 (back g)) (BitVec.ofNat 32 (fwd g))
    = IntOp.subi (hiW (BitVec.ofNat 32 t.val) (BitVec.ofNat 32 (fwd g))) (loW (BitVec.ofNat 32 t.val) (BitVec.ofNat 32 (back g))) := by
  decide +kernel

open Cert.ReferencePoolIdeal.Pool in
/-- A piece's number at a token is the reference's, where the block holds the tokens' columns and zero past them. -/
theorem piece_eq (X0 : FVec Ideal Cert.ReferencePoolIdeal.S8704x8704 .bf16) (b g : Fin 4) (x : FVec Ideal S2176x256 .bf16)
    (hx : ∀ (n : Nat) (h : n < 2176) (k : Fin 256), x (ix2 ⟨n, h⟩ k) = qc X0 b ⟨256 * g.val + k.val, by omega⟩ n)
    (r : Nat) (hr : r < 2064) (s : Fin 256 → EReal) (K : Nat) (hK : (K + back g) % 2176 = 0) (hK' : back g ≤ 16)
    (hs : ∀ k, s k = ∑ j ∈ Finset.range (back g + fwd g + 1), col x k (r + K + j)) (hw : back g + fwd g + 1 ≤ 16) (w : Fin 256 → EReal) (sc : EReal) :
    outv s (kcnt (BitVec.ofNat 32 (r % 2176)) (BitVec.ofNat 32 (back g)) (BitVec.ofNat 32 (fwd g))) (fun k => col x k r) w sc
      = (∑ k, winv X0 b g r k * w k) * sc := by
  have hm : r % 2176 = r := Nat.mod_eq_of_lt (by omega)
  unfold outv winv
  refine congrArg (fun y : EReal => y * sc) (Finset.sum_congr rfl fun k _ => ?_)
  rw [hm, cnt_eq g ⟨r, hr⟩, hs k]
  refine congrArg (fun y : EReal => y * w k) (congrArg₂ (fun a c : EReal => a - c) (congrArg₂ Ideal.div (Finset.sum_congr rfl fun j hj => ?_) rfl) ?_)
  · rw [Finset.mem_range] at hj
    refine (hx _ (Nat.mod_lt _ (by decide)) k).trans ?_
    unfold later
    by_cases h : back g ≤ r + j
    · rw [if_pos h, show (r + K + j) % 2176 = r + j - back g by omega]
    · rw [if_neg h]
      exact qc_zero X0 b _ _ (by omega)
  · refine (hx _ (Nat.mod_lt _ (by decide)) k).trans ?_
    rw [hm]

/-- What group 0 of a block holds. -/
def g0v (x : FVec Ideal S2176x256 .bf16) (x4 : FVec Ideal S4x256x256 .f32) (x5 : FVec Ideal S1x1024 .f32) (d : Fin 256) (r : Nat) : EReal :=
  outv (fun k => sum2 (col x k) (r + 0)) (kcnt (BitVec.ofNat 32 (r % 2176)) 0#32 1#32) (fun k => col x k r) (fun k => x4 (ix3 0 k d)) (x5 (ix2 0 ⟨0 + d.val, by omega⟩))
/-- Where group 0's columns lie. -/
theorem at_0 (r : Fin 2176) (k : Fin 256) : r0_3.idx (ix2 r k : S2176x256.Idx) = (ix2 r ⟨0 + k.val, by omega⟩ : S2176x1024.Idx) := by
  funext a
  match a with
  | ⟨0, _⟩ => exact Fin.ext (by show 0 + 1 * r.val = r.val; omega)
  | ⟨1, _⟩ => exact Fin.ext (by show 0 + 1 * k.val = 0 + k.val; omega)
/-- Loading group 0's weights. -/
theorem ldw_0 (x : FVec Ideal S4x256x256 .f32) (k d : Fin 256) :
    View.ld (Val := Elt Ideal) (e' := .f32) x r0_1 (ix3 0 k d : S1x256x256.Idx) = x (ix3 0 k d) := by
  refine congrArg x (funext fun a => ?_)
  match a with
  | ⟨0, _⟩ => rfl
  | ⟨1, _⟩ => exact Fin.ext (by show 0 + 1 * k.val = k.val; omega)
  | ⟨2, _⟩ => exact Fin.ext (by show 0 + 1 * d.val = d.val; omega)
/-- Loading group 0's scale. -/
theorem lds_0 (x : FVec Ideal S1x1024 .f32) (d : Fin 256) :
    View.ld (Val := Elt Ideal) (e' := .f32) x r0_2 (ix2 0 d : S1x256.Idx) = x (ix2 0 ⟨0 + d.val, by omega⟩) := by
  refine congrArg x (funext fun a => ?_)
  match a with
  | ⟨0, _⟩ => rfl
  | ⟨1, _⟩ => exact Fin.ext (by show 0 + 1 * d.val = 0 + d.val; omega)

/-- What group 1 of a block holds. -/
def g1v (x : FVec Ideal S2176x256 .bf16) (x4 : FVec Ideal S4x256x256 .f32) (x5 : FVec Ideal S1x1024 .f32) (d : Fin 256) (r : Nat) : EReal :=
  outv (fun k => sum4 (col x k) (r + 2175)) (kcnt (BitVec.ofNat 32 (r % 2176)) 1#32 2#32) (fun k => col x k r) (fun k => x4 (ix3 1 k d)) (x5 (ix2 0 ⟨256 + d.val, by omega⟩))
/-- Where group 1's columns lie. -/
theorem at_1 (r : Fin 2176) (k : Fin 256) : r0_6.idx (ix2 r k : S2176x256.Idx) = (ix2 r ⟨256 + k.val, by omega⟩ : S2176x1024.Idx) := by
  funext a
  match a with
  | ⟨0, _⟩ => exact Fin.ext (by show 0 + 1 * r.val = r.val; omega)
  | ⟨1, _⟩ => exact Fin.ext (by show 256 + 1 * k.val = 256 + k.val; omega)
/-- Loading group 1's weights. -/
theorem ldw_1 (x : FVec Ideal S4x256x256 .f32) (k d : Fin 256) :
    View.ld (Val := Elt Ideal) (e' := .f32) x r0_4 (ix3 0 k d : S1x256x256.Idx) = x (ix3 1 k d) := by
  refine congrArg x (funext fun a => ?_)
  match a with
  | ⟨0, _⟩ => rfl
  | ⟨1, _⟩ => exact Fin.ext (by show 0 + 1 * k.val = k.val; omega)
  | ⟨2, _⟩ => exact Fin.ext (by show 0 + 1 * d.val = d.val; omega)
/-- Loading group 1's scale. -/
theorem lds_1 (x : FVec Ideal S1x1024 .f32) (d : Fin 256) :
    View.ld (Val := Elt Ideal) (e' := .f32) x r0_5 (ix2 0 d : S1x256.Idx) = x (ix2 0 ⟨256 + d.val, by omega⟩) := by
  refine congrArg x (funext fun a => ?_)
  match a with
  | ⟨0, _⟩ => rfl
  | ⟨1, _⟩ => exact Fin.ext (by show 256 + 1 * d.val = 256 + d.val; omega)

/-- What group 2 of a block holds. -/
def g2v (x : FVec Ideal S2176x256 .bf16) (x4 : FVec Ideal S4x256x256 .f32) (x5 : FVec Ideal S1x1024 .f32) (d : Fin 256) (r : Nat) : EReal :=
  outv (fun k => sum8 (col x k) (r + 2173)) (kcnt (BitVec.ofNat 32 (r % 2176)) 3#32 4#32) (fun k => col x k r) (fun k => x4 (ix3 2 k d)) (x5 (ix2 0 ⟨512 + d.val, by omega⟩))
/-- Where group 2's columns lie. -/
theorem at_2 (r : Fin 2176) (k : Fin 256) : r0_9.idx (ix2 r k : S2176x256.Idx) = (ix2 r ⟨512 + k.val, by omega⟩ : S2176x1024.Idx) := by
  funext a
  match a with
  | ⟨0, _⟩ => exact Fin.ext (by show 0 + 1 * r.val = r.val; omega)
  | ⟨1, _⟩ => exact Fin.ext (by show 512 + 1 * k.val = 512 + k.val; omega)
/-- Loading group 2's weights. -/
theorem ldw_2 (x : FVec Ideal S4x256x256 .f32) (k d : Fin 256) :
    View.ld (Val := Elt Ideal) (e' := .f32) x r0_7 (ix3 0 k d : S1x256x256.Idx) = x (ix3 2 k d) := by
  refine congrArg x (funext fun a => ?_)
  match a with
  | ⟨0, _⟩ => rfl
  | ⟨1, _⟩ => exact Fin.ext (by show 0 + 1 * k.val = k.val; omega)
  | ⟨2, _⟩ => exact Fin.ext (by show 0 + 1 * d.val = d.val; omega)
/-- Loading group 2's scale. -/
theorem lds_2 (x : FVec Ideal S1x1024 .f32) (d : Fin 256) :
    View.ld (Val := Elt Ideal) (e' := .f32) x r0_8 (ix2 0 d : S1x256.Idx) = x (ix2 0 ⟨512 + d.val, by omega⟩) := by
  refine congrArg x (funext fun a => ?_)
  match a with
  | ⟨0, _⟩ => rfl
  | ⟨1, _⟩ => exact Fin.ext (by show 512 + 1 * d.val = 512 + d.val; omega)

/-- What group 3 of a block holds. -/
def g3v (x : FVec Ideal S2176x256 .bf16) (x4 : FVec Ideal S4x256x256 .f32) (x5 : FVec Ideal S1x1024 .f32) (d : Fin 256) (r : Nat) : EReal :=
  outv (fun k => sum16 (col x k) (r + 2169)) (kcnt (BitVec.ofNat 32 (r % 2176)) 7#32 8#32) (fun k => col x k r) (fun k => x4 (ix3 3 k d)) (x5 (ix2 0 ⟨768 + d.val, by omega⟩))
/-- Where group 3's columns lie. -/
theorem at_3 (r : Fin 2176) (k : Fin 256) : r0_12.idx (ix2 r k : S2176x256.Idx) = (ix2 r ⟨768 + k.val, by omega⟩ : S2176x1024.Idx) := by
  funext a
  match a with
  | ⟨0, _⟩ => exact Fin.ext (by show 0 + 1 * r.val = r.val; omega)
  | ⟨1, _⟩ => exact Fin.ext (by show 768 + 1 * k.val = 768 + k.val; omega)
/-- Loading group 3's weights. -/
theorem ldw_3 (x : FVec Ideal S4x256x256 .f32) (k d : Fin 256) :
    View.ld (Val := Elt Ideal) (e' := .f32) x r0_10 (ix3 0 k d : S1x256x256.Idx) = x (ix3 3 k d) := by
  refine congrArg x (funext fun a => ?_)
  match a with
  | ⟨0, _⟩ => rfl
  | ⟨1, _⟩ => exact Fin.ext (by show 0 + 1 * k.val = k.val; omega)
  | ⟨2, _⟩ => exact Fin.ext (by show 0 + 1 * d.val = d.val; omega)
/-- Loading group 3's scale. -/
theorem lds_3 (x : FVec Ideal S1x1024 .f32) (d : Fin 256) :
    View.ld (Val := Elt Ideal) (e' := .f32) x r0_11 (ix2 0 d : S1x256.Idx) = x (ix2 0 ⟨768 + d.val, by omega⟩) := by
  refine congrArg x (funext fun a => ?_)
  match a with
  | ⟨0, _⟩ => rfl
  | ⟨1, _⟩ => exact Fin.ext (by show 768 + 1 * d.val = 768 + d.val; omega)

/-- One block of the result. -/
def blkv (x0 x1 x2 x3 : FVec Ideal S2176x256 .bf16) (x4 : FVec Ideal S4x256x256 .f32) (x5 : FVec Ideal S1x1024 .f32) : FVec Ideal S2176x1024 .bf16 := fun y =>
  (![g0v x0 x4 x5, g1v x1 x4 x5, g2v x2 x4 x5, g3v x3 x4 x5] : Fin 4 → Fin 256 → Nat → EReal) ⟨(y 1).val / 256, by have : (y 1).val < 1024 := (y 1).isLt; omega⟩
    ⟨(y 1).val % 256, Nat.mod_lt _ (by decide)⟩ (y 0).val

/-- A row's number round the end is itself. -/
theorem rw_self (r : Fin 2176) : rw76 r.val = r := Fin.ext (Nat.mod_eq_of_lt r.isLt)

/-- Loading a whole block. -/
theorem ld0 (x : FVec Ideal S2176x256 .bf16) : View.ld (Val := Elt Ideal) (e' := .bf16) x r0_0 = x := View.ld_unit_lit _ _ (by decide)

/-- The block's numbers at group 0's columns. -/
theorem blkv_0 (x0 x1 x2 x3 : FVec Ideal S2176x256 .bf16) (x4 : FVec Ideal S4x256x256 .f32) (x5 : FVec Ideal S1x1024 .f32) (r : Fin 2176) (k : Fin 256) :
    blkv x0 x1 x2 x3 x4 x5 (ix2 r ⟨0 + k.val, by omega⟩) = g0v x0 x4 x5 k r.val :=
  congrArg₂ (fun (g : Fin 4) (e : Fin 256) => (![g0v x0 x4 x5, g1v x1 x4 x5, g2v x2 x4 x5, g3v x3 x4 x5] : Fin 4 → Fin 256 → Nat → EReal) g e r.val)
    (Fin.ext (by show (0 + k.val) / 256 = 0; omega) : (⟨(0 + k.val) / 256, by omega⟩ : Fin 4) = 0)
    (Fin.ext (by show (0 + k.val) % 256 = k.val; omega) : (⟨(0 + k.val) % 256, Nat.mod_lt _ (by decide)⟩ : Fin 256) = k)
/-- The block's numbers at group 1's columns. -/
theorem blkv_1 (x0 x1 x2 x3 : FVec Ideal S2176x256 .bf16) (x4 : FVec Ideal S4x256x256 .f32) (x5 : FVec Ideal S1x1024 .f32) (r : Fin 2176) (k : Fin 256) :
    blkv x0 x1 x2 x3 x4 x5 (ix2 r ⟨256 + k.val, by omega⟩) = g1v x1 x4 x5 k r.val :=
  congrArg₂ (fun (g : Fin 4) (e : Fin 256) => (![g0v x0 x4 x5, g1v x1 x4 x5, g2v x2 x4 x5, g3v x3 x4 x5] : Fin 4 → Fin 256 → Nat → EReal) g e r.val)
    (Fin.ext (by show (256 + k.val) / 256 = 1; omega) : (⟨(256 + k.val) / 256, by omega⟩ : Fin 4) = 1)
    (Fin.ext (by show (256 + k.val) % 256 = k.val; omega) : (⟨(256 + k.val) % 256, Nat.mod_lt _ (by decide)⟩ : Fin 256) = k)
/-- The block's numbers at group 2's columns. -/
theorem blkv_2 (x0 x1 x2 x3 : FVec Ideal S2176x256 .bf16) (x4 : FVec Ideal S4x256x256 .f32) (x5 : FVec Ideal S1x1024 .f32) (r : Fin 2176) (k : Fin 256) :
    blkv x0 x1 x2 x3 x4 x5 (ix2 r ⟨512 + k.val, by omega⟩) = g2v x2 x4 x5 k r.val :=
  congrArg₂ (fun (g : Fin 4) (e : Fin 256) => (![g0v x0 x4 x5, g1v x1 x4 x5, g2v x2 x4 x5, g3v x3 x4 x5] : Fin 4 → Fin 256 → Nat → EReal) g e r.val)
    (Fin.ext (by show (512 + k.val) / 256 = 2; omega) : (⟨(512 + k.val) / 256, by omega⟩ : Fin 4) = 2)
    (Fin.ext (by show (512 + k.val) % 256 = k.val; omega) : (⟨(512 + k.val) % 256, Nat.mod_lt _ (by decide)⟩ : Fin 256) = k)
/-- The block's numbers at group 3's columns. -/
theorem blkv_3 (x0 x1 x2 x3 : FVec Ideal S2176x256 .bf16) (x4 : FVec Ideal S4x256x256 .f32) (x5 : FVec Ideal S1x1024 .f32) (r : Fin 2176) (k : Fin 256) :
    blkv x0 x1 x2 x3 x4 x5 (ix2 r ⟨768 + k.val, by omega⟩) = g3v x3 x4 x5 k r.val :=
  congrArg₂ (fun (g : Fin 4) (e : Fin 256) => (![g0v x0 x4 x5, g1v x1 x4 x5, g2v x2 x4 x5, g3v x3 x4 x5] : Fin 4 → Fin 256 → Nat → EReal) g e r.val)
    (Fin.ext (by show (768 + k.val) / 256 = 3; omega) : (⟨(768 + k.val) / 256, by omega⟩ : Fin 4) = 3)
    (Fin.ext (by show (768 + k.val) % 256 = k.val; omega) : (⟨(768 + k.val) % 256, Nat.mod_lt _ (by decide)⟩ : Fin 256) = k)

/-- The four pieces leave the block. -/
theorem out_eq (x0 x1 x2 x3 : FVec Ideal S2176x256 .bf16) (x4 : FVec Ideal S4x256x256 .f32) (x5 : FVec Ideal S1x1024 .f32) (y : S2176x1024.Idx) :
    out0_6 (F := Ideal) x0 x1 x2 x3 x4 x5 y = blkv x0 x1 x2 x3 x4 x5 y := by
  unfold out0_6
  refine View.canon_apply_of_pieces (Val := Elt Ideal) (e := .bf16) (blkv x0 x1 x2 x3 x4 x5) _ ?_ y (cover0_6 (F := Ideal) _ _ _ _ y)
  intro pc hpc
  rcases List.mem_cons.mp hpc with rfl | hpc
  · intro x
    obtain ⟨r, k, rfl⟩ : ∃ (r : Fin 2176) (k : Fin 256), x = (ix2 r k : S2176x256.Idx) :=
      ⟨x 0, x 1, by funext a; match a with | ⟨0, _⟩ => rfl | ⟨1, _⟩ => rfl⟩
    refine Eq.trans ?_ (congrArg (blkv x0 x1 x2 x3 x4 x5) (at_3 r k)).symm
    rw [blkv_3]
    have e := pay5_apply x0 x1 x2 x3 x4 x5 (View.ld (Val := Elt Ideal) (e' := .bf16) x3 r0_0) (View.ld (Val := Elt Ideal) (e' := .f32) x4 r0_10) (View.ld (Val := Elt Ideal) (e' := .f32) x5 r0_11) r.val k
    rw [rw_self, ld0] at e
    refine Eq.trans ?_ (e.trans ?_)
    · rw [ld0]
    · unfold g3v
      rw [lds_3, funext (fun j => ldw_3 x4 j k)]
  rcases List.mem_cons.mp hpc with rfl | hpc
  · intro x
    obtain ⟨r, k, rfl⟩ : ∃ (r : Fin 2176) (k : Fin 256), x = (ix2 r k : S2176x256.Idx) :=
      ⟨x 0, x 1, by funext a; match a with | ⟨0, _⟩ => rfl | ⟨1, _⟩ => rfl⟩
    refine Eq.trans ?_ (congrArg (blkv x0 x1 x2 x3 x4 x5) (at_2 r k)).symm
    rw [blkv_2]
    have e := pay4_apply x0 x1 x2 x3 x4 x5 (View.ld (Val := Elt Ideal) (e' := .bf16) x2 r0_0) (View.ld (Val := Elt Ideal) (e' := .f32) x4 r0_7) (View.ld (Val := Elt Ideal) (e' := .f32) x5 r0_8) r.val k
    rw [rw_self, ld0] at e
    refine Eq.trans ?_ (e.trans ?_)
    · rw [ld0]
    · unfold g2v
      rw [lds_2, funext (fun j => ldw_2 x4 j k)]
  rcases List.mem_cons.mp hpc with rfl | hpc
  · intro x
    obtain ⟨r, k, rfl⟩ : ∃ (r : Fin 2176) (k : Fin 256), x = (ix2 r k : S2176x256.Idx) :=
      ⟨x 0, x 1, by funext a; match a with | ⟨0, _⟩ => rfl | ⟨1, _⟩ => rfl⟩
    refine Eq.trans ?_ (congrArg (blkv x0 x1 x2 x3 x4 x5) (at_1 r k)).symm
    rw [blkv_1]
    have e := pay3_apply x0 x1 x2 x3 x4 x5 (View.ld (Val := Elt Ideal) (e' := .bf16) x1 r0_0) (View.ld (Val := Elt Ideal) (e' := .f32) x4 r0_4) (View.ld (Val := Elt Ideal) (e' := .f32) x5 r0_5) r.val k
    rw [rw_self, ld0] at e
    refine Eq.trans ?_ (e.trans ?_)
    · rw [ld0]
    · unfold g1v
      rw [lds_1, funext (fun j => ldw_1 x4 j k)]
  rcases List.mem_cons.mp hpc with rfl | hpc
  · intro x
    obtain ⟨r, k, rfl⟩ : ∃ (r : Fin 2176) (k : Fin 256), x = (ix2 r k : S2176x256.Idx) :=
      ⟨x 0, x 1, by funext a; match a with | ⟨0, _⟩ => rfl | ⟨1, _⟩ => rfl⟩
    refine Eq.trans ?_ (congrArg (blkv x0 x1 x2 x3 x4 x5) (at_0 r k)).symm
    rw [blkv_0]
    have e := pay2_apply (View.ld (Val := Elt Ideal) (e' := .bf16) x0 r0_0) (View.ld (Val := Elt Ideal) (e' := .f32) x4 r0_1) (View.ld (Val := Elt Ideal) (e' := .f32) x5 r0_2) r.val k
    rw [rw_self, ld0] at e
    refine Eq.trans ?_ (e.trans ?_)
    · rw [ld0]
    · unfold g0v
      rw [lds_0, funext (fun j => ldw_0 x4 j k)]
  nomatch hpc

end Cert.KernelPoolIdeal.Pool

end
-- ==== Proof.Pool.lean ====
/- Mixer C's pooling: every row of a token of the kernel's result is the reference's. -/
module

public import proofs.«01_k».proof.Proof.KerPool
public import proofs.«01_k».proof.Proof.RefPool
public import proofs.«01_k».proof.Proof.SidePool
public import proofs.«01_k».proof.Proof.AttnA

@[expose] public section

set_option maxRecDepth 16384

noncomputable section

open Idealize.ShloMosaic Idealize.ShloMosaic.TcCoe Idealize.SL.Sem

namespace Cert.KernelPoolIdeal.Pool

open Cert.KernelPoolIdeal Cert.KernelPoolIdeal.Gen Cert.AttnMath
open Cert.ReferencePoolIdeal.Pool (qc winv back fwd)

variable (m : (ℓ : Loc nD τ sig) → Buf (Elt Ideal) ℓ)

/-- The projections. -/
abbrev A0 (c : Dev nD) : FVec Ideal Cert.ReferencePoolIdeal.S8704x8704 .bf16 := m ((c : Thread nD τ).loc main_arg0)
/-- The groups' weights. -/
abbrev A1 (c : Dev nD) : FVec Ideal Cert.ReferencePoolIdeal.S4x256x256 .f32 := m ((c : Thread nD τ).loc main_arg1)
/-- The scale. -/
abbrev A2 (c : Dev nD) : FVec Ideal Cert.ReferencePoolIdeal.S1024 .f32 := m ((c : Thread nD τ).loc main_arg2)

/-- There are 4 grid points. -/
theorem tlt (t : Fin cfg0.N) : t.val < 4 := lt_of_lt_of_eq t.isLt (by decide +kernel)

/-- Which block of each array grid point `t` works on. -/
theorem idx_val : ∀ t : Fin cfg0.N, win0_0.index t = ![t.val, 18] ∧ win0_1.index t = ![t.val, 19] ∧ win0_2.index t = ![t.val, 20]
    ∧ win0_3.index t = ![t.val, 21] ∧ win0_4.index t = ![0, 0, 0] ∧ win0_5.index t = ![0, 0] ∧ win0_6.index t = ![t.val, 0] :=
  (by decide +kernel : ∀ t : Fin grid0.N, _)

/-- A block of group 0's columns. -/
theorem read_0 (c : Dev nD) (t : Fin cfg0.N) (r : Fin 2176) (d : Fin 256) : (iblk m c 0 t : FVec Ideal S2176x256 .bf16) (ix2 r d)
    = A0 m c (ix2 ⟨t.val * 2176 + r.val, by have := tlt t; omega⟩ ⟨18 * 256 + d.val, by omega⟩) := by
  blk_point [iblk, V, idx_val t]
/-- A block of group 1's columns. -/
theorem read_1 (c : Dev nD) (t : Fin cfg0.N) (r : Fin 2176) (d : Fin 256) : (iblk m c 1 t : FVec Ideal S2176x256 .bf16) (ix2 r d)
    = A0 m c (ix2 ⟨t.val * 2176 + r.val, by have := tlt t; omega⟩ ⟨19 * 256 + d.val, by omega⟩) := by
  blk_point [iblk, V, idx_val t]
/-- A block of group 2's columns. -/
theorem read_2 (c : Dev nD) (t : Fin cfg0.N) (r : Fin 2176) (d : Fin 256) : (iblk m c 2 t : FVec Ideal S2176x256 .bf16) (ix2 r d)
    = A0 m c (ix2 ⟨t.val * 2176 + r.val, by have := tlt t; omega⟩ ⟨20 * 256 + d.val, by omega⟩) := by
  blk_point [iblk, V, idx_val t]
/-- A block of group 3's columns. -/
theorem read_3 (c : Dev nD) (t : Fin cfg0.N) (r : Fin 2176) (d : Fin 256) : (iblk m c 3 t : FVec Ideal S2176x256 .bf16) (ix2 r d)
    = A0 m c (ix2 ⟨t.val * 2176 + r.val, by have := tlt t; omega⟩ ⟨21 * 256 + d.val, by omega⟩) := by
  blk_point [iblk, V, idx_val t]
/-- The weights. -/
theorem read_4 (c : Dev nD) (t : Fin cfg0.N) (g : Fin 4) (k d : Fin 256) : (iblk m c 4 t : FVec Ideal S4x256x256 .f32) (ix3 g k d) = A1 m c (ix3 g k d) := by
  blk_point [iblk, V, idx_val t]
/-- The scale as the region is entered. -/
theorem V_5 (c : Dev nD) : (V m c main_v0 : FVec Ideal S1x1024 .f32)
    = shapeCast S1x1024 (m ((c : Thread nD τ).loc main_arg2) : FVec Ideal S1024 .f32) shapeCasts_S1024_S1x1024 := by
  unfold V
  after_reads_simp
  rfl
/-- The block of the scale. -/
theorem read_5 (c : Dev nD) (t : Fin cfg0.N) (d : Fin 1024) : (iblk m c 5 t : FVec Ideal S1x1024 .f32) (ix2 0 d) = A2 m c (ix1 d) := by
  have e : (V m c main_v0 : FVec Ideal S1x1024 .f32) (ix2 0 d) = A2 m c (ix1 d) := by
    rw [V_5]
    refine (shapeCast_apply _ _ (ix2 0 d) (ix1 d) ?_).trans rfl
    rw [Shape.rowMajor_val_one, Shape.rowMajor_val_two]
    show d.val = 0 * 1024 + d.val
    omega
  rw [← e]
  blk_point [iblk, idx_val t]

/-- The columns are real at the tokens and zero at the padding rows. -/
structure Still (c : Dev nD) : Prop where
  real : ∀ b k n, IsR (qc (A0 m c) b k n)
  zero : ∀ (b : Fin 4) (n : Nat) (h : 2064 ≤ n) (h' : n < 2176) (k : Fin 1024), A0 m c (ix2 ⟨b.val * 2176 + n, by omega⟩ ⟨4608 + k.val, by omega⟩) = (0 : EReal)

/-- A number equal to zero by the host's comparison. -/
theorem zero_of_eq {x : EReal} (h : FloatOps.cmpf (F := Ideal) (φ := .f32) .oeq x (Ideal.ofBits .f32 0x00000000#32) = 1#1) : x = 0 := by
  have e : Ideal.ofBits .f32 0x00000000#32 = 0 := by simp
  rw [e] at h
  change Ideal.cmp .oeq x 0 = 1#1 at h
  by_contra hn
  simp [Ideal.cmp, hn] at h

/-- The precondition's content. -/
theorem still_of_pre [Cert.Pre_still_padding.Facts] (hp : Cert.Pre_KernelPoolIdeal_still_padding m) (c : Dev nD) : Still m c := by
  have h := congrFun (hp c) ix0
  unfold Cert.Pre_still_padding.fn at h
  obtain ⟨h1, h2⟩ := IntOp.andi_eq_one.1 (show IntOp.andi (_ : BitVec 1) _ = 1#1 from h)
  refine ⟨fun b k n => ?_, fun b n hn hn' k => ?_⟩
  · unfold qc
    split
    · next hl =>
      refine isR_of_abs ?_
      have := Host.reduce_andi_all _ _ _ _ _ h1 (ix3 b ⟨n, hl⟩ k)
      revert this
      pointwise []
      exact id
    · exact IsR.zero
  · refine zero_of_eq ?_
    have := Host.reduce_andi_all _ _ _ _ _ h2 (ix3 b ⟨n - 2064, by omega⟩ k)
    revert this
    pointwise []
    simp only [show b.val * 2176 + (2064 + (n - 2064)) = b.val * 2176 + n by omega]
    exact id

/-- The claim's mask marks only the rows of tokens. -/
theorem on_row [Cert.On_real_rows_pool.Facts] (x : FVec Ideal ⟨2, ![8704, 8704]⟩ .bf16) (y : FVec Ideal ⟨3, ![4, 256, 256]⟩ .f32) (z : FVec Ideal ⟨1, ![1024]⟩ .f32) (i : (⟨2, ![8704, 1024]⟩ : Shape).Idx)
    (h : Cert.On_real_rows_pool.fn (F := Ideal) x y z i = 1#1) : (i 0).val % 2176 < 2064 := by
  idx_vars i
  revert h
  pointwise [Cert.On_real_rows_pool.fn]
  intro h
  have e := Cert.KernelIdeal.Attn.slt_tok ⟨i0.val % 2176, by omega⟩
  by_contra hn
  rw [if_neg hn] at e
  have := e.symm.trans h
  exact absurd this (by decide)

/-- Group 0's block holds the tokens' columns, and zero past them. -/
theorem blk_0 (c : Dev nD) (hs : Still m c) (t : Fin cfg0.N) (n : Nat) (h : n < 2176) (k : Fin 256) :
    (iblk m c 0 t : FVec Ideal S2176x256 .bf16) (ix2 ⟨n, h⟩ k) = qc (A0 m c) ⟨t.val, tlt t⟩ ⟨256 * (0 : Fin 4).val + k.val, by omega⟩ n := by
  refine (read_0 m c t ⟨n, h⟩ k).trans ?_
  have e : (⟨18 * 256 + k.val, by omega⟩ : Fin 8704) = ⟨4608 + (256 * (0 : Fin 4).val + k.val), by omega⟩ := Fin.ext (by show 18 * 256 + k.val = 4608 + (256 * 0 + k.val); omega)
  rw [e]
  unfold qc
  by_cases hn : n < 2064
  · rw [dif_pos hn]
  · rw [dif_neg hn]
    exact hs.zero ⟨t.val, tlt t⟩ n (by omega) h ⟨256 * (0 : Fin 4).val + k.val, by omega⟩
/-- Group 0's numbers at a token are the reference's. -/
theorem grp_0 (c : Dev nD) (hs : Still m c) (t : Fin cfg0.N) (r : Nat) (hr : r < 2064) (d : Fin 256) (x4 : FVec Ideal S4x256x256 .f32) (x5 : FVec Ideal S1x1024 .f32) :
    g0v (iblk m c 0 t : FVec Ideal S2176x256 .bf16) x4 x5 d r = (∑ k, winv (A0 m c) ⟨t.val, tlt t⟩ 0 r k * x4 (ix3 0 k d)) * x5 (ix2 0 ⟨0 + d.val, by omega⟩) := by
  unfold g0v
  refine piece_eq (A0 m c) ⟨t.val, tlt t⟩ 0 (iblk m c 0 t : FVec Ideal S2176x256 .bf16) (blk_0 m c hs t) r hr _ 2176 (by decide) (by decide) (fun k => ?_) (by decide) _ _
  rw [sum2_eq]
  refine Finset.sum_congr rfl fun j _ => congrArg (fun i => (iblk m c 0 t : FVec Ideal S2176x256 .bf16) (ix2 i k)) (Fin.ext ?_)
  show (r + 0 + j) % 2176 = (r + 2176 + j) % 2176
  omega
/-- Group 1's block holds the tokens' columns, and zero past them. -/
theorem blk_1 (c : Dev nD) (hs : Still m c) (t : Fin cfg0.N) (n : Nat) (h : n < 2176) (k : Fin 256) :
    (iblk m c 1 t : FVec Ideal S2176x256 .bf16) (ix2 ⟨n, h⟩ k) = qc (A0 m c) ⟨t.val, tlt t⟩ ⟨256 * (1 : Fin 4).val + k.val, by omega⟩ n := by
  refine (read_1 m c t ⟨n, h⟩ k).trans ?_
  have e : (⟨19 * 256 + k.val, by omega⟩ : Fin 8704) = ⟨4608 + (256 * (1 : Fin 4).val + k.val), by omega⟩ := Fin.ext (by show 19 * 256 + k.val = 4608 + (256 * 1 + k.val); omega)
  rw [e]
  unfold qc
  by_cases hn : n < 2064
  · rw [dif_pos hn]
  · rw [dif_neg hn]
    exact hs.zero ⟨t.val, tlt t⟩ n (by omega) h ⟨256 * (1 : Fin 4).val + k.val, by omega⟩
/-- Group 1's numbers at a token are the reference's. -/
theorem grp_1 (c : Dev nD) (hs : Still m c) (t : Fin cfg0.N) (r : Nat) (hr : r < 2064) (d : Fin 256) (x4 : FVec Ideal S4x256x256 .f32) (x5 : FVec Ideal S1x1024 .f32) :
    g1v (iblk m c 1 t : FVec Ideal S2176x256 .bf16) x4 x5 d r = (∑ k, winv (A0 m c) ⟨t.val, tlt t⟩ 1 r k * x4 (ix3 1 k d)) * x5 (ix2 0 ⟨256 + d.val, by omega⟩) := by
  unfold g1v
  refine piece_eq (A0 m c) ⟨t.val, tlt t⟩ 1 (iblk m c 1 t : FVec Ideal S2176x256 .bf16) (blk_1 m c hs t) r hr _ 2175 (by decide) (by decide) (fun k => ?_) (by decide) _ _
  rw [sum4_eq]
  rfl
/-- Group 2's block holds the tokens' columns, and zero past them. -/
theorem blk_2 (c : Dev nD) (hs : Still m c) (t : Fin cfg0.N) (n : Nat) (h : n < 2176) (k : Fin 256) :
    (iblk m c 2 t : FVec Ideal S2176x256 .bf16) (ix2 ⟨n, h⟩ k) = qc (A0 m c) ⟨t.val, tlt t⟩ ⟨256 * (2 : Fin 4).val + k.val, by omega⟩ n := by
  refine (read_2 m c t ⟨n, h⟩ k).trans ?_
  have e : (⟨20 * 256 + k.val, by omega⟩ : Fin 8704) = ⟨4608 + (256 * (2 : Fin 4).val + k.val), by omega⟩ := Fin.ext (by show 20 * 256 + k.val = 4608 + (256 * 2 + k.val); omega)
  rw [e]
  unfold qc
  by_cases hn : n < 2064
  · rw [dif_pos hn]
  · rw [dif_neg hn]
    exact hs.zero ⟨t.val, tlt t⟩ n (by omega) h ⟨256 * (2 : Fin 4).val + k.val, by omega⟩
/-- Group 2's numbers at a token are the reference's. -/
theorem grp_2 (c : Dev nD) (hs : Still m c) (t : Fin cfg0.N) (r : Nat) (hr : r < 2064) (d : Fin 256) (x4 : FVec Ideal S4x256x256 .f32) (x5 : FVec Ideal S1x1024 .f32) :
    g2v (iblk m c 2 t : FVec Ideal S2176x256 .bf16) x4 x5 d r = (∑ k, winv (A0 m c) ⟨t.val, tlt t⟩ 2 r k * x4 (ix3 2 k d)) * x5 (ix2 0 ⟨512 + d.val, by omega⟩) := by
  unfold g2v
  refine piece_eq (A0 m c) ⟨t.val, tlt t⟩ 2 (iblk m c 2 t : FVec Ideal S2176x256 .bf16) (blk_2 m c hs t) r hr _ 2173 (by decide) (by decide) (fun k => ?_) (by decide) _ _
  rw [sum8_eq]
  rfl
/-- Group 3's block holds the tokens' columns, and zero past them. -/
theorem blk_3 (c : Dev nD) (hs : Still m c) (t : Fin cfg0.N) (n : Nat) (h : n < 2176) (k : Fin 256) :
    (iblk m c 3 t : FVec Ideal S2176x256 .bf16) (ix2 ⟨n, h⟩ k) = qc (A0 m c) ⟨t.val, tlt t⟩ ⟨256 * (3 : Fin 4).val + k.val, by omega⟩ n := by
  refine (read_3 m c t ⟨n, h⟩ k).trans ?_
  have e : (⟨21 * 256 + k.val, by omega⟩ : Fin 8704) = ⟨4608 + (256 * (3 : Fin 4).val + k.val), by omega⟩ := Fin.ext (by show 21 * 256 + k.val = 4608 + (256 * 3 + k.val); omega)
  rw [e]
  unfold qc
  by_cases hn : n < 2064
  · rw [dif_pos hn]
  · rw [dif_neg hn]
    exact hs.zero ⟨t.val, tlt t⟩ n (by omega) h ⟨256 * (3 : Fin 4).val + k.val, by omega⟩
/-- Group 3's numbers at a token are the reference's. -/
theorem grp_3 (c : Dev nD) (hs : Still m c) (t : Fin cfg0.N) (r : Nat) (hr : r < 2064) (d : Fin 256) (x4 : FVec Ideal S4x256x256 .f32) (x5 : FVec Ideal S1x1024 .f32) :
    g3v (iblk m c 3 t : FVec Ideal S2176x256 .bf16) x4 x5 d r = (∑ k, winv (A0 m c) ⟨t.val, tlt t⟩ 3 r k * x4 (ix3 3 k d)) * x5 (ix2 0 ⟨768 + d.val, by omega⟩) := by
  unfold g3v
  refine piece_eq (A0 m c) ⟨t.val, tlt t⟩ 3 (iblk m c 3 t : FVec Ideal S2176x256 .bf16) (blk_3 m c hs t) r hr _ 2169 (by decide) (by decide) (fun k => ?_) (by decide) _ _
  rw [sum16_eq]
  rfl
/-- Group 0's columns lie among the result's. -/
theorem lt_0 (e : Fin 256) : 0 + e.val < 1024 := by omega
/-- Group 1's columns lie among the result's. -/
theorem lt_1 (e : Fin 256) : 256 + e.val < 1024 := by omega
/-- Group 2's columns lie among the result's. -/
theorem lt_2 (e : Fin 256) : 512 + e.val < 1024 := by omega
/-- Group 3's columns lie among the result's. -/
theorem lt_3 (e : Fin 256) : 768 + e.val < 1024 := by omega

/-- A block's number at a token's row. -/
theorem blk_apply (c : Dev nD) (hs : Still m c) (t : Fin cfg0.N) (r : Fin 2176) (hr : r.val < 2064) (d : Fin 1024) :
    blkv (iblk m c 0 t) (iblk m c 1 t) (iblk m c 2 t) (iblk m c 3 t) (iblk m c 4 t) (iblk m c 5 t) (ix2 r d)
      = (∑ k, winv (A0 m c) ⟨t.val, tlt t⟩ ⟨d.val / 256, by omega⟩ r.val k * A1 m c (ix3 ⟨d.val / 256, by omega⟩ k ⟨d.val % 256, by omega⟩)) * A2 m c (ix1 d) := by
  have hg : d.val / 256 = 0 ∨ d.val / 256 = 1 ∨ d.val / 256 = 2 ∨ d.val / 256 = 3 := by omega
  rcases hg with hg | hg | hg | hg
  · obtain ⟨e, rfl⟩ : ∃ e : Fin 256, d = ⟨0 + e.val, lt_0 e⟩ := ⟨⟨d.val % 256, by omega⟩, Fin.ext (by show d.val = 0 + d.val % 256; omega)⟩
    rw [blkv_0, grp_0 m c hs t r.val hr e, read_5]
    have a : (⟨(0 + e.val) / 256, by omega⟩ : Fin 4) = 0 := Fin.ext (by show (0 + e.val) / 256 = 0; omega)
    have b : (⟨(0 + e.val) % 256, by omega⟩ : Fin 256) = e := Fin.ext (by show (0 + e.val) % 256 = e.val; omega)
    simp only [a, b, read_4]
  · obtain ⟨e, rfl⟩ : ∃ e : Fin 256, d = ⟨256 + e.val, lt_1 e⟩ := ⟨⟨d.val % 256, by omega⟩, Fin.ext (by show d.val = 256 + d.val % 256; omega)⟩
    rw [blkv_1, grp_1 m c hs t r.val hr e, read_5]
    have a : (⟨(256 + e.val) / 256, by omega⟩ : Fin 4) = 1 := Fin.ext (by show (256 + e.val) / 256 = 1; omega)
    have b : (⟨(256 + e.val) % 256, by omega⟩ : Fin 256) = e := Fin.ext (by show (256 + e.val) % 256 = e.val; omega)
    simp only [a, b, read_4]
  · obtain ⟨e, rfl⟩ : ∃ e : Fin 256, d = ⟨512 + e.val, lt_2 e⟩ := ⟨⟨d.val % 256, by omega⟩, Fin.ext (by show d.val = 512 + d.val % 256; omega)⟩
    rw [blkv_2, grp_2 m c hs t r.val hr e, read_5]
    have a : (⟨(512 + e.val) / 256, by omega⟩ : Fin 4) = 2 := Fin.ext (by show (512 + e.val) / 256 = 2; omega)
    have b : (⟨(512 + e.val) % 256, by omega⟩ : Fin 256) = e := Fin.ext (by show (512 + e.val) % 256 = e.val; omega)
    simp only [a, b, read_4]
  · obtain ⟨e, rfl⟩ : ∃ e : Fin 256, d = ⟨768 + e.val, lt_3 e⟩ := ⟨⟨d.val % 256, by omega⟩, Fin.ext (by show d.val = 768 + d.val % 256; omega)⟩
    rw [blkv_3, grp_3 m c hs t r.val hr e, read_5]
    have a : (⟨(768 + e.val) / 256, by omega⟩ : Fin 4) = 3 := Fin.ext (by show (768 + e.val) / 256 = 3; omega)
    have b : (⟨(768 + e.val) % 256, by omega⟩ : Fin 256) = e := Fin.ext (by show (768 + e.val) % 256 = e.val; omega)
    simp only [a, b, read_4]

/-- A block's number at a token's row is the reference's there. -/
theorem row_eq (c : Dev nD) (hs : Still m c) (t : Fin cfg0.N) (r : Fin 2176) (d : Fin 1024) (ht : t.val < 4) (h : (t.val * 2176 + r.val) % 2176 < 2064) :
    blkv (iblk m c 0 t) (iblk m c 1 t) (iblk m c 2 t) (iblk m c 3 t) (iblk m c 4 t) (iblk m c 5 t) (ix2 r d)
      = (Cert.ReferencePoolIdeal.Read.val_main_v144 (F := Ideal) (A0 m c) (A1 m c) (A2 m c) : FVec Ideal Cert.ReferencePoolIdeal.S8704x1024 .bf16) (ix2 ⟨t.val * 2176 + r.val, by omega⟩ d) := by
  have hr : r.val < 2064 := by omega
  refine (blk_apply m c hs t r hr d).trans (Eq.trans ?_ (Cert.ReferencePoolIdeal.Pool.ref_at (A0 m c) hs.real (A1 m c) (A2 m c) ⟨t.val * 2176 + r.val, by omega⟩ d h).symm)
  have a1 : (⟨(t.val * 2176 + r.val) / 2176, by omega⟩ : Fin 4) = ⟨t.val, ht⟩ := Fin.ext (by show (t.val * 2176 + r.val) / 2176 = t.val; omega)
  have a2 : (t.val * 2176 + r.val) % 2176 = r.val := by omega
  simp only [a1, a2]

/-- The same as an implication. -/
theorem row_imp (c : Dev nD) (hs : Still m c) (t : Fin cfg0.N) (r : Fin 2176) (d : Fin 1024) (ht : t.val < 4) :
    (t.val * 2176 + r.val) % 2176 < 2064 →
    blkv (iblk m c 0 t) (iblk m c 1 t) (iblk m c 2 t) (iblk m c 3 t) (iblk m c 4 t) (iblk m c 5 t) (ix2 r d)
      = (Cert.ReferencePoolIdeal.Read.val_main_v144 (F := Ideal) (A0 m c) (A1 m c) (A2 m c) : FVec Ideal Cert.ReferencePoolIdeal.S8704x1024 .bf16) (ix2 ⟨t.val * 2176 + r.val, by omega⟩ d) :=
  row_eq m c hs t r d ht

/-- Every row of a token of the kernel's result is the reference's. -/
theorem final (c : Dev nD) (hs : Still m c) (i : (⟨2, ![8704, 1024]⟩ : Shape).Idx) :
    (i 0).val % 2176 < 2064 → (dats m 0 c).arrAt 6 (cfgs 0).N i = Cert.ReferencePoolIdeal.Read.val_main_v144 (F := Ideal) (A0 m c) (A1 m c) (A2 m c) i := by
  refine (dats m 0 c).arrAt_forall_of_covers 6 (fun (i : (⟨2, ![8704, 1024]⟩ : Shape).Idx) v => (i 0).val % 2176 < 2064 → v = Cert.ReferencePoolIdeal.Read.val_main_v144 (F := Ideal) (A0 m c) (A1 m c) (A2 m c) i)
    (by decide +kernel) (fun t hf y => ?_) i
  blk_simp
  rw [after0_6, out_eq]
  obtain ⟨r, d, rfl⟩ : ∃ (r : Fin 2176) (d : Fin 1024), y = (ix2 r d : S2176x1024.Idx) :=
    ⟨y 0, y 1, by funext a; match a with | ⟨0, _⟩ => rfl | ⟨1, _⟩ => rfl⟩
  have ht := tlt t
  have hi := (idx_val t).2.2.2.2.2.2
  have he : (win0_6.blk t).view.emb (ix2 r d : S2176x1024.Idx)
      = (ix2 ⟨t.val * 2176 + r.val, by omega⟩ d : (⟨2, ![8704, 1024]⟩ : Shape).Idx) := by
    funext a
    match a with
    | ⟨0, _⟩ => exact Fin.ext (by blk_simp; rw [hi]; rfl)
    | ⟨1, _⟩ => exact Fin.ext (by blk_simp; rw [hi]; simp)
  rw [he]
  have hr := row_imp m c hs t r d ht
  generalize hG : (Cert.ReferencePoolIdeal.Read.val_main_v144 (F := Ideal) (A0 m c) (A1 m c) (A2 m c) : FVec Ideal Cert.ReferencePoolIdeal.S8704x1024 .bf16) = G at hr ⊢
  generalize hB : blkv (iblk m c 0 t) (iblk m c 1 t) (iblk m c 2 t) (iblk m c 3 t) (iblk m c 4 t) (iblk m c 5 t) = B at hr ⊢
  rw [hi]
  exact hr

/-- The claim: at the rows of tokens the run of the kernel and the run of the reference leave the same numbers, where the columns are real at the tokens and
    zero at the padding rows. -/
theorem alg [Cert.Pre_still_padding.Facts] [Cert.On_real_rows_pool.Facts] : Cert.algebraic_KernelPoolIdeal_ReferencePoolIdeal_on_real_rows_pool_pre_still_padding
    (hKernelPoolIdeal := Cert.KernelPoolIdeal.Gen.facts) (hReferencePoolIdeal := Cert.ReferencePoolIdeal.Gen.facts) := by
  intro m g m' g' hp h
  refine ⟨fun c => Cert.ReferencePoolIdeal.Read.val_main_v144 (F := Ideal) (A0 m c) (A1 m c) (A2 m c), ?_, ?_⟩
  · exact (θ_run defs _ _).mono (fun r h c => ⟨fun i hi => (congrFun (h c).1 i).trans
      (final m c (still_of_pre m hp c) i (on_row _ _ _ i hi)), (h c).2⟩) (Value.run_blocks m g)
  · refine (θ_run Cert.ReferencePoolIdeal.defs _ _).mono (fun r h' c => ⟨fun i _ => (congrFun ((h' c).1.trans (Cert.ReferencePoolIdeal.Read.val_main_v144_eq (F := Ideal) (StableHlo.launchContents m' c))) i).trans ?_, (h' c).2⟩)
      (Cert.ReferencePoolIdeal.Value.run m' g')
    show Cert.ReferencePoolIdeal.Read.val_main_v144 (F := Ideal) (m' ((c.tc : Thread Cert.ReferencePoolIdeal.nD Cert.ReferencePoolIdeal.τ).loc Cert.ReferencePoolIdeal.main_arg0))
      (m' ((c.tc : Thread Cert.ReferencePoolIdeal.nD Cert.ReferencePoolIdeal.τ).loc Cert.ReferencePoolIdeal.main_arg1))
      (m' ((c.tc : Thread Cert.ReferencePoolIdeal.nD Cert.ReferencePoolIdeal.τ).loc Cert.ReferencePoolIdeal.main_arg2)) i = _
    rw [(h c).1, (h c).2.1, (h c).2.2]

end Cert.KernelPoolIdeal.Pool

end
-- ==== Proof.lean ====
/- The proof of the claims: the calls run and leave every argument unchanged, and the results agree with the references. -/
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelDIdeal.Value
public import proofs.«01_k».proof.Proof.Gen.ReferenceDIdeal.Run
public import proofs.«01_k».proof.Proof.Gen.ReferenceDIdeal.Read
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.Gen.KernelGateIdeal.Value
public import proofs.«01_k».proof.Proof.Gen.ReferenceGateIdeal.Run
public import proofs.«01_k».proof.Proof.Gen.ReferenceGateIdeal.Read
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Gen.KernelNormIdeal.Value
public import proofs.«01_k».proof.Proof.Gen.ReferenceNormIdeal.Run
public import proofs.«01_k».proof.Proof.Gen.ReferenceNormIdeal.Read
public import proofs.«01_k».proof.Proof.Gen.KernelMixIdeal.Value
public import proofs.«01_k».proof.Proof.Gen.ReferenceMixIdeal.Run
public import proofs.«01_k».proof.Proof.Gen.ReferenceMixIdeal.Read
public import proofs.«01_k».proof.Proof.Gen.KernelPoolIdeal.Value
public import proofs.«01_k».proof.Proof.Gen.ReferencePoolIdeal.Run
public import proofs.«01_k».proof.Proof.Gen.ReferencePoolIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelD
public import proofs.«01_k».proof.Proof.Gen.KernelD.Skeleton
public import proofs.«01_k».proof.Proof.Gen.KernelD.Launch
public import proofs.«01_k».proof.Proof.Gen.KernelD.Points
public import proofs.«01_k».proof.Proof.Gen.KernelD.Frame
public import proofs.«01_k».proof.Proof.Gen.KernelDIdeal
public import proofs.«01_k».proof.Proof.Gen.KernelDIdeal.Skeleton
public import proofs.«01_k».proof.Proof.Gen.KernelDIdeal.Launch
public import proofs.«01_k».proof.Proof.Gen.KernelDIdeal.Points
public import proofs.«01_k».proof.Proof.Gen.KernelDIdeal.Frame
public import proofs.«01_k».proof.Proof.Gen.ReferenceDIdeal
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.KernelGate
public import proofs.«01_k».proof.Proof.Gen.KernelGate.Skeleton
public import proofs.«01_k».proof.Proof.Gen.KernelGate.Launch
public import proofs.«01_k».proof.Proof.Gen.KernelGate.Points
public import proofs.«01_k».proof.Proof.Gen.KernelGate.Frame
public import proofs.«01_k».proof.Proof.Gen.KernelGateIdeal
public import proofs.«01_k».proof.Proof.Gen.KernelGateIdeal.Skeleton
public import proofs.«01_k».proof.Proof.Gen.KernelGateIdeal.Launch
public import proofs.«01_k».proof.Proof.Gen.KernelGateIdeal.Points
public import proofs.«01_k».proof.Proof.Gen.KernelGateIdeal.Frame
public import proofs.«01_k».proof.Proof.Gen.ReferenceGateIdeal
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.ReferenceNormIdeal
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.ReferenceMixIdeal
public import proofs.«01_k».proof.Proof.Gen.KernelPool
public import proofs.«01_k».proof.Proof.Gen.KernelPool.Skeleton
public import proofs.«01_k».proof.Proof.Gen.KernelPool.Launch
public import proofs.«01_k».proof.Proof.Gen.KernelPool.Points
public import proofs.«01_k».proof.Proof.Gen.KernelPool.Frame
public import proofs.«01_k».proof.Proof.Gen.KernelPoolIdeal
public import proofs.«01_k».proof.Proof.Gen.KernelPoolIdeal.Skeleton
public import proofs.«01_k».proof.Proof.Gen.KernelPoolIdeal.Launch
public import proofs.«01_k».proof.Proof.Gen.KernelPoolIdeal.Points
public import proofs.«01_k».proof.Proof.Gen.KernelPoolIdeal.Frame
public import proofs.«01_k».proof.Proof.Gen.ReferencePoolIdeal
public import proofs.«01_k».proof.Proof.Side
public import proofs.«01_k».proof.Proof.SideD
public import proofs.«01_k».proof.Proof.SidePool
public import proofs.«01_k».proof.Proof.AttnA
public import proofs.«01_k».proof.Proof.AttnD
public import proofs.«01_k».proof.Proof.In
public import proofs.«01_k».proof.Proof.Gate
public import proofs.«01_k».proof.Proof.Out
public import proofs.«01_k».proof.Proof.Norm
public import proofs.«01_k».proof.Proof.Mix
public import proofs.«01_k».proof.Proof.Pool
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.KernelD.Gen.facts, Cert.KernelDIdeal.Gen.facts, Cert.ReferenceDIdeal.Gen.facts, Cert.KernelIn.Gen.facts, Cert.KernelInIdeal.Gen.facts, Cert.ReferenceInIdeal.Gen.facts, Cert.KernelGate.Gen.facts, Cert.KernelGateIdeal.Gen.facts, Cert.ReferenceGateIdeal.Gen.facts, Cert.KernelOut.Gen.facts, Cert.KernelOutIdeal.Gen.facts, Cert.ReferenceOutIdeal.Gen.facts, Cert.KernelNorm.Gen.facts, Cert.KernelNormIdeal.Gen.facts, Cert.ReferenceNormIdeal.Gen.facts, Cert.KernelMix.Gen.facts, Cert.KernelMixIdeal.Gen.facts, Cert.ReferenceMixIdeal.Gen.facts, Cert.KernelPool.Gen.facts, Cert.KernelPoolIdeal.Gen.facts, Cert.ReferencePoolIdeal.Gen.facts, Cert.Pre_finite_gains.Gen.facts, Cert.Pre_finite_d.Gen.facts, Cert.Pre_still_padding.Gen.facts, Cert.On_real_rows.Gen.facts, Cert.On_real_rows_d.Gen.facts, Cert.On_real_rows_pool.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2, sem_eq_zero_of_no_sems (by decide) r.2⟩) (Cert.ReferenceIdeal.Value.run m ρ),
  fun m ρ _ => (θ_run _ _ _).mono (fun r h => ⟨fun c => (h c).2, sem_eq_zero_of_no_sems (by decide) r.2⟩) (Cert.ReferenceIdeal.Value.run m ρ),
  fun m ρ _ => Cert.KernelD.Gen.frame m ρ,
  fun m ρ _ => Cert.KernelDIdeal.Gen.frame m ρ,
  fun m ρ _ => Cert.KernelDIdeal.Gen.frame m ρ,
  fun m ρ _ => (θ_run _ _ _).mono (fun r h => ⟨fun c => (h c).2, sem_eq_zero_of_no_sems (by decide) r.2⟩) (Cert.ReferenceDIdeal.Value.run m ρ),
  fun m ρ _ => (θ_run _ _ _).mono (fun r h => ⟨fun c => (h c).2, sem_eq_zero_of_no_sems (by decide) r.2⟩) (Cert.ReferenceDIdeal.Value.run m ρ),
  fun m ρ _ => Cert.KernelIn.Gen.frame m ρ,
  fun m ρ _ => Cert.KernelInIdeal.Gen.frame m ρ,
  fun m ρ _ => (θ_run _ _ _).mono (fun r h => ⟨fun c => (h c).2, sem_eq_zero_of_no_sems (by decide) r.2⟩) (Cert.ReferenceInIdeal.Value.run m ρ),
  fun m ρ _ => Cert.KernelGate.Gen.frame m ρ,
  fun m ρ _ => Cert.KernelGateIdeal.Gen.frame m ρ,
  fun m ρ _ => (θ_run _ _ _).mono (fun r h => ⟨fun c => (h c).2, sem_eq_zero_of_no_sems (by decide) r.2⟩) (Cert.ReferenceGateIdeal.Value.run m ρ),
  fun m ρ _ => Cert.KernelOut.Gen.frame m ρ,
  fun m ρ _ => Cert.KernelOutIdeal.Gen.frame m ρ,
  fun m ρ _ => (θ_run _ _ _).mono (fun r h => ⟨fun c => (h c).2, sem_eq_zero_of_no_sems (by decide) r.2⟩) (Cert.ReferenceOutIdeal.Value.run m ρ),
  fun m ρ _ => Cert.KernelNorm.Gen.frame m ρ,
  fun m ρ _ => Cert.KernelNormIdeal.Gen.frame m ρ,
  fun m ρ _ => (θ_run _ _ _).mono (fun r h => ⟨fun c => (h c).2, sem_eq_zero_of_no_sems (by decide) r.2⟩) (Cert.ReferenceNormIdeal.Value.run m ρ),
  fun m ρ _ => Cert.KernelMix.Gen.frame m ρ,
  fun m ρ _ => Cert.KernelMixIdeal.Gen.frame m ρ,
  fun m ρ _ => (θ_run _ _ _).mono (fun r h => ⟨fun c => (h c).2, sem_eq_zero_of_no_sems (by decide) r.2⟩) (Cert.ReferenceMixIdeal.Value.run m ρ),
  fun m ρ _ => Cert.KernelPool.Gen.frame m ρ,
  fun m ρ _ => Cert.KernelPoolIdeal.Gen.frame m ρ,
  fun m ρ _ => Cert.KernelPoolIdeal.Gen.frame m ρ,
  fun m ρ _ => (θ_run _ _ _).mono (fun r h => ⟨fun c => (h c).2, sem_eq_zero_of_no_sems (by decide) r.2⟩) (Cert.ReferencePoolIdeal.Value.run m ρ),
  fun m ρ _ => (θ_run _ _ _).mono (fun r h => ⟨fun c => (h c).2, sem_eq_zero_of_no_sems (by decide) r.2⟩) (Cert.ReferencePoolIdeal.Value.run m ρ),
  IdealRules.named_const.statement Cert.KernelIdeal.κ "masked" .f32 0xF149F2CA#32 ⊥ rfl,
  Cert.KernelIdeal.Attn.alg,
  IdealRules.named_const.statement Cert.KernelDIdeal.κ "masked" .f32 0xF149F2CA#32 ⊥ rfl,
  Cert.KernelDIdeal.Attn.alg,
  trivial,
  Cert.KernelInIdeal.Proj.alg,
  trivial,
  Cert.KernelGateIdeal.Proj.alg,
  trivial,
  Cert.KernelOutIdeal.Proj.alg,
  trivial,
  Cert.KernelNormIdeal.Proj.alg,
  trivial,
  Cert.KernelMixIdeal.Proj.alg,
  trivial,
  Cert.KernelPoolIdeal.Pool.alg⟩

end Cert.Proof

end
